-- ==== Defs.lean ====
def Pre_Kernel [hPre_trips_in_range : Cert.Pre_trips_in_range.Facts] (m : (ℓ : Loc Cert.Kernel.nD Cert.Kernel.τ Cert.Kernel.sig) → Buf (Elt Bits) ℓ) : Prop :=
  ∀ c : Dev Cert.Kernel.nD,
    (Cert.Pre_trips_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_trips_in_range : Cert.Pre_trips_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_trips_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_trips_in_range : Cert.Pre_trips_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_trips_in_range : Cert.Pre_trips_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_trips_in_range : Cert.Pre_trips_in_range.Facts) (hPre_finite_inputs : Cert.Pre_finite_inputs.Facts),
    quiescent_Kernel (hKernel := hKernel) (hPre_trips_in_range := hPre_trips_in_range)
    ∧ quiescent_KernelIdeal (hKernelIdeal := hKernelIdeal) (hPre_trips_in_range := hPre_trips_in_range)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S512 : Shape := ⟨1, ![512]⟩
abbrev S16384x2048 : Shape := ⟨2, ![16384, 2048]⟩
abbrev S16x32 : Shape := ⟨2, ![16, 32]⟩
abbrev S_ : Shape := ⟨0, ![]⟩
abbrev S32 : Shape := ⟨1, ![32]⟩
abbrev S1x32 : Shape := ⟨2, ![1, 32]⟩
abbrev S16384x16x128 : Shape := ⟨3, ![16384, 16, 128]⟩
abbrev S16384x16x1 : Shape := ⟨3, ![16384, 16, 1]⟩
abbrev S16384x16 : Shape := ⟨2, ![16384, 16]⟩

class Facts : Prop where
  shapeCasts_S512_S16x32 : S512.ShapeCasts S16x32
  bcast_S_S16x32 : S_.BroadcastsInDim S16x32 (![] : Fin 0 → Fin S16x32.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  reducesTo_S16x32_S_d0_1 : S16x32.ReducesTo [0, 1] S_
  h_S_ : 0 < S_.numel
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  shapeCasts_S16384x2048_S16384x16x128 : S16384x2048.ShapeCasts S16384x16x128
  slices_S16384x16x128_S16384x16x1_0_0_64 : S16384x16x128.Slices ![0, 0, 64] S16384x16x1
  shapeCasts_S16384x16x1_S16384x16 : S16384x16x1.ShapeCasts S16384x16
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_arg3 : FVec F S16384x2048 .bf16) (main_v14 : IVec S_ 1) (main_v18 : IVec S16384x2048 1) : IVec S_ 1 :=
  let main_c_3 : IVec S_ 1 := constantI S_ 1 1#1
  let main_v19 : IVec S_ 1 := (fun x v => Host.reduce IntOp.andi x v reducesTo_S16384x2048_S_d0_1 h_S_) main_v18 main_c_3
  let main_v20 : IVec S_ 1 := andi main_v14 main_v19
  let main_v21 : FVec F S16384x16x128 .bf16 := shapeCast S16384x16x128 main_arg3 shapeCasts_S16384x2048_S16384x16x128
  let main_v22 : FVec F S16384x16x1 .bf16 := (extractStridedSlice S16384x16x1 ![0, 0, 64] · slices_S16384x16x128_S16384x16x1_0_0_64) main_v21
  let main_v23 : FVec F S16384x16 .bf16 := shapeCast S16384x16 main_v22 shapeCasts_S16384x16x1_S16384x16
  let main_v24 : FVec F S16384x16 .f32 := (extf .f32 · bitsLt_bf16_f32) main_v23
  let main_cst_4 : FVec F S_ .f32 := constant S_ .f32 0x3F800000#32
  let main_v25 : FVec F S16384x16 .f32 := broadcastInDim S16384x16 ![] bcast_S_S16384x16 main_cst_4
  let main_v26 : IVec S16384x16 1 := cmpf .oeq main_v24 main_v25
  let main_c_5 : IVec S_ 1 := constantI S_ 1 1#1
  let main_v27 : IVec S_ 1 := (fun x v => Host.reduce IntOp.andi x v reducesTo_S16384x16_S_d0_1 h_S_) main_v26 main_c_5
  let main_v28 : IVec S_ 1 := andi main_v20 main_v27
  main_v28

def fn {F : FTy → Type} [FloatOps F] (main_arg0 : IVec S512 32) (main_arg1 : FVec F S16384x2048 .bf16) (main_arg2 : FVec F S16384x2048 .bf16) (main_arg3 : FVec F S16384x2048 .bf16) : IVec S_ 1 :=
  let main_v0 : IVec S16x32 32 := shapeCast S16x32 main_arg0 shapeCasts_S512_S16x32
  let main_c : IVec S_ 32 := constantI S_ 32 0#32
  let main_v1 : IVec S16x32 32 := broadcastInDim S16x32 ![] bcast_S_S16x32 main_c
  let main_v2 : IVec S16x32 1 := cmpi .sge main_v0 main_v1
  let main_v3 : IVec S32 32 := iotaInDim S32 32 0
  let main_v4 : IVec S1x32 32 := broadcastInDim S1x32 ![1] bcast_S32_S1x32_1 main_v3
  let main_v5 : IVec S16x32 32 := broadcastInDim S16x32 ![0, 1] bcast_S1x32_S16x32_0_1 main_v4
  let main_v6 : IVec S16x32 1 := cmpi .sle main_v0 main_v5
  let main_v7 : IVec S16x32 1 := andi main_v2 main_v6
  let main_c_0 : IVec S_ 1 := constantI S_ 1 1#1
  let main_v8 : IVec S_ 1 := (fun x v => Host.reduce IntOp.andi x v reducesTo_S16x32_S_d0_1 h_S_) main_v7 main_c_0
  let main_v9 : FVec F S16384x2048 .f32 := (extf .f32 · bitsLt_bf16_f32) main_arg1
  let main_v10 : FVec F S16384x2048 .f32 := Host.absf main_v9
  let main_cst : FVec F S_ .f32 := constant S_ .f32 0x7F800000#32
  let main_v11 : FVec F S16384x2048 .f32 := broadcastInDim S16384x2048 ![] bcast_S_S16384x2048 main_cst
  let main_v12 : IVec S16384x2048 1 := cmpf .olt main_v10 main_v11
  let main_c_1 : IVec S_ 1 := constantI S_ 1 1#1
  let main_v13 : IVec S_ 1 := (fun x v => Host.reduce IntOp.andi x v reducesTo_S16384x2048_S_d0_1 h_S_) main_v12 main_c_1
  let main_v14 : IVec S_ 1 := andi main_v8 main_v13
  let main_v15 : FVec F S16384x2048 .f32 := (extf .f32 · bitsLt_bf16_f32) main_arg2
  let main_v16 : FVec F S16384x2048 .f32 := Host.absf main_v15
  let main_cst_2 : FVec F S_ .f32 := constant S_ .f32 0x7F800000#32
  let main_v17 : FVec F S16384x2048 .f32 := broadcastInDim S16384x2048 ![] bcast_S_S16384x2048 main_cst_2
  let main_v18 : IVec S16384x2048 1 := cmpf .olt main_v16 main_v17
  fn_part1 (F := F) main_arg3 main_v14 main_v18
-- ==== Pre_trips_in_range.lean ====
abbrev S512 : Shape := ⟨1, ![512]⟩
abbrev S16384x2048 : Shape := ⟨2, ![16384, 2048]⟩
abbrev S16x32 : Shape := ⟨2, ![16, 32]⟩
abbrev S_ : Shape := ⟨0, ![]⟩
abbrev S32 : Shape := ⟨1, ![32]⟩
abbrev S1x32 : Shape := ⟨2, ![1, 32]⟩

class Facts : Prop where
  shapeCasts_S512_S16x32 : S512.ShapeCasts S16x32
  bcast_S_S16x32 : S_.BroadcastsInDim S16x32 (![] : Fin 0 → Fin S16x32.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)

variable [Facts]

def fn {F : FTy → Type} [FloatOps F] (main_arg0 : IVec S512 32) (main_arg1 : FVec F S16384x2048 .bf16) (main_arg2 : FVec F S16384x2048 .bf16) (main_arg3 : FVec F S16384x2048 .bf16) : IVec S16x32 1 :=
  let main_v0 : IVec S16x32 32 := shapeCast S16x32 main_arg0 shapeCasts_S512_S16x32
  let main_c : IVec S_ 32 := constantI S_ 32 0#32
  let main_v1 : IVec S16x32 32 := broadcastInDim S16x32 ![] bcast_S_S16x32 main_c
  let main_v2 : IVec S16x32 1 := cmpi .sge main_v0 main_v1
  let main_v3 : IVec S32 32 := iotaInDim S32 32 0
  let main_v4 : IVec S1x32 32 := broadcastInDim S1x32 ![1] bcast_S32_S1x32_1 main_v3
  let main_v5 : IVec S16x32 32 := broadcastInDim S16x32 ![0, 1] bcast_S1x32_S16x32_0_1 main_v4
  let main_v6 : IVec S16x32 1 := cmpi .sle main_v0 main_v5
  let main_v7 : IVec S16x32 1 := andi main_v2 main_v6
  main_v7
-- ==== Kernel.lean ====
abbrev S512 : Shape := ⟨1, ![512]⟩
abbrev S16384x2048 : Shape := ⟨2, ![16384, 2048]⟩
abbrev S16384x1024 : Shape := ⟨2, ![16384, 1024]⟩
abbrev S512x256 : Shape := ⟨2, ![512, 256]⟩
abbrev S16384x256 : Shape := ⟨2, ![16384, 256]⟩
abbrev S512x128 : Shape := ⟨2, ![512, 128]⟩
abbrev S512x512 : Shape := ⟨2, ![512, 512]⟩
abbrev S1 : Shape := ⟨1, ![1]⟩
abbrev S512x1 : Shape := ⟨2, ![512, 1]⟩
abbrev S256x128 : Shape := ⟨2, ![256, 128]⟩
abbrev S512x64 : Shape := ⟨2, ![512, 64]⟩

abbrev nBuf : Space → Nat
  | .hbm => 4
  | .vmem => 8
  | .smem => 1
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S512x128, .f32⟩
  | .local _ .vmem, ⟨7, _⟩ => ⟨S512x128, .f32⟩
  | .local _ .smem, ⟨0, _⟩ => ⟨S512, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c2_i32 : BitVec 32 := 2#32
  let arg0 : BitVec 32 := BitVec.ofNat 32 (i 0).val
  let v5 : BitVec 32 := Scalar.muli c2_i32 arg0
  let v6 : BitVec 32 := Scalar.addi v5 c0_i32
  let c32_i32 : BitVec 32 := 32#32
  let v7 : BitVec 32 := Scalar.muli v6 c32_i32
  let arg1 : BitVec 32 := BitVec.ofNat 32 (i 1).val
  let v8 : BitVec 32 := Scalar.addi v7 arg1
  let v9 : Index := Scalar.indexCast v8
  ![v9.toNat]
def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off2 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_5 : Index := 0#32
  ![v21.toNat, 0]
def k0_off3 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v41 : Index := Scalar.indexCast v20
  let c128_11 : Index := 128#32
  ![v41.toNat, 128]
@[reducible] def k0_t1_loop (v10 : BitVec 32) (v16 : BitVec 32) : Scf.Loop 32 :=
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_19 : BitVec 32 := 1#32
  ⟨c0_i32_17, v66, c1_i32_19⟩

def k0_mult2 (i : grid0.Coords) (v10 : BitVec 32) (v16 : BitVec 32) (k0_t1 : Fin (k0_t1_loop v10 v16).trips) : BitVec 32 :=
  let arg1 : BitVec 32 := BitVec.ofNat 32 (i 1).val
  let c1_i32_29 : BitVec 32 := 1#32
  let v93 : BitVec 32 := Scalar.subi arg1 c1_i32_29
  let c0_i32_17 : BitVec 32 := 0#32
  let c1_i32_19 : BitVec 32 := 1#32
  let arg7 : BitVec 32 := Scf.iv c0_i32_17 c1_i32_19 k0_t1
  let v94 : BitVec 32 := Scalar.subi v93 arg7
  let c512_i32_30 : BitVec 32 := 512#32
  let v95 : BitVec 32 := Scalar.muli v94 c512_i32_30
  let c0_i32_31 : BitVec 32 := 0#32
  let v96 : BitVec 32 := Scalar.addi v95 c0_i32_31
  v96
def k0_off4 (i : grid0.Coords) (v10 : BitVec 32) (v16 : BitVec 32) (k0_t1 : Fin (k0_t1_loop v10 v16).trips) (c0_i32_31 : BitVec 32) : Fin 2 → Nat :=
  let arg1 : BitVec 32 := BitVec.ofNat 32 (i 1).val
  let c1_i32_29 : BitVec 32 := 1#32
  let v93 : BitVec 32 := Scalar.subi arg1 c1_i32_29
  let c0_i32_17 : BitVec 32 := 0#32
  let c1_i32_19 : BitVec 32 := 1#32
  let arg7 : BitVec 32 := Scf.iv c0_i32_17 c1_i32_19 k0_t1
  let v94 : BitVec 32 := Scalar.subi v93 arg7
  let c512_i32_30 : BitVec 32 := 512#32
  let v95 : BitVec 32 := Scalar.muli v94 c512_i32_30
  let v96 : BitVec 32 := Scalar.addi v95 c0_i32_31
  let v97 : BitVec 32 := v96
  let v98 : Index := Scalar.indexCast v97
  let c0_32 : Index := 0#32
  ![v98.toNat, 0]
def k0_mult3 (i : grid0.Coords) (v10 : BitVec 32) (v16 : BitVec 32) (k0_t1 : Fin (k0_t1_loop v10 v16).trips) : BitVec 32 :=
  let arg1 : BitVec 32 := BitVec.ofNat 32 (i 1).val
  let c1_i32_29 : BitVec 32 := 1#32
  let v93 : BitVec 32 := Scalar.subi arg1 c1_i32_29
  let c0_i32_17 : BitVec 32 := 0#32
  let c1_i32_19 : BitVec 32 := 1#32
  let arg7 : BitVec 32 := Scf.iv c0_i32_17 c1_i32_19 k0_t1
  let v94 : BitVec 32 := Scalar.subi v93 arg7
  let c512_i32_37 : BitVec 32 := 512#32
  let v116 : BitVec 32 := Scalar.muli v94 c512_i32_37
  let c256_i32 : BitVec 32 := 256#32
  let v117 : BitVec 32 := Scalar.addi v116 c256_i32
  v117
def k0_mult4 (i : grid0.Coords) (v10 : BitVec 32) (v16 : BitVec 32) (k0_t1 : Fin (k0_t1_loop v10 v16).trips) : BitVec 32 :=
  let arg1 : BitVec 32 := BitVec.ofNat 32 (i 1).val
  let c1_i32_43 : BitVec 32 := 1#32
  let v137 : BitVec 32 := Scalar.subi arg1 c1_i32_43
  let c0_i32_17 : BitVec 32 := 0#32
  let c1_i32_19 : BitVec 32 := 1#32
  let arg7 : BitVec 32 := Scf.iv c0_i32_17 c1_i32_19 k0_t1
  let v138 : BitVec 32 := Scalar.subi v137 arg7
  let c512_i32_44 : BitVec 32 := 512#32
  let v139 : BitVec 32 := Scalar.muli v138 c512_i32_44
  let c0_i32_45 : BitVec 32 := 0#32
  let v140 : BitVec 32 := Scalar.addi v139 c0_i32_45
  v140
def k0_off5 (i : grid0.Coords) (v10 : BitVec 32) (v16 : BitVec 32) (k0_t1 : Fin (k0_t1_loop v10 v16).trips) (c0_i32_45 : BitVec 32) : Fin 2 → Nat :=
  let arg1 : BitVec 32 := BitVec.ofNat 32 (i 1).val
  let c1_i32_43 : BitVec 32 := 1#32
  let v137 : BitVec 32 := Scalar.subi arg1 c1_i32_43
  let c0_i32_17 : BitVec 32 := 0#32
  let c1_i32_19 : BitVec 32 := 1#32
  let arg7 : BitVec 32 := Scf.iv c0_i32_17 c1_i32_19 k0_t1
  let v138 : BitVec 32 := Scalar.subi v137 arg7
  let c512_i32_44 : BitVec 32 := 512#32
  let v139 : BitVec 32 := Scalar.muli v138 c512_i32_44
  let v140 : BitVec 32 := Scalar.addi v139 c0_i32_45
  let v141 : BitVec 32 := v140
  let v142 : Index := Scalar.indexCast v141
  let c128_46 : Index := 128#32
  ![v142.toNat, 128]
def k0_mult5 (i : grid0.Coords) (v10 : BitVec 32) (v16 : BitVec 32) (k0_t1 : Fin (k0_t1_loop v10 v16).trips) : BitVec 32 :=
  let arg1 : BitVec 32 := BitVec.ofNat 32 (i 1).val
  let c1_i32_43 : BitVec 32 := 1#32
  let v137 : BitVec 32 := Scalar.subi arg1 c1_i32_43
  let c0_i32_17 : BitVec 32 := 0#32
  let c1_i32_19 : BitVec 32 := 1#32
  let arg7 : BitVec 32 := Scf.iv c0_i32_17 c1_i32_19 k0_t1
  let v138 : BitVec 32 := Scalar.subi v137 arg7
  let c512_i32_51 : BitVec 32 := 512#32
  let v160 : BitVec 32 := Scalar.muli v138 c512_i32_51
  let c256_i32_52 : BitVec 32 := 256#32
  let v161 : BitVec 32 := Scalar.addi v160 c256_i32_52
  v161
@[reducible] def k0_t2_loop (v10 : BitVec 32) (v16 : BitVec 32) : Scf.Loop 32 :=
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let v63 : BitVec 32 := Scalar.addi c0_i32_17 v62
  let c1_i32_20 : BitVec 32 := 1#32
  ⟨v66, v63, c1_i32_20⟩
def k0_mult6 (i : grid0.Coords) (v10 : BitVec 32) (v16 : BitVec 32) (k0_t2 : Fin (k0_t2_loop v10 v16).trips) : BitVec 32 :=
  let arg1 : BitVec 32 := BitVec.ofNat 32 (i 1).val
  let c1_i32_29 : BitVec 32 := 1#32
  let v93 : BitVec 32 := Scalar.subi arg1 c1_i32_29
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg7 : BitVec 32 := Scf.iv v66 c1_i32_20 k0_t2
  let v94 : BitVec 32 := Scalar.subi v93 arg7
  let c512_i32_30 : BitVec 32 := 512#32
  let v95 : BitVec 32 := Scalar.muli v94 c512_i32_30
  let c0_i32_31 : BitVec 32 := 0#32
  let v96 : BitVec 32 := Scalar.addi v95 c0_i32_31
  v96
def k0_off6 (i : grid0.Coords) (v10 : BitVec 32) (v16 : BitVec 32) (k0_t2 : Fin (k0_t2_loop v10 v16).trips) (c0_i32_31 : BitVec 32) : Fin 2 → Nat :=
  let arg1 : BitVec 32 := BitVec.ofNat 32 (i 1).val
  let c1_i32_29 : BitVec 32 := 1#32
  let v93 : BitVec 32 := Scalar.subi arg1 c1_i32_29
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg7 : BitVec 32 := Scf.iv v66 c1_i32_20 k0_t2
  let v94 : BitVec 32 := Scalar.subi v93 arg7
  let c512_i32_30 : BitVec 32 := 512#32
  let v95 : BitVec 32 := Scalar.muli v94 c512_i32_30
  let v96 : BitVec 32 := Scalar.addi v95 c0_i32_31
  let v97 : BitVec 32 := v96
  let v98 : Index := Scalar.indexCast v97
  let c0_32 : Index := 0#32
  ![v98.toNat, 0]
def k0_mult7 (i : grid0.Coords) (v10 : BitVec 32) (v16 : BitVec 32) (k0_t2 : Fin (k0_t2_loop v10 v16).trips) : BitVec 32 :=
  let arg1 : BitVec 32 := BitVec.ofNat 32 (i 1).val
  let c1_i32_29 : BitVec 32 := 1#32
  let v93 : BitVec 32 := Scalar.subi arg1 c1_i32_29
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg7 : BitVec 32 := Scf.iv v66 c1_i32_20 k0_t2
  let v94 : BitVec 32 := Scalar.subi v93 arg7
  let c512_i32_37 : BitVec 32 := 512#32
  let v116 : BitVec 32 := Scalar.muli v94 c512_i32_37
  let c256_i32 : BitVec 32 := 256#32
  let v117 : BitVec 32 := Scalar.addi v116 c256_i32
  v117
def k0_mult8 (i : grid0.Coords) (v10 : BitVec 32) (v16 : BitVec 32) (k0_t2 : Fin (k0_t2_loop v10 v16).trips) : BitVec 32 :=
  let arg1 : BitVec 32 := BitVec.ofNat 32 (i 1).val
  let c1_i32_43 : BitVec 32 := 1#32
  let v137 : BitVec 32 := Scalar.subi arg1 c1_i32_43
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg7 : BitVec 32 := Scf.iv v66 c1_i32_20 k0_t2
  let v138 : BitVec 32 := Scalar.subi v137 arg7
  let c512_i32_44 : BitVec 32 := 512#32
  let v139 : BitVec 32 := Scalar.muli v138 c512_i32_44
  let c0_i32_45 : BitVec 32 := 0#32
  let v140 : BitVec 32 := Scalar.addi v139 c0_i32_45
  v140
def k0_off7 (i : grid0.Coords) (v10 : BitVec 32) (v16 : BitVec 32) (k0_t2 : Fin (k0_t2_loop v10 v16).trips) (c0_i32_45 : BitVec 32) : Fin 2 → Nat :=
  let arg1 : BitVec 32 := BitVec.ofNat 32 (i 1).val
  let c1_i32_43 : BitVec 32 := 1#32
  let v137 : BitVec 32 := Scalar.subi arg1 c1_i32_43
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg7 : BitVec 32 := Scf.iv v66 c1_i32_20 k0_t2
  let v138 : BitVec 32 := Scalar.subi v137 arg7
  let c512_i32_44 : BitVec 32 := 512#32
  let v139 : BitVec 32 := Scalar.muli v138 c512_i32_44
  let v140 : BitVec 32 := Scalar.addi v139 c0_i32_45
  let v141 : BitVec 32 := v140
  let v142 : Index := Scalar.indexCast v141
  let c128_46 : Index := 128#32
  ![v142.toNat, 128]
def k0_mult9 (i : grid0.Coords) (v10 : BitVec 32) (v16 : BitVec 32) (k0_t2 : Fin (k0_t2_loop v10 v16).trips) : BitVec 32 :=
  let arg1 : BitVec 32 := BitVec.ofNat 32 (i 1).val
  let c1_i32_43 : BitVec 32 := 1#32
  let v137 : BitVec 32 := Scalar.subi arg1 c1_i32_43
  let c0_i32_17 : BitVec 32 := 0#32
  let v61 : BitVec 32 := Scalar.minsi v10 v16
  let v62 : BitVec 32 := Scalar.subi v61 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg7 : BitVec 32 := Scf.iv v66 c1_i32_20 k0_t2
  let v138 : BitVec 32 := Scalar.subi v137 arg7
  let c512_i32_51 : BitVec 32 := 512#32
  let v160 : BitVec 32 := Scalar.muli v138 c512_i32_51
  let c256_i32_52 : BitVec 32 := 256#32
  let v161 : BitVec 32 := Scalar.addi v160 c256_i32_52
  v161
@[reducible] def k0_t3_loop (v10 : BitVec 32) (v16 : BitVec 32) : Scf.Loop 32 :=
  let v61 : BitVec 32 := Scalar.minsi v10 v16
  let v69 : BitVec 32 := Scalar.subi v10 v61
  let c1_i32_21 : BitVec 32 := 1#32
  let v71 : BitVec 32 := Scalar.divsi v69 c1_i32_21
  let v72 : BitVec 32 := Scalar.muli v71 c1_i32_21
  let v73 : BitVec 32 := Scalar.addi v61 v72
  let c1_i32_22 : BitVec 32 := 1#32
  ⟨v61, v73, c1_i32_22⟩
def k0_mult10 (i : grid0.Coords) (v10 : BitVec 32) (v16 : BitVec 32) (k0_t3 : Fin (k0_t3_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let c1_i32_22 : BitVec 32 := 1#32
  let arg7 : BitVec 32 := Scf.iv v61 c1_i32_22 k0_t3
  let v94 : BitVec 32 := Scalar.subi v93 arg7
  let c512_i32_30 : BitVec 32 := 512#32
  let v95 : BitVec 32 := Scalar.muli v94 c512_i32_30
  let c0_i32_31 : BitVec 32 := 0#32
  let v96 : BitVec 32 := Scalar.addi v95 c0_i32_31
  v96
def k0_off8 (i : grid0.Coords) (v10 : BitVec 32) (v16 : BitVec 32) (k0_t3 : Fin (k0_t3_loop v10 v16).trips) (c0_i32_31 : BitVec 32) : Fin 2 → Nat :=
  let arg1 : BitVec 32 := BitVec.ofNat 32 (i 1).val
  let c1_i32_29 : BitVec 32 := 1#32
  let v93 : BitVec 32 := Scalar.subi arg1 c1_i32_29
  let v61 : BitVec 32 := Scalar.minsi v10 v16
  let c1_i32_22 : BitVec 32 := 1#32
  let arg7 : BitVec 32 := Scf.iv v61 c1_i32_22 k0_t3
  let v94 : BitVec 32 := Scalar.subi v93 arg7
  let c512_i32_30 : BitVec 32 := 512#32
  let v95 : BitVec 32 := Scalar.muli v94 c512_i32_30
  let v96 : BitVec 32 := Scalar.addi v95 c0_i32_31
  let v97 : BitVec 32 := v96
  let v98 : Index := Scalar.indexCast v97
  let c0_32 : Index := 0#32
  ![v98.toNat, 0]
def k0_mult11 (i : grid0.Coords) (v10 : BitVec 32) (v16 : BitVec 32) (k0_t3 : Fin (k0_t3_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let c1_i32_22 : BitVec 32 := 1#32
  let arg7 : BitVec 32 := Scf.iv v61 c1_i32_22 k0_t3
  let v94 : BitVec 32 := Scalar.subi v93 arg7
  let c512_i32_37 : BitVec 32 := 512#32
  let v116 : BitVec 32 := Scalar.muli v94 c512_i32_37
  let c256_i32 : BitVec 32 := 256#32
  let v117 : BitVec 32 := Scalar.addi v116 c256_i32
  v117
@[reducible] def k0_t4_loop (v10 : BitVec 32) (v16 : BitVec 32) : Scf.Loop 32 :=
  let v61 : BitVec 32 := Scalar.minsi v10 v16
  let v69 : BitVec 32 := Scalar.subi v10 v61
  let c1_i32_21 : BitVec 32 := 1#32
  let v71 : BitVec 32 := Scalar.divsi v69 c1_i32_21
  let v72 : BitVec 32 := Scalar.muli v71 c1_i32_21
  let v73 : BitVec 32 := Scalar.addi v61 v72
  let v70 : BitVec 32 := Scalar.addi v61 v69
  let c1_i32_23 : BitVec 32 := 1#32
  ⟨v73, v70, c1_i32_23⟩
def k0_mult12 (i : grid0.Coords) (v10 : BitVec 32) (v16 : BitVec 32) (k0_t4 : Fin (k0_t4_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let v69 : BitVec 32 := Scalar.subi v10 v61
  let c1_i32_21 : BitVec 32 := 1#32
  let v71 : BitVec 32 := Scalar.divsi v69 c1_i32_21
  let v72 : BitVec 32 := Scalar.muli v71 c1_i32_21
  let v73 : BitVec 32 := Scalar.addi v61 v72
  let c1_i32_23 : BitVec 32 := 1#32
  let arg7 : BitVec 32 := Scf.iv v73 c1_i32_23 k0_t4
  let v94 : BitVec 32 := Scalar.subi v93 arg7
  let c512_i32_30 : BitVec 32 := 512#32
  let v95 : BitVec 32 := Scalar.muli v94 c512_i32_30
  let c0_i32_31 : BitVec 32 := 0#32
  let v96 : BitVec 32 := Scalar.addi v95 c0_i32_31
  v96
def k0_off9 (i : grid0.Coords) (v10 : BitVec 32) (v16 : BitVec 32) (k0_t4 : Fin (k0_t4_loop v10 v16).trips) (c0_i32_31 : BitVec 32) : Fin 2 → Nat :=
  let arg1 : BitVec 32 := BitVec.ofNat 32 (i 1).val
  let c1_i32_29 : BitVec 32 := 1#32
  let v93 : BitVec 32 := Scalar.subi arg1 c1_i32_29
  let v61 : BitVec 32 := Scalar.minsi v10 v16
  let v69 : BitVec 32 := Scalar.subi v10 v61
  let c1_i32_21 : BitVec 32 := 1#32
  let v71 : BitVec 32 := Scalar.divsi v69 c1_i32_21
  let v72 : BitVec 32 := Scalar.muli v71 c1_i32_21
  let v73 : BitVec 32 := Scalar.addi v61 v72
  let c1_i32_23 : BitVec 32 := 1#32
  let arg7 : BitVec 32 := Scf.iv v73 c1_i32_23 k0_t4
  let v94 : BitVec 32 := Scalar.subi v93 arg7
  let c512_i32_30 : BitVec 32 := 512#32
  let v95 : BitVec 32 := Scalar.muli v94 c512_i32_30
  let v96 : BitVec 32 := Scalar.addi v95 c0_i32_31
  let v97 : BitVec 32 := v96
  let v98 : Index := Scalar.indexCast v97
  let c0_32 : Index := 0#32
  ![v98.toNat, 0]
def k0_mult13 (i : grid0.Coords) (v10 : BitVec 32) (v16 : BitVec 32) (k0_t4 : Fin (k0_t4_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let v69 : BitVec 32 := Scalar.subi v10 v61
  let c1_i32_21 : BitVec 32 := 1#32
  let v71 : BitVec 32 := Scalar.divsi v69 c1_i32_21
  let v72 : BitVec 32 := Scalar.muli v71 c1_i32_21
  let v73 : BitVec 32 := Scalar.addi v61 v72
  let c1_i32_23 : BitVec 32 := 1#32
  let arg7 : BitVec 32 := Scf.iv v73 c1_i32_23 k0_t4
  let v94 : BitVec 32 := Scalar.subi v93 arg7
  let c512_i32_37 : BitVec 32 := 512#32
  let v116 : BitVec 32 := Scalar.muli v94 c512_i32_37
  let c256_i32 : BitVec 32 := 256#32
  let v117 : BitVec 32 := Scalar.addi v116 c256_i32
  v117
@[reducible] def k0_t5_loop (v10 : BitVec 32) (v16 : BitVec 32) : Scf.Loop 32 :=
  let v61 : BitVec 32 := Scalar.minsi v10 v16
  let v76 : BitVec 32 := Scalar.subi v16 v61
  let c1_i32_24 : BitVec 32 := 1#32
  let v78 : BitVec 32 := Scalar.divsi v76 c1_i32_24
  let v79 : BitVec 32 := Scalar.muli v78 c1_i32_24
  let v80 : BitVec 32 := Scalar.addi v61 v79
  let c1_i32_25 : BitVec 32 := 1#32
  ⟨v61, v80, c1_i32_25⟩
def k0_mult14 (i : grid0.Coords) (v10 : BitVec 32) (v16 : BitVec 32) (k0_t5 : Fin (k0_t5_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let c1_i32_25 : BitVec 32 := 1#32
  let arg7 : BitVec 32 := Scf.iv v61 c1_i32_25 k0_t5
  let v94 : BitVec 32 := Scalar.subi v93 arg7
  let c512_i32_30 : BitVec 32 := 512#32
  let v95 : BitVec 32 := Scalar.muli v94 c512_i32_30
  let c0_i32_31 : BitVec 32 := 0#32
  let v96 : BitVec 32 := Scalar.addi v95 c0_i32_31
  v96
def k0_off10 (i : grid0.Coords) (v10 : BitVec 32) (v16 : BitVec 32) (k0_t5 : Fin (k0_t5_loop v10 v16).trips) (c0_i32_31 : BitVec 32) : Fin 2 → Nat :=
  let arg1 : BitVec 32 := BitVec.ofNat 32 (i 1).val
  let c1_i32_29 : BitVec 32 := 1#32
  let v93 : BitVec 32 := Scalar.subi arg1 c1_i32_29
  let v61 : BitVec 32 := Scalar.minsi v10 v16
  let c1_i32_25 : BitVec 32 := 1#32
  let arg7 : BitVec 32 := Scf.iv v61 c1_i32_25 k0_t5
  let v94 : BitVec 32 := Scalar.subi v93 arg7
  let c512_i32_30 : BitVec 32 := 512#32
  let v95 : BitVec 32 := Scalar.muli v94 c512_i32_30
  let v96 : BitVec 32 := Scalar.addi v95 c0_i32_31
  let v97 : BitVec 32 := v96
  let v98 : Index := Scalar.indexCast v97
  let c128_32 : Index := 128#32
  ![v98.toNat, 128]
def k0_mult15 (i : grid0.Coords) (v10 : BitVec 32) (v16 : BitVec 32) (k0_t5 : Fin (k0_t5_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let c1_i32_25 : BitVec 32 := 1#32
  let arg7 : BitVec 32 := Scf.iv v61 c1_i32_25 k0_t5
  let v94 : BitVec 32 := Scalar.subi v93 arg7
  let c512_i32_37 : BitVec 32 := 512#32
  let v116 : BitVec 32 := Scalar.muli v94 c512_i32_37
  let c256_i32 : BitVec 32 := 256#32
  let v117 : BitVec 32 := Scalar.addi v116 c256_i32
  v117
@[reducible] def k0_t6_loop (v10 : BitVec 32) (v16 : BitVec 32) : Scf.Loop 32 :=
  let v61 : BitVec 32 := Scalar.minsi v10 v16
  let v76 : BitVec 32 := Scalar.subi v16 v61
  let c1_i32_24 : BitVec 32 := 1#32
  let v78 : BitVec 32 := Scalar.divsi v76 c1_i32_24
  let v79 : BitVec 32 := Scalar.muli v78 c1_i32_24
  let v80 : BitVec 32 := Scalar.addi v61 v79
  let v77 : BitVec 32 := Scalar.addi v61 v76
  let c1_i32_26 : BitVec 32 := 1#32
  ⟨v80, v77, c1_i32_26⟩
def k0_mult16 (i : grid0.Coords) (v10 : BitVec 32) (v16 : BitVec 32) (k0_t6 : Fin (k0_t6_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let v76 : BitVec 32 := Scalar.subi v16 v61
  let c1_i32_24 : BitVec 32 := 1#32
  let v78 : BitVec 32 := Scalar.divsi v76 c1_i32_24
  let v79 : BitVec 32 := Scalar.muli v78 c1_i32_24
  let v80 : BitVec 32 := Scalar.addi v61 v79
  let c1_i32_26 : BitVec 32 := 1#32
  let arg7 : BitVec 32 := Scf.iv v80 c1_i32_26 k0_t6
  let v94 : BitVec 32 := Scalar.subi v93 arg7
  let c512_i32_30 : BitVec 32 := 512#32
  let v95 : BitVec 32 := Scalar.muli v94 c512_i32_30
  let c0_i32_31 : BitVec 32 := 0#32
  let v96 : BitVec 32 := Scalar.addi v95 c0_i32_31
  v96
def k0_off11 (i : grid0.Coords) (v10 : BitVec 32) (v16 : BitVec 32) (k0_t6 : Fin (k0_t6_loop v10 v16).trips) (c0_i32_31 : BitVec 32) : Fin 2 → Nat :=
  let arg1 : BitVec 32 := BitVec.ofNat 32 (i 1).val
  let c1_i32_29 : BitVec 32 := 1#32
  let v93 : BitVec 32 := Scalar.subi arg1 c1_i32_29
  let v61 : BitVec 32 := Scalar.minsi v10 v16
  let v76 : BitVec 32 := Scalar.subi v16 v61
  let c1_i32_24 : BitVec 32 := 1#32
  let v78 : BitVec 32 := Scalar.divsi v76 c1_i32_24
  let v79 : BitVec 32 := Scalar.muli v78 c1_i32_24
  let v80 : BitVec 32 := Scalar.addi v61 v79
  let c1_i32_26 : BitVec 32 := 1#32
  let arg7 : BitVec 32 := Scf.iv v80 c1_i32_26 k0_t6
  let v94 : BitVec 32 := Scalar.subi v93 arg7
  let c512_i32_30 : BitVec 32 := 512#32
  let v95 : BitVec 32 := Scalar.muli v94 c512_i32_30
  let v96 : BitVec 32 := Scalar.addi v95 c0_i32_31
  let v97 : BitVec 32 := v96
  let v98 : Index := Scalar.indexCast v97
  let c128_32 : Index := 128#32
  ![v98.toNat, 128]
def k0_mult17 (i : grid0.Coords) (v10 : BitVec 32) (v16 : BitVec 32) (k0_t6 : Fin (k0_t6_loop v10 v16).trips) : BitVec 32 :=
  let arg1 : BitVec 32 := BitVec.ofNat 32 (i 1).val
  let c1_i32_29 : BitVec 32 := 1#32
  let v93 : BitVec 32 := Scalar.subi arg1 c1_i32_29
  let v61 : BitVec 32 := Scalar.minsi v10 v16
  let v76 : BitVec 32 := Scalar.subi v16 v61
  let c1_i32_24 : BitVec 32 := 1#32
  let v78 : BitVec 32 := Scalar.divsi v76 c1_i32_24
  let v79 : BitVec 32 := Scalar.muli v78 c1_i32_24
  let v80 : BitVec 32 := Scalar.addi v61 v79
  let c1_i32_26 : BitVec 32 := 1#32
  let arg7 : BitVec 32 := Scf.iv v80 c1_i32_26 k0_t6
  let v94 : BitVec 32 := Scalar.subi v93 arg7
  let c512_i32_37 : BitVec 32 := 512#32
  let v116 : BitVec 32 := Scalar.muli v94 c512_i32_37
  let c256_i32 : BitVec 32 := 256#32
  let v117 : BitVec 32 := Scalar.addi v116 c256_i32
  v117

def k0_chk1 (i : grid0.Coords) (v10 : BitVec 32) (v16 : BitVec 32) : Prop :=
  ((k0_t1_loop v10 v16).OK) ∧
  (∀ k0_t1 : Fin (k0_t1_loop v10 v16).trips, 256 ∣ (k0_mult2 i v10 v16 k0_t1).toNat) ∧
  (∀ k0_t1 : Fin (k0_t1_loop v10 v16).trips, ∀ (r : Fin 2), ∀ a, (k0_off4 i v10 v16 k0_t1 (BitVec.ofNat 32 (256 * r.val))) a + S256x128.size a ≤ S16384x256.size a) ∧
  (∀ k0_t1 : Fin (k0_t1_loop v10 v16).trips, 256 ∣ (k0_mult3 i v10 v16 k0_t1).toNat) ∧
  (∀ k0_t1 : Fin (k0_t1_loop v10 v16).trips, 256 ∣ (k0_mult4 i v10 v16 k0_t1).toNat) ∧
  (∀ k0_t1 : Fin (k0_t1_loop v10 v16).trips, ∀ (r : Fin 2), ∀ a, (k0_off5 i v10 v16 k0_t1 (BitVec.ofNat 32 (256 * r.val))) a + S256x128.size a ≤ S16384x256.size a) ∧
  (∀ k0_t1 : Fin (k0_t1_loop v10 v16).trips, 256 ∣ (k0_mult5 i v10 v16 k0_t1).toNat) ∧
  ((k0_t2_loop v10 v16).OK) ∧
  (∀ k0_t2 : Fin (k0_t2_loop v10 v16).trips, 256 ∣ (k0_mult6 i v10 v16 k0_t2).toNat) ∧
  (∀ k0_t2 : Fin (k0_t2_loop v10 v16).trips, ∀ (r : Fin 2), ∀ a, (k0_off6 i v10 v16 k0_t2 (BitVec.ofNat 32 (256 * r.val))) a + S256x128.size a ≤ S16384x256.size a) ∧
  (∀ k0_t2 : Fin (k0_t2_loop v10 v16).trips, 256 ∣ (k0_mult7 i v10 v16 k0_t2).toNat) ∧
  (∀ k0_t2 : Fin (k0_t2_loop v10 v16).trips, 256 ∣ (k0_mult8 i v10 v16 k0_t2).toNat) ∧
  (∀ k0_t2 : Fin (k0_t2_loop v10 v16).trips, ∀ (r : Fin 2), ∀ a, (k0_off7 i v10 v16 k0_t2 (BitVec.ofNat 32 (256 * r.val))) a + S256x128.size a ≤ S16384x256.size a) ∧
  (∀ k0_t2 : Fin (k0_t2_loop v10 v16).trips, 256 ∣ (k0_mult9 i v10 v16 k0_t2).toNat) ∧
  ((k0_t3_loop v10 v16).OK) ∧
  (∀ k0_t3 : Fin (k0_t3_loop v10 v16).trips, 256 ∣ (k0_mult10 i v10 v16 k0_t3).toNat) ∧
  (∀ k0_t3 : Fin (k0_t3_loop v10 v16).trips, ∀ (r : Fin 2), ∀ a, (k0_off8 i v10 v16 k0_t3 (BitVec.ofNat 32 (256 * r.val))) a + S256x128.size a ≤ S16384x256.size a) ∧
  (∀ k0_t3 : Fin (k0_t3_loop v10 v16).trips, 256 ∣ (k0_mult11 i v10 v16 k0_t3).toNat) ∧
  ((k0_t4_loop v10 v16).OK) ∧
  (∀ k0_t4 : Fin (k0_t4_loop v10 v16).trips, 256 ∣ (k0_mult12 i v10 v16 k0_t4).toNat) ∧
  (∀ k0_t4 : Fin (k0_t4_loop v10 v16).trips, ∀ (r : Fin 2), ∀ a, (k0_off9 i v10 v16 k0_t4 (BitVec.ofNat 32 (256 * r.val))) a + S256x128.size a ≤ S16384x256.size a) ∧
  (∀ k0_t4 : Fin (k0_t4_loop v10 v16).trips, 256 ∣ (k0_mult13 i v10 v16 k0_t4).toNat) ∧
  ((k0_t5_loop v10 v16).OK) ∧
  (∀ k0_t5 : Fin (k0_t5_loop v10 v16).trips, 256 ∣ (k0_mult14 i v10 v16 k0_t5).toNat) ∧
  (∀ k0_t5 : Fin (k0_t5_loop v10 v16).trips, ∀ (r : Fin 2), ∀ a, (k0_off10 i v10 v16 k0_t5 (BitVec.ofNat 32 (256 * r.val))) a + S256x128.size a ≤ S16384x256.size a) ∧
  (∀ k0_t5 : Fin (k0_t5_loop v10 v16).trips, 256 ∣ (k0_mult15 i v10 v16 k0_t5).toNat) ∧
  ((k0_t6_loop v10 v16).OK) ∧
  (∀ k0_t6 : Fin (k0_t6_loop v10 v16).trips, 256 ∣ (k0_mult16 i v10 v16 k0_t6).toNat) ∧
  (∀ k0_t6 : Fin (k0_t6_loop v10 v16).trips, ∀ (r : Fin 2), ∀ a, (k0_off11 i v10 v16 k0_t6 (BitVec.ofNat 32 (256 * r.val))) a + S256x128.size a ≤ S16384x256.size a) ∧
  (∀ k0_t6 : Fin (k0_t6_loop v10 v16).trips, 256 ∣ (k0_mult17 i v10 v16 k0_t6).toNat)
theorem k0_t1_ok : ∀ (i : grid0.Coords) (v10 : BitVec 32) (v16 : BitVec 32) (k0_hw1 : k0_chk1 i v10 v16), (k0_t1_loop v10 v16).OK := fun i v10 v16 k0_hw1 => k0_hw1.1
theorem k0_mult2_dvd : ∀ (i : grid0.Coords) (v10 : BitVec 32) (v16 : BitVec 32) (k0_hw1 : k0_chk1 i v10 v16) (k0_t1 : Fin (k0_t1_loop v10 v16).trips), 256 ∣ (k0_mult2 i v10 v16 k0_t1).toNat := fun i v10 v16 k0_hw1 k0_t1 => k0_hw1.2.1 k0_t1
theorem k0_off4_inb : ∀ (i : grid0.Coords) (v10 : BitVec 32) (v16 : BitVec 32) (k0_hw1 : k0_chk1 i v10 v16) (k0_t1 : Fin (k0_t1_loop v10 v16).trips), ∀ (r : Fin 2), ∀ a, (k0_off4 i v10 v16 k0_t1 (BitVec.ofNat 32 (256 * r.val))) a + S256x128.size a ≤ S16384x256.size a := fun i v10 v16 k0_hw1 k0_t1 r => k0_hw1.2.2.1 k0_t1 r
theorem k0_mult3_dvd : ∀ (i : grid0.Coords) (v10 : BitVec 32) (v16 : BitVec 32) (k0_hw1 : k0_chk1 i v10 v16) (k0_t1 : Fin (k0_t1_loop v10 v16).trips), 256 ∣ (k0_mult3 i v10 v16 k0_t1).toNat := fun i v10 v16 k0_hw1 k0_t1 => k0_hw1.2.2.2.1 k0_t1
theorem k0_mult4_dvd : ∀ (i : grid0.Coords) (v10 : BitVec 32) (v16 : BitVec 32) (k0_hw1 : k0_chk1 i v10 v16) (k0_t1 : Fin (k0_t1_loop v10 v16).trips), 256 ∣ (k0_mult4 i v10 v16 k0_t1).toNat := fun i v10 v16 k0_hw1 k0_t1 => k0_hw1.2.2.2.2.1 k0_t1
theorem k0_off5_inb : ∀ (i : grid0.Coords) (v10 : BitVec 32) (v16 : BitVec 32) (k0_hw1 : k0_chk1 i v10 v16) (k0_t1 : Fin (k0_t1_loop v10 v16).trips), ∀ (r : Fin 2), ∀ a, (k0_off5 i v10 v16 k0_t1 (BitVec.ofNat 32 (256 * r.val))) a + S256x128.size a ≤ S16384x256.size a := fun i v10 v16 k0_hw1 k0_t1 r => k0_hw1.2.2.2.2.2.1 k0_t1 r
theorem k0_mult5_dvd : ∀ (i : grid0.Coords) (v10 : BitVec 32) (v16 : BitVec 32) (k0_hw1 : k0_chk1 i v10 v16) (k0_t1 : Fin (k0_t1_loop v10 v16).trips), 256 ∣ (k0_mult5 i v10 v16 k0_t1).toNat := fun i v10 v16 k0_hw1 k0_t1 => k0_hw1.2.2.2.2.2.2.1 k0_t1
theorem k0_t2_ok : ∀ (i : grid0.Coords) (v10 : BitVec 32) (v16 : BitVec 32) (k0_hw1 : k0_chk1 i v10 v16), (k0_t2_loop v10 v16).OK := fun i v10 v16 k0_hw1 => k0_hw1.2.2.2.2.2.2.2.1
theorem k0_mult6_dvd : ∀ (i : grid0.Coords) (v10 : BitVec 32) (v16 : BitVec 32) (k0_hw1 : k0_chk1 i v10 v16) (k0_t2 : Fin (k0_t2_loop v10 v16).trips), 256 ∣ (k0_mult6 i v10 v16 k0_t2).toNat := fun i v10 v16 k0_hw1 k0_t2 => k0_hw1.2.2.2.2.2.2.2.2.1 k0_t2
theorem k0_off6_inb : ∀ (i : grid0.Coords) (v10 : BitVec 32) (v16 : BitVec 32) (k0_hw1 : k0_chk1 i v10 v16) (k0_t2 : Fin (k0_t2_loop v10 v16).trips), ∀ (r : Fin 2), ∀ a, (k0_off6 i v10 v16 k0_t2 (BitVec.ofNat 32 (256 * r.val))) a + S256x128.size a ≤ S16384x256.size a := fun i v10 v16 k0_hw1 k0_t2 r => k0_hw1.2.2.2.2.2.2.2.2.2.1 k0_t2 r
theorem k0_mult7_dvd : ∀ (i : grid0.Coords) (v10 : BitVec 32) (v16 : BitVec 32) (k0_hw1 : k0_chk1 i v10 v16) (k0_t2 : Fin (k0_t2_loop v10 v16).trips), 256 ∣ (k0_mult7 i v10 v16 k0_t2).toNat := fun i v10 v16 k0_hw1 k0_t2 => k0_hw1.2.2.2.2.2.2.2.2.2.2.1 k0_t2
theorem k0_mult8_dvd : ∀ (i : grid0.Coords) (v10 : BitVec 32) (v16 : BitVec 32) (k0_hw1 : k0_chk1 i v10 v16) (k0_t2 : Fin (k0_t2_loop v10 v16).trips), 256 ∣ (k0_mult8 i v10 v16 k0_t2).toNat := fun i v10 v16 k0_hw1 k0_t2 => k0_hw1.2.2.2.2.2.2.2.2.2.2.2.1 k0_t2
theorem k0_off7_inb : ∀ (i : grid0.Coords) (v10 : BitVec 32) (v16 : BitVec 32) (k0_hw1 : k0_chk1 i v10 v16) (k0_t2 : Fin (k0_t2_loop v10 v16).trips), ∀ (r : Fin 2), ∀ a, (k0_off7 i v10 v16 k0_t2 (BitVec.ofNat 32 (256 * r.val))) a + S256x128.size a ≤ S16384x256.size a := fun i v10 v16 k0_hw1 k0_t2 r => k0_hw1.2.2.2.2.2.2.2.2.2.2.2.2.1 k0_t2 r
theorem k0_mult9_dvd : ∀ (i : grid0.Coords) (v10 : BitVec 32) (v16 : BitVec 32) (k0_hw1 : k0_chk1 i v10 v16) (k0_t2 : Fin (k0_t2_loop v10 v16).trips), 256 ∣ (k0_mult9 i v10 v16 k0_t2).toNat := fun i v10 v16 k0_hw1 k0_t2 => k0_hw1.2.2.2.2.2.2.2.2.2.2.2.2.2.1 k0_t2
theorem k0_t3_ok : ∀ (i : grid0.Coords) (v10 : BitVec 32) (v16 : BitVec 32) (k0_hw1 : k0_chk1 i v10 v16), (k0_t3_loop v10 v16).OK := fun i v10 v16 k0_hw1 => k0_hw1.2.2.2.2.2.2.2.2.2.2.2.2.2.2.1
theorem k0_mult10_dvd : ∀ (i : grid0.Coords) (v10 : BitVec 32) (v16 : BitVec 32) (k0_hw1 : k0_chk1 i v10 v16) (k0_t3 : Fin (k0_t3_loop v10 v16).trips), 256 ∣ (k0_mult10 i v10 v16 k0_t3).toNat := fun i v10 v16 k0_hw1 k0_t3 => k0_hw1.2.2.2.2.2.2.2.2.2.2.2.2.2.2.2.1 k0_t3
theorem k0_off8_inb : ∀ (i : grid0.Coords) (v10 : BitVec 32) (v16 : BitVec 32) (k0_hw1 : k0_chk1 i v10 v16) (k0_t3 : Fin (k0_t3_loop v10 v16).trips), ∀ (r : Fin 2), ∀ a, (k0_off8 i v10 v16 k0_t3 (BitVec.ofNat 32 (256 * r.val))) a + S256x128.size a ≤ S16384x256.size a := fun i v10 v16 k0_hw1 k0_t3 r => k0_hw1.2.2.2.2.2.2.2.2.2.2.2.2.2.2.2.2.1 k0_t3 r
theorem k0_mult11_dvd : ∀ (i : grid0.Coords) (v10 : BitVec 32) (v16 : BitVec 32) (k0_hw1 : k0_chk1 i v10 v16) (k0_t3 : Fin (k0_t3_loop v10 v16).trips), 256 ∣ (k0_mult11 i v10 v16 k0_t3).toNat := fun i v10 v16 k0_hw1 k0_t3 => k0_hw1.2.2.2.2.2.2.2.2.2.2.2.2.2.2.2.2.2.1 k0_t3
theorem k0_t4_ok : ∀ (i : grid0.Coords) (v10 : BitVec 32) (v16 : BitVec 32) (k0_hw1 : k0_chk1 i v10 v16), (k0_t4_loop v10 v16).OK := fun i v10 v16 k0_hw1 => k0_hw1.2.2.2.2.2.2.2.2.2.2.2.2.2.2.2.2.2.2.1
theorem k0_mult12_dvd : ∀ (i : grid0.Coords) (v10 : BitVec 32) (v16 : BitVec 32) (k0_hw1 : k0_chk1 i v10 v16) (k0_t4 : Fin (k0_t4_loop v10 v16).trips), 256 ∣ (k0_mult12 i v10 v16 k0_t4).toNat := fun i v10 v16 k0_hw1 k0_t4 => k0_hw1.2.2.2.2.2.2.2.2.2.2.2.2.2.2.2.2.2.2.2.1 k0_t4
theorem k0_off9_inb : ∀ (i : grid0.Coords) (v10 : BitVec 32) (v16 : BitVec 32) (k0_hw1 : k0_chk1 i v10 v16) (k0_t4 : Fin (k0_t4_loop v10 v16).trips), ∀ (r : Fin 2), ∀ a, (k0_off9 i v10 v16 k0_t4 (BitVec.ofNat 32 (256 * r.val))) a + S256x128.size a ≤ S16384x256.size a := fun i v10 v16 k0_hw1 k0_t4 r => k0_hw1.2.2.2.2.2.2.2.2.2.2.2.2.2.2.2.2.2.2.2.2.1 k0_t4 r
theorem k0_mult13_dvd : ∀ (i : grid0.Coords) (v10 : BitVec 32) (v16 : BitVec 32) (k0_hw1 : k0_chk1 i v10 v16) (k0_t4 : Fin (k0_t4_loop v10 v16).trips), 256 ∣ (k0_mult13 i v10 v16 k0_t4).toNat := fun i v10 v16 k0_hw1 k0_t4 => k0_hw1.2.2.2.2.2.2.2.2.2.2.2.2.2.2.2.2.2.2.2.2.2.1 k0_t4
theorem k0_t5_ok : ∀ (i : grid0.Coords) (v10 : BitVec 32) (v16 : BitVec 32) (k0_hw1 : k0_chk1 i v10 v16), (k0_t5_loop v10 v16).OK := fun i v10 v16 k0_hw1 => k0_hw1.2.2.2.2.2.2.2.2.2.2.2.2.2.2.2.2.2.2.2.2.2.2.1
theorem k0_mult14_dvd : ∀ (i : grid0.Coords) (v10 : BitVec 32) (v16 : BitVec 32) (k0_hw1 : k0_chk1 i v10 v16) (k0_t5 : Fin (k0_t5_loop v10 v16).trips), 256 ∣ (k0_mult14 i v10 v16 k0_t5).toNat := fun i v10 v16 k0_hw1 k0_t5 => k0_hw1.2.2.2.2.2.2.2.2.2.2.2.2.2.2.2.2.2.2.2.2.2.2.2.1 k0_t5
theorem k0_off10_inb : ∀ (i : grid0.Coords) (v10 : BitVec 32) (v16 : BitVec 32) (k0_hw1 : k0_chk1 i v10 v16) (k0_t5 : Fin (k0_t5_loop v10 v16).trips), ∀ (r : Fin 2), ∀ a, (k0_off10 i v10 v16 k0_t5 (BitVec.ofNat 32 (256 * r.val))) a + S256x128.size a ≤ S16384x256.size a := fun i v10 v16 k0_hw1 k0_t5 r => k0_hw1.2.2.2.2.2.2.2.2.2.2.2.2.2.2.2.2.2.2.2.2.2.2.2.2.1 k0_t5 r
theorem k0_mult15_dvd : ∀ (i : grid0.Coords) (v10 : BitVec 32) (v16 : BitVec 32) (k0_hw1 : k0_chk1 i v10 v16) (k0_t5 : Fin (k0_t5_loop v10 v16).trips), 256 ∣ (k0_mult15 i v10 v16 k0_t5).toNat := fun i v10 v16 k0_hw1 k0_t5 => k0_hw1.2.2.2.2.2.2.2.2.2.2.2.2.2.2.2.2.2.2.2.2.2.2.2.2.2.1 k0_t5
theorem k0_t6_ok : ∀ (i : grid0.Coords) (v10 : BitVec 32) (v16 : BitVec 32) (k0_hw1 : k0_chk1 i v10 v16), (k0_t6_loop v10 v16).OK := fun i v10 v16 k0_hw1 => k0_hw1.2.2.2.2.2.2.2.2.2.2.2.2.2.2.2.2.2.2.2.2.2.2.2.2.2.2.1
theorem k0_mult16_dvd : ∀ (i : grid0.Coords) (v10 : BitVec 32) (v16 : BitVec 32) (k0_hw1 : k0_chk1 i v10 v16) (k0_t6 : Fin (k0_t6_loop v10 v16).trips), 256 ∣ (k0_mult16 i v10 v16 k0_t6).toNat := fun i v10 v16 k0_hw1 k0_t6 => k0_hw1.2.2.2.2.2.2.2.2.2.2.2.2.2.2.2.2.2.2.2.2.2.2.2.2.2.2.2.1 k0_t6
theorem k0_off11_inb : ∀ (i : grid0.Coords) (v10 : BitVec 32) (v16 : BitVec 32) (k0_hw1 : k0_chk1 i v10 v16) (k0_t6 : Fin (k0_t6_loop v10 v16).trips), ∀ (r : Fin 2), ∀ a, (k0_off11 i v10 v16 k0_t6 (BitVec.ofNat 32 (256 * r.val))) a + S256x128.size a ≤ S16384x256.size a := fun i v10 v16 k0_hw1 k0_t6 r => k0_hw1.2.2.2.2.2.2.2.2.2.2.2.2.2.2.2.2.2.2.2.2.2.2.2.2.2.2.2.2.1 k0_t6 r
theorem k0_mult17_dvd : ∀ (i : grid0.Coords) (v10 : BitVec 32) (v16 : BitVec 32) (k0_hw1 : k0_chk1 i v10 v16) (k0_t6 : Fin (k0_t6_loop v10 v16).trips), 256 ∣ (k0_mult17 i v10 v16 k0_t6).toNat := fun i v10 v16 k0_hw1 k0_t6 => k0_hw1.2.2.2.2.2.2.2.2.2.2.2.2.2.2.2.2.2.2.2.2.2.2.2.2.2.2.2.2.2 k0_t6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S512 : Shape := ⟨1, ![512]⟩
abbrev S16384x2048 : Shape := ⟨2, ![16384, 2048]⟩
abbrev S16384x16x128 : Shape := ⟨3, ![16384, 16, 128]⟩
abbrev S16384x16x64 : Shape := ⟨3, ![16384, 16, 64]⟩
abbrev S16384 : Shape := ⟨1, ![16384]⟩
abbrev S32 : Shape := ⟨1, ![32]⟩
abbrev S1x32 : Shape := ⟨2, ![1, 32]⟩
abbrev S16x32 : Shape := ⟨2, ![16, 32]⟩
abbrev S_ : Shape := ⟨0, ![]⟩
abbrev S16x32x1 : Shape := ⟨3, ![16, 32, 1]⟩
abbrev S16x32x512 : Shape := ⟨3, ![16, 32, 512]⟩
abbrev S16x16384 : Shape := ⟨2, ![16, 16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S16x16384x1 : Shape := ⟨3, ![16, 16384, 1]⟩
abbrev S16x16384x16384 : Shape := ⟨3, ![16, 16384, 16384]⟩
abbrev S16x64x16384 : Shape := ⟨3, ![16, 64, 16384]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S512, .i32⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x2048, .f32⟩
  | .hbm, ⟨5, _⟩ => ⟨S16384x16x128, .f32⟩
  | .hbm, ⟨6, _⟩ => ⟨S16384x2048, .f32⟩
  | .hbm, ⟨7, _⟩ => ⟨S16384x16x128, .f32⟩
  | .hbm, ⟨8, _⟩ => ⟨S16384x2048, .f32⟩
  | .hbm, ⟨9, _⟩ => ⟨S16384x16x128, .f32⟩
  | .hbm, ⟨10, _⟩ => ⟨S16384x16x64, .f32⟩
  | .hbm, ⟨11, _⟩ => ⟨S16384, .i32⟩
  | .hbm, ⟨12, _⟩ => ⟨S32, .i32⟩
  | .hbm, ⟨13, _⟩ => ⟨S1x32, .i32⟩
  | .hbm, ⟨14, _⟩ => ⟨S16x32, .i32⟩
  | .hbm, ⟨15, _⟩ => ⟨S16x32, .i32⟩
  | .hbm, ⟨16, _⟩ => ⟨S16x32, .i32⟩
  | .hbm, ⟨17, _⟩ => ⟨S_, .i32⟩
  | .hbm, ⟨18, _⟩ => ⟨S16x32, .i32⟩
  | .hbm, ⟨19, _⟩ => ⟨S16x32, .i32⟩
  | .hbm, ⟨20, _⟩ => ⟨S16x32x1, .i32⟩
  | .hbm, ⟨21, _⟩ => ⟨S16x32x512, .i32⟩
  | .hbm, ⟨22, _⟩ => ⟨S16x16384, .i32⟩
  | .hbm, ⟨23, _⟩ => ⟨S1x1x16384, .i32⟩
  | .hbm, ⟨24, _⟩ => ⟨S1x16384x1, .i32⟩
  | .hbm, ⟨25, _⟩ => ⟨S1x16384x16384, .i32⟩
  | .hbm, ⟨26, _⟩ => ⟨S1x16384x16384, .i32⟩
  | .hbm, ⟨27, _⟩ => ⟨S1x16384x16384, .i1⟩
  | .hbm, ⟨28, _⟩ => ⟨S1x1x16384, .i32⟩
  | .hbm, ⟨29, _⟩ => ⟨S16x16384x1, .i32⟩
  | .hbm, ⟨30, _⟩ => ⟨S16x16384x16384, .i32⟩
  | .hbm, ⟨31, _⟩ => ⟨S16x16384x16384, .i32⟩
  | .hbm, ⟨32, _⟩ => ⟨S16x16384x16384, .i1⟩
  | .hbm, ⟨33, _⟩ => ⟨S16x16384x16384, .i1⟩
  | .hbm, ⟨34, _⟩ => ⟨S16x16384x16384, .i1⟩
  | .hbm, ⟨35, _⟩ => ⟨S16x16384x16384, .f32⟩
  | .hbm, ⟨36, _⟩ => ⟨S_, .f32⟩
  | .hbm, ⟨37, _⟩ => ⟨S_, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S_, .f32⟩
  | .hbm, ⟨42, _⟩ => ⟨S16x16384x16384, .f32⟩
  | .hbm, ⟨43, _⟩ => ⟨S16x16384x16384, .f32⟩
  | .hbm, ⟨44, _⟩ => ⟨S_, .f32⟩
  | .hbm, ⟨45, _⟩ => ⟨S16x16384, .f32⟩
  | .hbm, ⟨46, _⟩ => ⟨S_, .f32⟩
  | .hbm, ⟨47, _⟩ => ⟨S16x16384, .f32⟩
  | .hbm, ⟨48, _⟩ => ⟨S16x16384, .f32⟩
  | .hbm, ⟨49, _⟩ => ⟨S16x16384x1, .f32⟩
  | .hbm, ⟨50, _⟩ => ⟨S16x16384x16384, .f32⟩
  | .hbm, ⟨51, _⟩ => ⟨S16x16384x16384, .f32⟩
  | .hbm, ⟨52, _⟩ => ⟨S16x16384x16384, .f32⟩
  | .hbm, ⟨53, _⟩ => ⟨S_, .f32⟩
  | .hbm, ⟨54, _⟩ => ⟨S16x16384, .f32⟩
  | .hbm, ⟨55, _⟩ => ⟨S16x16384x1, .f32⟩
  | .hbm, ⟨56, _⟩ => ⟨S16x16384x16384, .f32⟩
  | .hbm, ⟨57, _⟩ => ⟨S16x16384x16384, .f32⟩
  | .hbm, ⟨58, _⟩ => ⟨S16x64x16384, .f32⟩
  | .hbm, ⟨59, _⟩ => ⟨S16384x16x64, .f32⟩
  | .hbm, ⟨60, _⟩ => ⟨S16384x1024, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1024x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel3.lean ====
abbrev S16384x1024 : Shape := ⟨2, ![16384, 1024]⟩
abbrev S1x2x1024 : Shape := ⟨3, ![1, 2, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1x520x1024 : Shape := ⟨3, ![1, 520, 1024]⟩
abbrev S512 : Shape := ⟨1, ![512]⟩
abbrev S512x1 : Shape := ⟨2, ![512, 1]⟩
abbrev S1x512x1024 : Shape := ⟨3, ![1, 512, 1024]⟩
abbrev S1x1x1024 : Shape := ⟨3, ![1, 1, 1024]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x2x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1024x3072, .bf16⟩
  | .hbm, ⟨15, _⟩ => ⟨S1024x1024, .bf16⟩
  | .hbm, ⟨16, _⟩ => ⟨S16384x1024, .f32⟩
  | .hbm, ⟨17, _⟩ => ⟨S1x2x1024, .f32⟩
  | .local _ .vmem, ⟨0, _⟩ => ⟨S512x1024, .f32⟩
  | .local _ .vmem, ⟨1, _⟩ => ⟨S512x1024, .f32⟩
  | .local _ .vmem, ⟨2, _⟩ => ⟨S1x2x1024, .f32⟩
  | .local _ .vmem, ⟨3, _⟩ => ⟨S1x1024, .f32⟩
  | .local _ .vmem, ⟨4, _⟩ => ⟨S1024x3072, .bf16⟩
  | .local _ .vmem, ⟨5, _⟩ => ⟨S3x1024, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x2x1024, .f32⟩
  | .local _ .vmem, ⟨14, _⟩ => ⟨S1x520x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S16384x1024 : Shape := ⟨2, ![16384, 1024]⟩
abbrev S1x2x1024 : Shape := ⟨3, ![1, 2, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S2x1024 : Shape := ⟨2, ![2, 1024]⟩
abbrev S16386x1024 : Shape := ⟨2, ![16386, 1024]⟩
abbrev S16384x4096 : Shape := ⟨2, ![16384, 4096]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x2x1024, .f32⟩
  | .hbm, ⟨2, _⟩ => ⟨S1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3072, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S2x1024, .f32⟩
  | .hbm, ⟨30, _⟩ => ⟨S16384x1024, .f32⟩
  | .hbm, ⟨31, _⟩ => ⟨S16386x1024, .f32⟩
  | .hbm, ⟨32, _⟩ => ⟨S1x1024, .f32⟩
  | .hbm, ⟨33, _⟩ => ⟨S1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S16384x4096, .f32⟩
  | .hbm, ⟨75, _⟩ => ⟨S_, .f32⟩
  | .hbm, ⟨76, _⟩ => ⟨S16384x4096, .f32⟩
  | .hbm, ⟨77, _⟩ => ⟨S16384x4096, .f32⟩
  | .hbm, ⟨78, _⟩ => ⟨S16384x4096, .f32⟩
  | .hbm, ⟨79, _⟩ => ⟨S16384x1024, .f32⟩
  | .hbm, ⟨80, _⟩ => ⟨S16384x1024, .f32⟩
  | .hbm, ⟨81, _⟩ => ⟨S2x1024, .f32⟩
  | .hbm, ⟨82, _⟩ => ⟨S1x2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call0_cst : Ref sig .tc := ⟨.hbm, 75, rfl⟩
abbrev main_call0_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proof.Ffn.lean ====
module
public import Idealize.ShloMosaic.PureOps.Ideal

/-! The feed-forward part over the extended reals, row by row: the norm, the squared-ReLU layers, and the inner sum cut into four. -/

@[expose] public section
noncomputable section
namespace Cert.Ffn
open Idealize.ShloMosaic
open scoped BigOperators

/-- The norm of a row: the row over the root of its mean square, times the gain. -/
def rms (y g : Fin 1024 → EReal) (j : Fin 1024) : EReal :=
  y j * Ideal.rsqrt (Ideal.div (∑ k, y k * y k) (Ideal.ofBits FTy.f32 0x44800000#32) + Ideal.ofBits FTy.f32 0x3727C5AC#32) * g j

/-- The squared positive part. -/
def reluSq (a : EReal) : EReal := max a 0 * max a 0

/-- A row through both layers, without the row itself. -/
def twoLayer {n : ℕ} (h : Fin 1024 → EReal) (w1 : Fin 1024 → Fin n → EReal) (w2 : Fin n → Fin 1024 → EReal) (j : Fin 1024) : EReal :=
  ∑ f, reluSq (∑ k, h k * w1 k f) * w2 f j

/-- The feed-forward part of a row, the row added. -/
def mlp (g : Fin 1024 → EReal) (w1 : Fin 1024 → Fin 4096 → EReal) (w2 : Fin 4096 → Fin 1024 → EReal) (y : Fin 1024 → EReal) (j : Fin 1024) : EReal :=
  y j + twoLayer (rms y g) w1 w2 j

theorem sum_four (f : ℕ → EReal) :
    ∑ k : Fin 4096, f k = ((∑ k : Fin 1024, f k + ∑ k : Fin 1024, f (1024 + k)) + ∑ k : Fin 1024, f (2048 + k)) + ∑ k : Fin 1024, f (3072 + k) := by
  simp only [Fin.sum_univ_eq_sum_range (fun k => f k), Fin.sum_univ_eq_sum_range (fun k => f (1024 + k)),
    Fin.sum_univ_eq_sum_range (fun k => f (2048 + k)), Fin.sum_univ_eq_sum_range (fun k => f (3072 + k))]
  rw [show (4096 : ℕ) = 1024 + 1024 + 1024 + 1024 from rfl, Finset.sum_range_add, Finset.sum_range_add, Finset.sum_range_add]

/-- The columns from `o` on of the first layer, and the rows of the second. -/
def cut1 (w1 : Fin 1024 → Fin 4096 → EReal) (o : ℕ) (ho : o ≤ 3072) (k j : Fin 1024) : EReal := w1 k ⟨o + j.val, by omega⟩
def cut2 (w2 : Fin 4096 → Fin 1024 → EReal) (o : ℕ) (ho : o ≤ 3072) (k j : Fin 1024) : EReal := w2 ⟨o + k.val, by omega⟩ j

/-- The inner width in four parts, added to the row one after the other. -/
theorem mlp_four (g : Fin 1024 → EReal) (w1 : Fin 1024 → Fin 4096 → EReal) (w2 : Fin 4096 → Fin 1024 → EReal) (y : Fin 1024 → EReal) (j : Fin 1024) :
    mlp g w1 w2 y j = (((y j + twoLayer (rms y g) (cut1 w1 0 (by omega)) (cut2 w2 0 (by omega)) j)
      + twoLayer (rms y g) (cut1 w1 1024 (by omega)) (cut2 w2 1024 (by omega)) j)
      + twoLayer (rms y g) (cut1 w1 2048 (by omega)) (cut2 w2 2048 (by omega)) j)
      + twoLayer (rms y g) (cut1 w1 3072 (by omega)) (cut2 w2 3072 (by omega)) j := by
  let F : ℕ → EReal := fun n => if h : n < 4096 then reluSq (∑ k, rms y g k * w1 k ⟨n, h⟩) * w2 ⟨n, h⟩ j else 0
  have e : twoLayer (rms y g) w1 w2 j = ∑ k : Fin 4096, F k :=
    Finset.sum_congr rfl fun f _ => Eq.symm (show F f.val = _ from dif_pos f.isLt)
  have c : ∀ (o : ℕ) (ho : o ≤ 3072), twoLayer (rms y g) (cut1 w1 o ho) (cut2 w2 o ho) j = ∑ k : Fin 1024, F (o + k) := fun o ho =>
    Finset.sum_congr rfl fun f _ => Eq.symm (show F (o + f.val) = _ from dif_pos (show o + f.val < 4096 by omega))
  unfold mlp
  rw [e, c, c, c, c, sum_four]
  simp only [Nat.zero_add, add_assoc]

/-- A row of the layer: the projection added, the feed-forward part, the last norm. -/
def outRow (x o : Fin 1024 → EReal) (w : Fin 1024 → Fin 1024 → EReal) (g : Fin 1024 → EReal) (w1 : Fin 1024 → Fin 4096 → EReal) (w2 : Fin 4096 → Fin 1024 → EReal)
    (gf : Fin 1024 → EReal) (j : Fin 1024) : EReal := rms (mlp g w1 w2 fun i => x i + ∑ k, o k * w k i) gf j

end Cert.Ffn
end
-- ==== Proof.Body2.lean ====
module
public import proofs.«01_k».proof.Proof.Gen.Kernel2Ideal.Value
public import proofs.«01_k».proof.Proof.Ffn
public import Idealize.ShloMosaic.Lib.Pointwise

/-! What the body of the output projection leaves in a block of rows: each row, its projection added, through the feed-forward
part and the last norm. -/

@[expose] public section
set_option maxRecDepth 16384
noncomputable section
namespace Cert.Kernel2Ideal.Out
open Cert.Kernel2Ideal Cert.Kernel2Ideal.Gen Cert.Ffn
open Idealize.ShloMosaic Idealize.ShloMosaic.TcCoe
open scoped BigOperators

section
variable {F : FTy → Type} [FloatOps F]

/-- The norm of a block's rows. -/
def rmsK (y : FVec F S512x1024 .f32) (g : FVec F S1x1024 .f32) : FVec F S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024))
    (broadcastTo S512x1024 g broadcasts_S1x1024_S512x1024)

/-- A product of a block's rows with a square. -/
def mmK (h : FVec F S512x1024 .bf16) (w : FVec F S1024x1024 .bf16) : FVec F S512x1024 .f32 :=
  matmul dot_S512x1024_S1024x1024_S512x1024_1_0_0_1_n_n none h (shapeCast S1024x1024 w shapeCasts_S1024x1024_S1024x1024) (constant S512x1024 .f32 0x00000000#32)

/-- The squared positive part of a block. -/
def sqK (a : FVec F S512x1024 .f32) : FVec F S512x1024 .bf16 :=
  truncf .bf16 (mulf (maximumf a (broadcast S512x1024 (Scalar.ofBits .f32 0x00000000#32))) (maximumf a (broadcast S512x1024 (Scalar.ofBits .f32 0x00000000#32)))) bitsLt_bf16_f32

/-- A quarter of the feed-forward part. -/
def partK (h : FVec F S512x1024 .bf16) (w1 w2 : FVec F S1024x1024 .bf16) : FVec F S512x1024 .f32 := mmK (sqK (mmK h w1)) w2

variable (x o : FVec F S512x1024 .f32) (w : FVec F S1024x1024 .bf16) (g gf : FVec F S1x1024 .f32) (a0 a1 a2 a3 b0 b1 b2 b3 : FVec F S1024x1024 .bf16)

def resK : FVec F S512x1024 .f32 := addf x (mmK (truncf .bf16 o bitsLt_bf16_f32) w)
def hK (y : FVec F S512x1024 .f32) : FVec F S512x1024 .bf16 := truncf .bf16 (rmsK y (shapeCast S1x1024 g shapeCasts_S1x1024_S1x1024)) bitsLt_bf16_f32
def mlpK (y : FVec F S512x1024 .f32) : FVec F S512x1024 .f32 :=
  addf (addf (addf (addf y (partK (hK g y) a0 b0)) (partK (hK g y) a1 b1)) (partK (hK g y) a2 b2)) (partK (hK g y) a3 b3)

theorem pay6_eq : k0_pay6 (k0_pay3 x o w g) (k0_pay4 x o w g a0 b0) (k0_pay5 x o w g a1) (Scalar.ofBits .f32 0x00000000#32) b1 a2 b2 a3 b3
    = mlpK g a0 a1 a2 a3 b0 b1 b2 b3 (resK x o w) := rfl
theorem pay1_eq : k0_pay1 (k0_pay6 (k0_pay3 x o w g) (k0_pay4 x o w g a0 b0) (k0_pay5 x o w g a1) (Scalar.ofBits .f32 0x00000000#32) b1 a2 b2 a3 b3) (k0_pay7 gf)
      (k0_pay8 (k0_pay3 x o w g) (k0_pay4 x o w g a0 b0) (k0_pay5 x o w g a1) (Scalar.ofBits .f32 0x00000000#32) b1 a2 b2 a3 b3) (k0_pay9 (F := F))
    = rmsK (mlpK g a0 a1 a2 a3 b0 b1 b2 b3 (resK x o w)) (shapeCast S1x1024 gf shapeCasts_S1x1024_S1x1024) := rfl
end

/-- A block's row, and a square's or a gain's entries. -/
abbrev row (y : FVec Ideal S512x1024 .f32) (r : Fin 512) (j : Fin 1024) : EReal := y (ix2 r j)
abbrev mat (w : FVec Ideal S1024x1024 .bf16) (k j : Fin 1024) : EReal := w (ix2 k j)
abbrev gain (g : FVec Ideal S1x1024 .f32) (j : Fin 1024) : EReal := g (ix2 (0 : Fin 1) j)

theorem rmsK_apply (y : FVec Ideal S512x1024 .f32) (g : FVec Ideal S1x1024 .f32) (r : Fin 512) (j : Fin 1024) :
    rmsK y g (ix2 r j) = rms (row y r) (gain g) j := by
  pointwise [rmsK]
  rfl

theorem mmK_apply (h : FVec Ideal S512x1024 .bf16) (w : FVec Ideal S1024x1024 .bf16) (r : Fin 512) (j : Fin 1024) :
    mmK h w (ix2 r j) = ∑ k : Fin 1024, h (ix2 r k) * w (ix2 k j) := by
  pointwise [mmK]

theorem sqK_apply (a : FVec Ideal S512x1024 .f32) (r : Fin 512) (j : Fin 1024) : sqK a (ix2 r j) = reluSq (a (ix2 r j)) := by
  pointwise [sqK]
  rfl

theorem partK_apply (h : FVec Ideal S512x1024 .bf16) (w1 w2 : FVec Ideal S1024x1024 .bf16) (r : Fin 512) (j : Fin 1024) :
    partK h w1 w2 (ix2 r j) = twoLayer (fun k => h (ix2 r k)) (mat w1) (mat w2) j := by
  unfold partK twoLayer
  rw [mmK_apply]
  simp only [sqK_apply, mmK_apply]

theorem resK_apply (x o : FVec Ideal S512x1024 .f32) (w : FVec Ideal S1024x1024 .bf16) (r : Fin 512) (j : Fin 1024) :
    resK x o w (ix2 r j) = row x r j + ∑ k, row o r k * mat w k j := by
  show (x (ix2 r j) : EReal) + mmK _ w (ix2 r j) = _
  rw [mmK_apply]
  rfl

theorem hK_apply (g : FVec Ideal S1x1024 .f32) (y : FVec Ideal S512x1024 .f32) (r : Fin 512) (j : Fin 1024) :
    hK g y (ix2 r j) = rms (row y r) (gain g) j := by
  have e : shapeCast S1x1024 g shapeCasts_S1x1024_S1x1024 = g := by
    pointwise
  show rmsK y (shapeCast S1x1024 g shapeCasts_S1x1024_S1x1024) (ix2 r j) = _
  rw [e, rmsK_apply]

theorem mlpK_apply (g : FVec Ideal S1x1024 .f32) (a0 a1 a2 a3 b0 b1 b2 b3 : FVec Ideal S1024x1024 .bf16) (y : FVec Ideal S512x1024 .f32) (r : Fin 512) (j : Fin 1024) :
    mlpK g a0 a1 a2 a3 b0 b1 b2 b3 y (ix2 r j) = (((row y r j + twoLayer (rms (row y r) (gain g)) (mat a0) (mat b0) j)
      + twoLayer (rms (row y r) (gain g)) (mat a1) (mat b1) j) + twoLayer (rms (row y r) (gain g)) (mat a2) (mat b2) j)
      + twoLayer (rms (row y r) (gain g)) (mat a3) (mat b3) j := by
  show (((y (ix2 r j) + partK (hK g y) a0 b0 (ix2 r j)) + partK (hK g y) a1 b1 (ix2 r j)) + partK (hK g y) a2 b2 (ix2 r j)) + partK (hK g y) a3 b3 (ix2 r j) = _
  simp only [partK_apply, hK_apply]

end Cert.Kernel2Ideal.Out
end
-- ==== Proof.Out2.lean ====
module
public import proofs.«01_k».proof.Proof.Body2
public import Idealize.ShloMosaic.Lib.Pipeline.Value
public import Idealize.ShloMosaic.Lib.Pipeline.ValueKit

/-! The result array of the output projection after the run: at every index the row of the layer. -/

@[expose] public section
set_option maxRecDepth 16384
noncomputable section
namespace Cert.Kernel2Ideal.Out
open Cert.Kernel2Ideal Cert.Kernel2Ideal.Gen Cert.Ffn
open Idealize.ShloMosaic Idealize.ShloMosaic.TcCoe Idealize.SL.Sem
open Idealize.ShloMosaic.Pipeline (Dat)
open scoped BigOperators

/-! ## The body at an index -/

theorem out_eq (x0 x1 : FVec Ideal S512x1024 .f32) (x2 : FVec Ideal S1024x1024 .bf16) (x3 : FVec Ideal S1x1024 .f32) (x4 : FVec Ideal S1024x4096 .bf16)
    (x5 : FVec Ideal S4096x1024 .bf16) (x6 : FVec Ideal S1x1024 .f32) :
    out0_7 (F := Ideal) x0 x1 x2 x3 x4 x5 x6 = rmsK (mlpK x3 (View.ld (Val := Elt Ideal) (e' := .bf16) x4 r0_3) (View.ld (Val := Elt Ideal) (e' := .bf16) x4 r0_5) (View.ld (Val := Elt Ideal) (e' := .bf16) x4 r0_7) (View.ld (Val := Elt Ideal) (e' := .bf16) x4 r0_9)
      (View.ld (Val := Elt Ideal) (e' := .bf16) x5 r0_4) (View.ld (Val := Elt Ideal) (e' := .bf16) x5 r0_6) (View.ld (Val := Elt Ideal) (e' := .bf16) x5 r0_8) (View.ld (Val := Elt Ideal) (e' := .bf16) x5 r0_10) (resK x0 x1 x2)) (shapeCast S1x1024 x6 shapeCasts_S1x1024_S1x1024) := by
  have hz : (![0, 0] : Fin 2 → ℕ) = fun _ => 0 := by funext a; fin_cases a <;> rfl
  unfold_out out0_7
  refine (View.canon_unit_zero (S := S512x1024) hz _ _).trans ?_
  have e0 : View.ld (Val := Elt Ideal) (e' := .f32) x0 r0_0 = x0 := View.ld_unit_zero (Val := Elt Ideal) (e := .f32) (S := S512x1024) hz _ x0
  have e1 : View.ld (Val := Elt Ideal) (e' := .f32) x1 r0_0 = x1 := View.ld_unit_zero (Val := Elt Ideal) (e := .f32) (S := S512x1024) hz _ x1
  have e2 : View.ld (Val := Elt Ideal) (e' := .bf16) x2 r0_1 = x2 := View.ld_unit_zero (Val := Elt Ideal) (e := .bf16) (S := S1024x1024) hz _ x2
  have e3 : View.ld (Val := Elt Ideal) (e' := .f32) x3 r0_2 = x3 := View.ld_unit_zero (Val := Elt Ideal) (e := .f32) (S := S1x1024) hz _ x3
  have e6 : View.ld (Val := Elt Ideal) (e' := .f32) x6 r0_2 = x6 := View.ld_unit_zero (Val := Elt Ideal) (e := .f32) (S := S1x1024) hz _ x6
  rw [e0, e1, e2, e3, e6]
  exact pay1_eq x0 x1 x2 x3 x6 _ _ _ _ _ _ _ _

theorem col (x4 : FVec Ideal S1024x4096 .bf16) (o : ℕ) (ho : o ≤ 3072) (inb) :
    mat (View.ld (Val := Elt Ideal) (e' := .bf16) x4 (Rect.unit (s := S1024x4096) ![0, o] S1024x1024.size inb)) = cut1 (fun k i => x4 (ix2 k i)) o ho := by
  funext k j
  refine View.ld_unit_apply_of (Val := Elt Ideal) (e := .bf16) x4 _ _ _ _ (ix2 k (⟨o + j.val, by omega⟩ : Fin 4096)) ?_
  intro a
  fin_cases a
  · exact (Nat.zero_add k.val).symm
  · rfl

theorem rowCut (x5 : FVec Ideal S4096x1024 .bf16) (o : ℕ) (ho : o ≤ 3072) (inb) :
    mat (View.ld (Val := Elt Ideal) (e' := .bf16) x5 (Rect.unit (s := S4096x1024) ![o, 0] S1024x1024.size inb)) = cut2 (fun k i => x5 (ix2 k i)) o ho := by
  funext k j
  refine View.ld_unit_apply_of (Val := Elt Ideal) (e := .bf16) x5 _ _ _ _ (ix2 (⟨o + k.val, by omega⟩ : Fin 4096) j) ?_
  intro a
  fin_cases a
  · rfl
  · exact (Nat.zero_add j.val).symm

theorem body_apply (x0 x1 : FVec Ideal S512x1024 .f32) (x2 : FVec Ideal S1024x1024 .bf16) (x3 : FVec Ideal S1x1024 .f32) (x4 : FVec Ideal S1024x4096 .bf16)
    (x5 : FVec Ideal S4096x1024 .bf16) (x6 : FVec Ideal S1x1024 .f32) (r : Fin 512) (j : Fin 1024) :
    out0_7 (F := Ideal) x0 x1 x2 x3 x4 x5 x6 (ix2 r j) = outRow (row x0 r) (row x1 r) (mat x2) (gain x3) (fun k i => x4 (ix2 k i)) (fun k i => x5 (ix2 k i)) (gain x6) j := by
  rw [out_eq]
  have e : shapeCast S1x1024 x6 shapeCasts_S1x1024_S1x1024 = x6 := by
    pointwise
  rw [e, rmsK_apply]
  unfold outRow
  refine congrArg (fun y => rms y (gain x6) j) ?_
  funext i
  have er : row (resK x0 x1 x2) r = fun i => row x0 r i + ∑ k, row x1 r k * mat x2 k i := funext fun i => resK_apply x0 x1 x2 r i
  refine (mlpK_apply x3 _ _ _ _ _ _ _ _ (resK x0 x1 x2) r i).trans ?_
  rw [er, mlp_four]
  rw [col x4 0 (by omega), col x4 1024 (by omega), col x4 2048 (by omega), col x4 3072 (by omega),
    rowCut x5 0 (by omega), rowCut x5 1024 (by omega), rowCut x5 2048 (by omega), rowCut x5 3072 (by omega)]

/-! ## The blocks -/

section
variable (m : (ℓ : Loc nD τ sig) → Buf (Elt Ideal) ℓ) (ρ : Dev nD → PrngReg)

theorem coord_lt (i : grid0.Coords) : (i 0).val < 32 := (i 0).isLt

theorem moves0 (i : grid0.Coords) : cc0_transform_0 i 0 = (i 0).val ∧ cc0_transform_0 i 1 = 0 := by
  have h0 := coord_lt i
  constructor
  · show (BitVec.ofNat 32 (i 0).val).toNat = _
    rw [BitVec.toNat_ofNat]; omega
  · rfl
theorem moves1 (i : grid0.Coords) : cc0_transform_1 i 0 = (i 0).val ∧ cc0_transform_1 i 1 = 0 := by
  have h0 := coord_lt i
  constructor
  · show (BitVec.ofNat 32 (i 0).val).toNat = _
    rw [BitVec.toNat_ofNat]; omega
  · rfl
theorem moves7 (i : grid0.Coords) : cc0_transform_7 i 0 = (i 0).val ∧ cc0_transform_7 i 1 = 0 := by
  have h0 := coord_lt i
  constructor
  · show (BitVec.ofNat 32 (i 0).val).toNat = _
    rw [BitVec.toNat_ofNat]; omega
  · rfl

/-- The place of a block's row in the array. -/
def at_ (t : Fin cfg0.N) (r : Fin 512) : Fin 16384 := ⟨(grid0.coords t 0).val * 512 + r.val, by have := coord_lt (grid0.coords t); omega⟩

theorem blk0 (c : Dev nD) (t : Fin cfg0.N) (X : FVec Ideal S16384x1024 .f32) (h : V m c main_arg0 = X) (r : Fin 512) (j : Fin 1024) :
    (iblk m c 0 t : Vec Ideal S512x1024 .f32) (ix2 r j) = X (ix2 (at_ t r) j) := by
  refine Eq.trans ?_ (congrFun h _)
  refine congrArg (V m c main_arg0 : Vec Ideal S16384x1024 .f32) ?_
  funext a
  apply Fin.ext
  refine (Pipeline.Window.rect_emb_val (cfg0.win 0) t (ix2 r j) a).trans ?_
  fin_cases a
  · exact congrArg (· * 512 + r.val) (moves0 (grid0.coords t)).1
  · exact (congrArg (· * 1024 + j.val) (moves0 (grid0.coords t)).2).trans (by show 0 * 1024 + j.val = j.val; omega)

theorem blk1 (c : Dev nD) (t : Fin cfg0.N) (X : FVec Ideal S16384x1024 .f32) (h : V m c main_arg1 = X) (r : Fin 512) (j : Fin 1024) :
    (iblk m c 1 t : Vec Ideal S512x1024 .f32) (ix2 r j) = X (ix2 (at_ t r) j) := by
  refine Eq.trans ?_ (congrFun h _)
  refine congrArg (V m c main_arg1 : Vec Ideal S16384x1024 .f32) ?_
  funext a
  apply Fin.ext
  refine (Pipeline.Window.rect_emb_val (cfg0.win 1) t (ix2 r j) a).trans ?_
  fin_cases a
  · exact congrArg (· * 512 + r.val) (moves1 (grid0.coords t)).1
  · exact (congrArg (· * 1024 + j.val) (moves1 (grid0.coords t)).2).trans (by show 0 * 1024 + j.val = j.val; omega)

theorem blk2 (c : Dev nD) (t : Fin cfg0.N) (X : FVec Ideal S1024x1024 .bf16) (h : V m c main_v4 = X) (k j : Fin 1024) :
    (iblk m c 2 t : Vec Ideal S1024x1024 .bf16) (ix2 k j) = X (ix2 k j) := by
  refine Eq.trans ?_ (congrFun h _)
  refine congrArg (V m c main_v4 : Vec Ideal S1024x1024 .bf16) ?_
  funext a
  apply Fin.ext
  refine (Pipeline.Window.rect_emb_val (cfg0.win 2) t (ix2 k j) a).trans ?_
  fin_cases a
  · show 0 * 1024 + k.val = k.val; omega
  · show 0 * 1024 + j.val = j.val; omega

theorem blk3 (c : Dev nD) (t : Fin cfg0.N) (X : FVec Ideal S1x1024 .f32) (h : V m c main_v0 = X) (j : Fin 1024) :
    (iblk m c 3 t : Vec Ideal S1x1024 .f32) (ix2 (0 : Fin 1) j) = X (ix2 (0 : Fin 1) j) := by
  refine Eq.trans ?_ (congrFun h _)
  refine congrArg (V m c main_v0 : Vec Ideal S1x1024 .f32) ?_
  funext a
  apply Fin.ext
  refine (Pipeline.Window.rect_emb_val (cfg0.win 3) t (ix2 (0 : Fin 1) j) a).trans ?_
  fin_cases a
  · rfl
  · show 0 * 1024 + j.val = j.val; omega

theorem blk4 (c : Dev nD) (t : Fin cfg0.N) (X : FVec Ideal S1024x4096 .bf16) (h : V m c main_v1 = X) (k : Fin 1024) (j : Fin 4096) :
    (iblk m c 4 t : Vec Ideal S1024x4096 .bf16) (ix2 k j) = X (ix2 k j) := by
  refine Eq.trans ?_ (congrFun h _)
  refine congrArg (V m c main_v1 : Vec Ideal S1024x4096 .bf16) ?_
  funext a
  apply Fin.ext
  refine (Pipeline.Window.rect_emb_val (cfg0.win 4) t (ix2 k j) a).trans ?_
  fin_cases a
  · show 0 * 1024 + k.val = k.val; omega
  · show 0 * 4096 + j.val = j.val; omega

theorem blk5 (c : Dev nD) (t : Fin cfg0.N) (X : FVec Ideal S4096x1024 .bf16) (h : V m c main_v2 = X) (k : Fin 4096) (j : Fin 1024) :
    (iblk m c 5 t : Vec Ideal S4096x1024 .bf16) (ix2 k j) = X (ix2 k j) := by
  refine Eq.trans ?_ (congrFun h _)
  refine congrArg (V m c main_v2 : Vec Ideal S4096x1024 .bf16) ?_
  funext a
  apply Fin.ext
  refine (Pipeline.Window.rect_emb_val (cfg0.win 5) t (ix2 k j) a).trans ?_
  fin_cases a
  · show 0 * 4096 + k.val = k.val; omega
  · show 0 * 1024 + j.val = j.val; omega

theorem blk6 (c : Dev nD) (t : Fin cfg0.N) (X : FVec Ideal S1x1024 .f32) (h : V m c main_v3 = X) (j : Fin 1024) :
    (iblk m c 6 t : Vec Ideal S1x1024 .f32) (ix2 (0 : Fin 1) j) = X (ix2 (0 : Fin 1) j) := by
  refine Eq.trans ?_ (congrFun h _)
  refine congrArg (V m c main_v3 : Vec Ideal S1x1024 .f32) ?_
  funext a
  apply Fin.ext
  refine (Pipeline.Window.rect_emb_val (cfg0.win 6) t (ix2 (0 : Fin 1) j) a).trans ?_
  fin_cases a
  · rfl
  · show 0 * 1024 + j.val = j.val; omega

/-! ## The prepared arrays: the casts and reshapes before the call -/

theorem v4_eq (c : Dev nD) : V m c main_v4 = truncf (F := Ideal) .bf16 (m ((c : Thread nD τ).loc main_arg2) : FVec Ideal S1024x1024 .f32) bitsLt_bf16_f32 := by
  unfold V; simp only [hostOps0]; after_results_simp
theorem v1_eq (c : Dev nD) : V m c main_v1 = truncf (F := Ideal) .bf16 (m ((c : Thread nD τ).loc main_arg4) : FVec Ideal S1024x4096 .f32) bitsLt_bf16_f32 := by
  unfold V; simp only [hostOps0]; after_results_simp
theorem v2_eq (c : Dev nD) : V m c main_v2 = truncf (F := Ideal) .bf16 (m ((c : Thread nD τ).loc main_arg5) : FVec Ideal S4096x1024 .f32) bitsLt_bf16_f32 := by
  unfold V; simp only [hostOps0]; after_results_simp
theorem v0_eq (c : Dev nD) : V m c main_v0 = shapeCast S1x1024 (m ((c : Thread nD τ).loc main_arg3) : FVec Ideal S1024 .f32) shapeCasts_S1024_S1x1024 := by
  unfold V; simp only [hostOps0]; after_results_simp; rfl
theorem v3_eq (c : Dev nD) : V m c main_v3 = shapeCast S1x1024 (m ((c : Thread nD τ).loc main_arg6) : FVec Ideal S1024 .f32) shapeCasts_S1024_S1x1024 := by
  unfold V; simp only [hostOps0]; after_results_simp; rfl

theorem gain_cast (g : FVec Ideal S1024 .f32) (j : Fin 1024) : shapeCast S1x1024 g shapeCasts_S1024_S1x1024 (ix2 (0 : Fin 1) j) = g (ix1 j) := by
  pointwise

/-! ## The result -/

/-- The layer's result array. -/
def layer (x o : FVec Ideal S16384x1024 .f32) (w : FVec Ideal S1024x1024 .f32) (g : FVec Ideal S1024 .f32) (w1 : FVec Ideal S1024x4096 .f32)
    (w2 : FVec Ideal S4096x1024 .f32) (gf : FVec Ideal S1024 .f32) : FVec Ideal S16384x1024 .f32 := fun j =>
  outRow (fun k => x (ix2 (j 0) k)) (fun k => o (ix2 (j 0) k)) (fun k i => w (ix2 k i)) (fun k => g (ix1 k)) (fun k i => w1 (ix2 k i)) (fun k i => w2 (ix2 k i))
    (fun k => gf (ix1 k)) (j 1)

variable (x o : FVec Ideal S16384x1024 .f32) (w : FVec Ideal S1024x1024 .f32) (g : FVec Ideal S1024 .f32) (w1 : FVec Ideal S1024x4096 .f32)
    (w2 : FVec Ideal S4096x1024 .f32) (gf : FVec Ideal S1024 .f32)

theorem point_apply (c : Dev nD) (t : Fin cfg0.N) (h0 : m ((c : Thread nD τ).loc main_arg0) = x) (h1 : m ((c : Thread nD τ).loc main_arg1) = o)
    (h2 : m ((c : Thread nD τ).loc main_arg2) = w) (h3 : m ((c : Thread nD τ).loc main_arg3) = g) (h4 : m ((c : Thread nD τ).loc main_arg4) = w1)
    (h5 : m ((c : Thread nD τ).loc main_arg5) = w2) (h6 : m ((c : Thread nD τ).loc main_arg6) = gf) (r : Fin 512) (j : Fin 1024) :
    out0_7 (F := Ideal) (iblk m c 0 t) (iblk m c 1 t) (iblk m c 2 t) (iblk m c 3 t) (iblk m c 4 t) (iblk m c 5 t) (iblk m c 6 t) (ix2 r j)
      = layer x o w g w1 w2 gf (ix2 (at_ t r) j) := by
  refine (body_apply _ _ _ _ _ _ _ r j).trans ?_
  have e0 : row (iblk m c 0 t) r = fun k => x (ix2 (at_ t r) k) := funext fun k => blk0 m c t x ((V_main_arg0 m c).trans h0) r k
  have e1 : row (iblk m c 1 t) r = fun k => o (ix2 (at_ t r) k) := funext fun k => blk1 m c t o ((V_main_arg1 m c).trans h1) r k
  have e2 : mat (iblk m c 2 t) = fun k i => w (ix2 k i) := funext fun k => funext fun i => (blk2 m c t _ (v4_eq m c) k i).trans (congrFun h2 _)
  have e3 : gain (iblk m c 3 t) = fun k => g (ix1 k) := funext fun k => (blk3 m c t _ (v0_eq m c) k).trans ((gain_cast _ k).trans (congrFun h3 _))
  have e4 : (fun k i => (iblk m c 4 t : Vec Ideal S1024x4096 .bf16) (ix2 k i)) = fun (k : Fin 1024) (i : Fin 4096) => w1 (ix2 k i) :=
    funext fun k => funext fun i => (blk4 m c t _ (v1_eq m c) k i).trans (congrFun h4 _)
  have e5 : (fun k i => (iblk m c 5 t : Vec Ideal S4096x1024 .bf16) (ix2 k i)) = fun (k : Fin 4096) (i : Fin 1024) => w2 (ix2 k i) :=
    funext fun k => funext fun i => (blk5 m c t _ (v2_eq m c) k i).trans (congrFun h5 _)
  have e6 : gain (iblk m c 6 t) = fun k => gf (ix1 k) := funext fun k => (blk6 m c t _ (v3_eq m c) k).trans ((gain_cast _ k).trans (congrFun h6 _))
  rw [e0, e1, e2, e3, e6]
  exact congrArg₂ (fun a b => outRow (fun k => x (ix2 (at_ t r) k)) (fun k => o (ix2 (at_ t r) k)) (fun k i => w (ix2 k i)) (fun k => g (ix1 k)) a b (fun k => gf (ix1 k)) j) e4 e5

/-- The points' blocks cover the result array. -/
theorem cover (i : S16384x1024.Idx) : ∃ t : Fin cfg0.N, (cfg0.win 7).flush t = true ∧ i ∈ ((cfg0.win 7).blk t).view.set := by
  have hq : (i 0 : ℕ) < 16384 := (i 0).isLt
  have hn : (i 1 : ℕ) < 1024 := (i 1).isLt
  have hN : ∀ (a : Fin 32), ∃ t : Fin grid0.N, (grid0.coords t 0).val = a.val := by decide +kernel
  obtain ⟨t, e0⟩ := hN ⟨(i 0 : ℕ) / 512, by omega⟩
  refine ⟨t, flush0_7 t, ?_⟩
  refine (congrArg (i ∈ ·) (View.set_slice_whole main_v5 ((cfg0.win 7).rect t))).mpr ?_
  refine (Pipeline.Window.mem_rect_iff (cfg0.win 7) t i).mpr ?_
  obtain ⟨f0, f1⟩ := moves7 (grid0.coords t)
  intro a
  match a with
  | ⟨0, _⟩ =>
    show cc0_transform_7 (grid0.coords t) 0 * 512 ≤ (i 0 : ℕ) ∧ (i 0 : ℕ) < cc0_transform_7 (grid0.coords t) 0 * 512 + 512
    rw [f0, e0]; dsimp only; omega
  | ⟨1, _⟩ =>
    show cc0_transform_7 (grid0.coords t) 1 * 1024 ≤ (i 1 : ℕ) ∧ (i 1 : ℕ) < cc0_transform_7 (grid0.coords t) 1 * 1024 + 1024
    rw [f1]; omega

/-- The result array after the run is the layer's. -/
theorem final (c : Dev nD) (h0 : m ((c : Thread nD τ).loc main_arg0) = x) (h1 : m ((c : Thread nD τ).loc main_arg1) = o)
    (h2 : m ((c : Thread nD τ).loc main_arg2) = w) (h3 : m ((c : Thread nD τ).loc main_arg3) = g) (h4 : m ((c : Thread nD τ).loc main_arg4) = w1)
    (h5 : m ((c : Thread nD τ).loc main_arg5) = w2) (h6 : m ((c : Thread nD τ).loc main_arg6) = gf) :
    (dats m 0 c).arrAt 7 cfg0.N = layer x o w g w1 w2 gf := by
  refine (dats m 0 c).arrAt_eq_of_cover 7 (layer x o w g w1 w2 gf) (fun t _ => ?_) cover
  refine (Value.flushed7 m c t).trans ?_
  refine funext fun (y : S512x1024.Idx) => ?_
  have hy : ∃ (r : Fin 512) (l : Fin 1024), y = ix2 r l := ⟨y 0, y 1, by funext a; fin_cases a <;> rfl⟩
  obtain ⟨r, l, rfl⟩ := hy
  refine (point_apply m x o w g w1 w2 gf c t h0 h1 h2 h3 h4 h5 h6 r l).trans ?_
  refine congrArg (layer x o w g w1 w2 gf) ?_
  funext a
  apply Fin.ext
  refine Eq.symm ((Pipeline.Window.rect_emb_val (cfg0.win 7) t (ix2 r l) a).trans ?_)
  fin_cases a
  · exact congrArg (· * 512 + r.val) (moves7 (grid0.coords t)).1
  · exact (congrArg (· * 1024 + l.val) (moves7 (grid0.coords t)).2).trans (by show 0 * 1024 + l.val = l.val; omega)

end
end Cert.Kernel2Ideal.Out
end
-- ==== Proof.Ref2.lean ====
module
public import proofs.«01_k».proof.Proof.Gen.Reference2Ideal.Run
public import proofs.«01_k».proof.Proof.Ffn
public import Idealize.ShloMosaic.Lib.Pointwise
public import Idealize.ShloMosaic.Lib.Quiescent

/-! The reference of the output projection at an index: the row of the layer. -/

@[expose] public section
set_option maxRecDepth 16384
noncomputable section
namespace Cert.Reference2Ideal.Out
open Cert.Reference2Ideal Cert.Reference2Ideal.Gen Cert.Reference2Ideal.Value
open Cert.Ffn
open Idealize.ShloMosaic Idealize.ShloMosaic.TcCoe Idealize.SL.Sem Idealize.ShloMosaic.StableHlo
open scoped BigOperators

def resR (x o : FVec Ideal S16384x1024 .f32) (w : FVec Ideal S1024x1024 .f32) : FVec Ideal S16384x1024 .f32 :=
  addf x (Host.dotGeneral dot_S16384x1024_S1024x1024_S16384x1024_1_0_0_1_n_n none o w)

def rmsR (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0
    (Host.reduceAdd (mulf y y) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))

def upR (h : FVec Ideal S16384x1024 .f32) (w1 : FVec Ideal S1024x4096 .f32) : FVec Ideal S16384x4096 .f32 :=
  Host.dotGeneral dot_S16384x1024_S1024x4096_S16384x4096_1_0_0_1_n_n none h w1

def posR (a : FVec Ideal S16384x4096 .f32) : FVec Ideal S16384x4096 .f32 :=
  maximumf a (broadcastInDim S16384x4096 ![] bcast_S_S16384x4096 (constant S_ .f32 0x00000000#32))

def sqR (a : FVec Ideal S16384x4096 .f32) : FVec Ideal S16384x4096 .f32 := mulf (posR a) (posR a)

def downR (a : FVec Ideal S16384x4096 .f32) (w2 : FVec Ideal S4096x1024 .f32) : FVec Ideal S16384x1024 .f32 :=
  Host.dotGeneral dot_S16384x4096_S4096x1024_S16384x1024_1_0_0_1_n_n none a w2

def mlpR (y : FVec Ideal S16384x1024 .f32) (g : FVec Ideal S1024 .f32) (w1 : FVec Ideal S1024x4096 .f32) (w2 : FVec Ideal S4096x1024 .f32) : FVec Ideal S16384x1024 .f32 :=
  addf y (downR (sqR (upR (rmsR y g) w1)) w2)

/-- The reference's result is these steps one after the other. -/
theorem res_steps (m : (ℓ : Loc nD τ sig) → Buf (Elt Ideal) ℓ) (c : Dev nD) :
    res_main_v32 (F := Ideal) m c = rmsR (mlpR (resR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5))) (m ((c.tc : Thread nD τ).loc main_arg6)) := rfl

theorem resR_apply (x o : FVec Ideal S16384x1024 .f32) (w : FVec Ideal S1024x1024 .f32) (r : Fin 16384) (j : Fin 1024) :
    resR x o w (ix2 r j) = x (ix2 r j) + ∑ k : Fin 1024, o (ix2 r k) * w (ix2 k j) := by
  pointwise [resR]

theorem rmsR_apply (y : FVec Ideal S16384x1024 .f32) (g : FVec Ideal S1024 .f32) (r : Fin 16384) (j : Fin 1024) :
    rmsR y g (ix2 r j) = rms (fun k => y (ix2 r k)) (fun k => g (ix1 k)) j := by
  pointwise [rmsR]
  rfl

theorem upR_apply (h : FVec Ideal S16384x1024 .f32) (w1 : FVec Ideal S1024x4096 .f32) (r : Fin 16384) (j : Fin 4096) :
    upR h w1 (ix2 r j) = ∑ k : Fin 1024, h (ix2 r k) * w1 (ix2 k j) := by
  pointwise [upR]

theorem downR_apply (a : FVec Ideal S16384x4096 .f32) (w2 : FVec Ideal S4096x1024 .f32) (r : Fin 16384) (j : Fin 1024) :
    downR a w2 (ix2 r j) = ∑ k : Fin 4096, a (ix2 r k) * w2 (ix2 k j) := by
  pointwise [downR]

theorem posR_apply (a : FVec Ideal S16384x4096 .f32) (r : Fin 16384) (j : Fin 4096) : posR a (ix2 r j) = (max (a (ix2 r j) : EReal) 0 : EReal) := by
  pointwise [posR]

theorem sqR_apply (a : FVec Ideal S16384x4096 .f32) (r : Fin 16384) (j : Fin 4096) : sqR a (ix2 r j) = reluSq (a (ix2 r j)) := by
  show (posR a (ix2 r j) : EReal) * posR a (ix2 r j) = _
  rw [posR_apply]
  rfl

theorem mlpR_apply (y : FVec Ideal S16384x1024 .f32) (g : FVec Ideal S1024 .f32) (w1 : FVec Ideal S1024x4096 .f32) (w2 : FVec Ideal S4096x1024 .f32) (r : Fin 16384) (j : Fin 1024) :
    mlpR y g w1 w2 (ix2 r j) = mlp (fun k => g (ix1 k)) (fun k i => w1 (ix2 k i)) (fun k i => w2 (ix2 k i)) (fun k => y (ix2 r k)) j := by
  show (y (ix2 r j) : EReal) + downR (sqR (upR (rmsR y g) w1)) w2 (ix2 r j) = _
  rw [downR_apply]
  simp only [sqR_apply, upR_apply, rmsR_apply]
  rfl

theorem out_apply (x o : FVec Ideal S16384x1024 .f32) (w : FVec Ideal S1024x1024 .f32) (g : FVec Ideal S1024 .f32) (w1 : FVec Ideal S1024x4096 .f32) (w2 : FVec Ideal S4096x1024 .f32)
    (gf : FVec Ideal S1024 .f32) (r : Fin 16384) (j : Fin 1024) :
    rmsR (mlpR (resR x o w) g w1 w2) gf (ix2 r j) = outRow (fun k => x (ix2 r k)) (fun k => o (ix2 r k)) (fun k i => w (ix2 k i)) (fun k => g (ix1 k))
      (fun k i => w1 (ix2 k i)) (fun k i => w2 (ix2 k i)) (fun k => gf (ix1 k)) j := by
  rw [rmsR_apply]
  simp only [mlpR_apply, resR_apply]
  rfl

/-- The reference leaves its arguments as they were; it has no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run _ _ _).mono (fun r h => ⟨fun c => (h c).2, sem_eq_zero_of_no_sems (by decide) r.2⟩) (Value.run m ρ)

end Cert.Reference2Ideal.Out
end
-- ==== Proof.MixRunI.lean ====
/- One point's run of the convolution mixer's call, for any floats. The scratch carries the last two rows of a block's gated
   input to the next block; nothing else of it is read before it is written. -/
module

public import proofs.«01_k».proof.Proof.Gen.Kernel3Ideal.Launch
public import proofs.«01_k».proof.Proof.Gen.Kernel3Ideal.Points
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves -/

abbrev rX : Rect S512x1024 := Rect.unit (s := S512x1024) ![0, 0] S512x1024.size inb_S512x1024_S512x1024_0_0
abbrev rG : Rect S1x1024 := Rect.unit (s := S1x1024) ![0, 0] S1x1024.size inb_S1x1024_S1x1024_0_0
abbrev rIn0 : Rect S1024x3072 := Rect.unit (s := S1024x3072) ![0, 0] S1024x1024.size inb_S1024x3072_S1024x1024_0_0
abbrev rIn1 : Rect S1024x3072 := Rect.unit (s := S1024x3072) ![0, 1024] S1024x1024.size inb_S1024x3072_S1024x1024_0_1024
abbrev rIn2 : Rect S1024x3072 := Rect.unit (s := S1024x3072) ![0, 2048] S1024x1024.size inb_S1024x3072_S1024x1024_0_2048
abbrev rTap0 : Rect S3x1024 := Rect.unit (s := S3x1024) ![0, 0] S1x1024.size inb_S3x1024_S1x1024_0_0
abbrev rTap1 : Rect S3x1024 := Rect.unit (s := S3x1024) ![1, 0] S1x1024.size inb_S3x1024_S1x1024_1_0
abbrev rTap2 : Rect S3x1024 := Rect.unit (s := S3x1024) ![2, 0] S1x1024.size inb_S3x1024_S1x1024_2_0
abbrev rW : Rect S1024x1024 := Rect.unit (s := S1024x1024) ![0, 0] S1024x1024.size inb_S1024x1024_S1024x1024_0_0
abbrev rUp0 : Rect S1024x4096 := Rect.unit (s := S1024x4096) ![0, 0] S1024x1024.size inb_S1024x4096_S1024x1024_0_0
abbrev rUp1 : Rect S1024x4096 := Rect.unit (s := S1024x4096) ![0, 1024] S1024x1024.size inb_S1024x4096_S1024x1024_0_1024
abbrev rUp2 : Rect S1024x4096 := Rect.unit (s := S1024x4096) ![0, 2048] S1024x1024.size inb_S1024x4096_S1024x1024_0_2048
abbrev rUp3 : Rect S1024x4096 := Rect.unit (s := S1024x4096) ![0, 3072] S1024x1024.size inb_S1024x4096_S1024x1024_0_3072
abbrev rDn0 : Rect S4096x1024 := Rect.unit (s := S4096x1024) ![0, 0] S1024x1024.size inb_S4096x1024_S1024x1024_0_0
abbrev rDn1 : Rect S4096x1024 := Rect.unit (s := S4096x1024) ![1024, 0] S1024x1024.size inb_S4096x1024_S1024x1024_1024_0
abbrev rDn2 : Rect S4096x1024 := Rect.unit (s := S4096x1024) ![2048, 0] S1024x1024.size inb_S4096x1024_S1024x1024_2048_0
abbrev rDn3 : Rect S4096x1024 := Rect.unit (s := S4096x1024) ![3072, 0] S1024x1024.size inb_S4096x1024_S1024x1024_3072_0
abbrev rS : Rect S1x2x1024 := Rect.unit (s := S1x2x1024) ![0, 0, 0] S1x2x1024.size inb_S1x2x1024_S1x2x1024_0_0_0
/-- The scratch's rows: the two carried ones, the block's own, the block shifted by two rows and by one, and its last two. -/
abbrev rP : Rect S1x520x1024 := Rect.unit (s := S1x520x1024) ![0, 6, 0] S1x2x1024.size inb_S1x520x1024_S1x2x1024_0_6_0
abbrev rU : Rect S1x520x1024 := Rect.unit (s := S1x520x1024) ![0, 8, 0] S1x512x1024.size inb_S1x520x1024_S1x512x1024_0_8_0
abbrev rB2 : Rect S1x520x1024 := Rect.unit (s := S1x520x1024) ![0, 6, 0] S1x512x1024.size inb_S1x520x1024_S1x512x1024_0_6_0
abbrev rB1 : Rect S1x520x1024 := Rect.unit (s := S1x520x1024) ![0, 7, 0] S1x512x1024.size inb_S1x520x1024_S1x512x1024_0_7_0
abbrev rT : Rect S1x520x1024 := Rect.unit (s := S1x520x1024) ![0, 518, 0] S1x2x1024.size inb_S1x520x1024_S1x2x1024_0_518_0

/-- The scratch. -/
abbrev scM : Memref sig .tc .vmem S1x520x1024 .f32 := Memref.whole cc0_scratch0

/-- A block's gated input `u`, one plane, as the products give it and as it is stored. -/
def uB (x0 : Vec F S512x1024 .f32) (x2 : Vec F S1x1024 .f32) (x3 : Vec F S1024x3072 .bf16) : Vec F S1x512x1024 .f32 :=
  k0_pay6 (View.ld x0 rX) (View.ld x2 rG) (View.ld x3 rIn1) (View.ld x3 rIn2)

def uS (x0 : Vec F S512x1024 .f32) (x2 : Vec F S1x1024 .f32) (x3 : Vec F S1024x3072 .bf16) : Vec F S1x512x1024 .f32 :=
  k0_pay7 (View.ld x0 rX) (View.ld x2 rG) (View.ld x3 rIn1) (View.ld x3 rIn2)

/-- A load of the scratch's rows once the block's `u` are stored below two carried rows `p`. -/
def ext (p : Vec F S1x2x1024 .f32) (u : Vec F S1x512x1024 .f32) (r : Rect S1x520x1024) : Vec F r.shape .f32 :=
  scM.view.readCov [⟨rU, u⟩, ⟨rP, p⟩] r.toLoadRect

/-- A block's last two rows. -/
def tailU (p : Vec F S1x2x1024 .f32) (u : Vec F S1x512x1024 .f32) : Vec F S1x2x1024 .f32 := ext p u rT

def resid (x0 : Vec F S512x1024 .f32) (x2 : Vec F S1x1024 .f32) (x3 : Vec F S1024x3072 .bf16) (x4 : Vec F S3x1024 .f32) (x5 : Vec F S1024x1024 .bf16) (p : Vec F S1x2x1024 .f32) : FVec F S512x1024 .f32 :=
  k0_pay8 (View.ld x0 rX) (k0_pay5 (View.ld x0 rX) (View.ld x2 rG) (View.ld x3 rIn0)) (uB x0 x2 x3)
    (View.ld x4 rTap2) (View.ld x4 rTap0) (ext p (uS x0 x2 x3) rB2) (View.ld x4 rTap1) (ext p (uS x0 x2 x3) rB1) (View.ld x5 rW)

def normed (x0 : Vec F S512x1024 .f32) (x2 : Vec F S1x1024 .f32) (x3 : Vec F S1024x3072 .bf16) (x4 : Vec F S3x1024 .f32) (x5 : Vec F S1024x1024 .bf16) (p : Vec F S1x2x1024 .f32) (x6 : Vec F S1x1024 .f32) : FVec F S512x1024 .bf16 :=
  k0_pay9 (View.ld x0 rX) (k0_pay5 (View.ld x0 rX) (View.ld x2 rG) (View.ld x3 rIn0)) (uB x0 x2 x3)
    (View.ld x4 rTap2) (View.ld x4 rTap0) (ext p (uS x0 x2 x3) rB2) (View.ld x4 rTap1) (ext p (uS x0 x2 x3) rB1) (View.ld x5 rW) (View.ld x6 rG)

/-- A block of the result. -/
def outMix (x0 : Vec F S512x1024 .f32) (x2 : Vec F S1x1024 .f32) (x3 : Vec F S1024x3072 .bf16) (x4 : Vec F S3x1024 .f32) (x5 : Vec F S1024x1024 .bf16) (x6 : Vec F S1x1024 .f32) (x7 : Vec F S1024x4096 .bf16) (x8 : Vec F S4096x1024 .bf16) (p : Vec F S1x2x1024 .f32) : Vec F S512x1024 .f32 :=
  View.canon [⟨rX, k0_pay1
    (k0_pay11 (resid x0 x2 x3 x4 x5 p) (normed x0 x2 x3 x4 x5 p x6) (k0_pay10 (View.ld x7 rUp0)) (constant S512x1024 .f32 0x00000000#32)
      (View.ld x8 rDn0) (View.ld x7 rUp1) (View.ld x8 rDn1) (View.ld x7 rUp2) (View.ld x8 rDn2))
    (k0_pay12 (normed x0 x2 x3 x4 x5 p x6) (View.ld x7 rUp3)) (View.ld x8 rDn3)⟩]

theorem cover0_10 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y
theorem cover0_11 (p0 : Vec F S1x2x1024 .f32) (y : S1x2x1024.Idx) :
    ∃ pc ∈ ([⟨rS, p0⟩] : List (View.Piece (Elt F) S1x2x1024 .f32)), y ∈ pc.1.set :=
  View.cover_of_tiled [⟨rS, p0⟩] S1x2x1024.size (by rfl) y

/-! ## The body's run -/

/-- The scratch held whole at `f`. -/
abbrev ScBuf (c : Dev nD) : Type := Buf (Elt F) (scM.view.loc (c : Thread nD τ))
abbrev scPt (c : Dev nD) (f : ScBuf (F := F) c) : sProp 𝕄 := scM.view.loc (c : Thread nD τ) ↦{fullShare} f
/-- A scratch whose two carried rows hold `p`. -/
abbrev carried {c : Dev nD} (f : ScBuf (F := F) c) (p : Vec F S1x2x1024 .f32) : ScBuf (F := F) c :=
  scM.view.writes (Elt F) f [⟨rP, p⟩]

theorem scPt_split (c : Dev nD) (f : ScBuf (F := F) c) (p : Vec F S1x2x1024 .f32) (L : List (View.Piece (Elt F) S1x520x1024 .f32)) :
    (scPt c (scM.view.writes (Elt F) f (⟨rP, p⟩ :: L)) : sProp 𝕄) ⊢ iprop(∃ g, scPt c (carried g p)) := by
  iintro H
  iexists (scM.view.writes (Elt F) f L)
  iexact H

theorem word_ne : ∀ n : Fin 32, n.val ≠ 0 →
    ¬ (Scalar.cmpi .ne (Scalar.extui (Scalar.cmpi .eq (BitVec.ofNat 32 n.val) 0#32) : BitVec 32) 0#32 = 1#1) := by decide
theorem not_first (i : grid0.Coords) (hi : (i 0).val ≠ 0) :
    ¬ (Scalar.cmpi .ne (Scalar.extui (Scalar.cmpi .eq (BitVec.ofNat 32 (i 0).val) 0#32) : BitVec 32) 0#32 = 1#1) :=
  word_ne (i 0) hi

set_option maxHeartbeats 200000 in
/-- The first point's run: the carried rows are the past's. -/
theorem run_first (c : Dev nD) (E : Set ℕ) (i : grid0.Coords) (hi : (i 0).val = 0) (arg1 : Memref sig .tc .vmem S512x1024 .f32) (harg1 : arg1.IsWhole) (arg2 : Memref sig .tc .vmem S1x2x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x2x1024 .f32) (harg12 : arg12.IsWhole)
    (x0 : Vec F S512x1024 .f32) (x1 : Vec F S1x2x1024 .f32) (x2 : Vec F S1x1024 .f32) (x3 : Vec F S1024x3072 .bf16) (x4 : Vec F S3x1024 .f32) (x5 : Vec F S1024x1024 .bf16) (x6 : Vec F S1x1024 .f32) (x7 : Vec F S1024x4096 .bf16) (x8 : Vec F S4096x1024 .bf16) (x9 : Vec F S1x1024 .f32) (f : ScBuf (F := F) c) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ scPt c f
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outMix x0 x2 x3 x4 x5 x6 x7 x8 (k0_pay3 (View.ld x1 rS))) ∗ owns (c : Thread nD τ) arg12 fullShare (View.canon [⟨rS, tailU (k0_pay3 (View.ld x1 rS)) (uS x0 x2 x3)⟩]) ∗ (∃ f, scPt c (carried f (k0_pay2 (tailU (k0_pay3 (View.ld x1 rS)) (uS x0 x2 x3)))))) -∗ K ⟨⟩))
      ⊢ wp frame (wpE (defs₀ (F := F)) Variants.none c none) E (cc0_conv_mixer i arg1 harg1 arg2 harg2 arg3 harg3 arg4 harg4 arg5 harg5 arg6 harg6 arg7 harg7 arg8 harg8 arg9 harg9 arg10 harg10 arg11 harg11 arg12 harg12 scM (Memref.isWhole_whole _)) K := by
  simp only [cc0_conv_mixer_eq_skeleton]; unfold cc0_conv_mixer_skel
  simp only [k0_part1_eq_skeleton, k0_part2_eq_skeleton, k0_part3_eq_skeleton]
  unfold k0_part1_skel
  simp only [hi]
  unfold owns scPt
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, H12, Hk⟩
  subst hf0 hf1 hf2 hf3 hf4 hf5 hf6 hf7 hf8 hf9
  set_option sl_exec.stridedRows true in sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iapply scPt_split
  iexact H12

set_option maxHeartbeats 200000 in
/-- A later point's run: the carried rows are what the point before left. -/
theorem run_later (c : Dev nD) (E : Set ℕ) (i : grid0.Coords) (hi : (i 0).val ≠ 0) (arg1 : Memref sig .tc .vmem S512x1024 .f32) (harg1 : arg1.IsWhole) (arg2 : Memref sig .tc .vmem S1x2x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x2x1024 .f32) (harg12 : arg12.IsWhole)
    (x0 : Vec F S512x1024 .f32) (x1 : Vec F S1x2x1024 .f32) (x2 : Vec F S1x1024 .f32) (x3 : Vec F S1024x3072 .bf16) (x4 : Vec F S3x1024 .f32) (x5 : Vec F S1024x1024 .bf16) (x6 : Vec F S1x1024 .f32) (x7 : Vec F S1024x4096 .bf16) (x8 : Vec F S4096x1024 .bf16) (x9 : Vec F S1x1024 .f32) (p : Vec F S1x2x1024 .f32) (f : ScBuf (F := F) c) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ scPt c (carried f p)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outMix x0 x2 x3 x4 x5 x6 x7 x8 p) ∗ owns (c : Thread nD τ) arg12 fullShare (View.canon [⟨rS, tailU p (uS x0 x2 x3)⟩]) ∗ (∃ f, scPt c (carried f (k0_pay2 (tailU p (uS x0 x2 x3)))))) -∗ K ⟨⟩))
      ⊢ wp frame (wpE (defs₀ (F := F)) Variants.none c none) E (cc0_conv_mixer i arg1 harg1 arg2 harg2 arg3 harg3 arg4 harg4 arg5 harg5 arg6 harg6 arg7 harg7 arg8 harg8 arg9 harg9 arg10 harg10 arg11 harg11 arg12 harg12 scM (Memref.isWhole_whole _)) K := by
  have hc : ¬ (Scalar.cmpi .ne (Scalar.extui (Scalar.cmpi .eq (BitVec.ofNat 32 (i 0).val) 0#32) : BitVec 32) 0#32 = 1#1) :=
    not_first i hi
  simp only [cc0_conv_mixer_eq_skeleton]; unfold cc0_conv_mixer_skel
  simp only [k0_part1_eq_skeleton, k0_part2_eq_skeleton, k0_part3_eq_skeleton]
  unfold k0_part1_skel
  simp only [dif_neg hc]
  unfold owns scPt
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, H12, Hk⟩
  subst hf0 hf1 hf2 hf3 hf4 hf5 hf6 hf7 hf8 hf9
  set_option sl_exec.stridedRows true in sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iapply scPt_split
  iexact H12

end Cert.Kernel3Ideal.Mix

end
-- ==== Proof.Conv.lean ====
module
public import proofs.«01_k».proof.Proof.Ffn

/-! The convolution mixer's layer over the extended reals, row by row: the gated input below the two past rows, the three taps, the
output product, and the feed-forward part. -/

@[expose] public section
noncomputable section
namespace Cert.Conv
open Cert.Ffn
open scoped BigOperators

/-- The columns from `o` on of the input product's weights. -/
def cutC (w : Fin 1024 → Fin 3072 → EReal) (o : ℕ) (ho : o ≤ 2048) (k j : Fin 1024) : EReal := w k ⟨o + j.val, by omega⟩

def dotRow (h : Fin 1024 → EReal) (w : Fin 1024 → Fin 1024 → EReal) (j : Fin 1024) : EReal := ∑ k, h k * w k j

/-- A row's gated input. -/
def gated (h : Fin 1024 → EReal) (w : Fin 1024 → Fin 3072 → EReal) (j : Fin 1024) : EReal :=
  dotRow h (cutC w 1024 (by omega)) j * dotRow h (cutC w 2048 (by omega)) j

/-- The gated inputs below the two past rows. -/
def padded (p : Fin 2 → Fin 1024 → EReal) (u : Fin 16384 → Fin 1024 → EReal) (n : Fin 16386) (j : Fin 1024) : EReal :=
  if h : n.val < 2 then p ⟨n.val, h⟩ j else u ⟨n.val - 2, by omega⟩ j

/-- The three taps at a row. -/
def taps (cw : Fin 3 → Fin 1024 → EReal) (up : Fin 16386 → Fin 1024 → EReal) (r : Fin 16384) (j : Fin 1024) : EReal :=
  cw 0 j * up ⟨r.val, by omega⟩ j + cw 1 j * up ⟨r.val + 1, by omega⟩ j + cw 2 j * up ⟨r.val + 2, by omega⟩ j

/-- A row after the mixer. -/
def mixed (x h v : Fin 1024 → EReal) (wi : Fin 1024 → Fin 3072 → EReal) (wo : Fin 1024 → Fin 1024 → EReal) (j : Fin 1024) : EReal :=
  x j + ∑ k, dotRow h (cutC wi 0 (by omega)) k * v k * wo k j

/-- The gated inputs of all rows, below the two past rows. -/
def rows (x : Fin 16384 → Fin 1024 → EReal) (p : Fin 2 → Fin 1024 → EReal) (g : Fin 1024 → EReal) (wi : Fin 1024 → Fin 3072 → EReal) : Fin 16386 → Fin 1024 → EReal :=
  padded p (fun n => gated (rms (x n) g) wi)

/-- A row after the layer. -/
def layer (x : Fin 16384 → Fin 1024 → EReal) (p : Fin 2 → Fin 1024 → EReal) (g : Fin 1024 → EReal) (wi : Fin 1024 → Fin 3072 → EReal) (cw : Fin 3 → Fin 1024 → EReal)
    (wo : Fin 1024 → Fin 1024 → EReal) (gm : Fin 1024 → EReal) (w1 : Fin 1024 → Fin 4096 → EReal) (w2 : Fin 4096 → Fin 1024 → EReal) (r : Fin 16384) (j : Fin 1024) : EReal :=
  mlp gm w1 w2 (mixed (x r) (rms (x r) g) (taps cw (rows x p g wi) r) wi wo) j

end Cert.Conv
end
-- ==== Proof.Body3.lean ====
module
public import proofs.«01_k».proof.Proof.MixRunI
public import proofs.«01_k».proof.Proof.Conv
public import Idealize.ShloMosaic.Lib.Pointwise
public import Idealize.ShloMosaic.Lib.Pipeline.Value
public import Idealize.ShloMosaic.Lib.Pipeline.ValueKit

/-! What the convolution mixer's body leaves for a block of rows: each row through the mixer and the feed-forward part, and the
block's last two gated inputs. -/

@[expose] public section
set_option maxRecDepth 16384
noncomputable section
namespace Cert.Kernel3Ideal.Mix
open Cert.Kernel3Ideal Cert.Kernel3Ideal.Gen Cert.Ffn Cert.Conv
open Idealize.ShloMosaic Idealize.ShloMosaic.TcCoe
open scoped BigOperators

section
variable {F : FTy → Type} [FloatOps F]

/-- The norm of a block's rows. -/
def rmsK (y : FVec F S512x1024 .f32) (g : FVec F S1x1024 .f32) : FVec F S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x3727C5AC#32)))) broadcasts_S512x1_S512x1024))
    (broadcastTo S512x1024 g broadcasts_S1x1024_S512x1024)

/-- A product of a block's rows with a square. -/
def mmK (h : FVec F S512x1024 .bf16) (w : FVec F S1024x1024 .bf16) : FVec F S512x1024 .f32 :=
  matmul dot_S512x1024_S1024x1024_S512x1024_1_0_0_1_n_n none h (shapeCast S1024x1024 w shapeCasts_S1024x1024_S1024x1024) (constant S512x1024 .f32 0x00000000#32)

/-- The squared positive part of a block. -/
def sqK (a : FVec F S512x1024 .f32) : FVec F S512x1024 .bf16 :=
  truncf .bf16 (mulf (maximumf a (broadcast S512x1024 (Scalar.ofBits .f32 0x00000000#32))) (maximumf a (broadcast S512x1024 (Scalar.ofBits .f32 0x00000000#32)))) bitsLt_bf16_f32

/-- A quarter of the feed-forward part. -/
def partK (h : FVec F S512x1024 .bf16) (w1 w2 : FVec F S1024x1024 .bf16) : FVec F S512x1024 .f32 := mmK (sqK (mmK h w1)) w2

def hK (g : FVec F S1x1024 .f32) (y : FVec F S512x1024 .f32) : FVec F S512x1024 .bf16 :=
  truncf .bf16 (rmsK y (shapeCast S1x1024 g shapeCasts_S1x1024_S1x1024)) bitsLt_bf16_f32

def mlpK (g : FVec F S1x1024 .f32) (a0 a1 a2 a3 b0 b1 b2 b3 : FVec F S1024x1024 .bf16) (y : FVec F S512x1024 .f32) : FVec F S512x1024 .f32 :=
  addf (addf (addf (addf y (partK (hK g y) a0 b0)) (partK (hK g y) a1 b1)) (partK (hK g y) a2 b2)) (partK (hK g y) a3 b3)

/-- The gated input of a block. -/
def uK (h : FVec F S512x1024 .bf16) (w1 w2 : FVec F S1024x1024 .bf16) : FVec F S512x1024 .f32 := mulf (mmK h w1) (mmK h w2)

/-- One tap of a plane. -/
def tapK (v : FVec F S1x1024 .f32) (u : FVec F S1x512x1024 .f32) : FVec F S1x512x1024 .f32 :=
  mulf (broadcastTo S1x512x1024 (shapeCast S1x1x1024 v shapeCasts_S1x1024_S1x1x1024) broadcasts_S1x1x1024_S1x512x1024) u

/-- The rows of a plane. -/
def rowsK (v : FVec F S1x512x1024 .f32) : FVec F S512x1024 .f32 := shapeCast S512x1024 v shapeCasts_S1x512x1024_S512x1024

def mixK (x b v : FVec F S512x1024 .f32) (wo : FVec F S1024x1024 .bf16) : FVec F S512x1024 .f32 :=
  addf x (mmK (truncf .bf16 (mulf b v) bitsLt_bf16_f32) wo)

def planeK (u : FVec F S512x1024 .f32) : FVec F S1x512x1024 .f32 := shapeCast S1x512x1024 u shapeCasts_S512x1024_S1x512x1024

variable (x : FVec F S512x1024 .f32) (g gm c0 c1 c2 : FVec F S1x1024 .f32) (u b1 b2 : FVec F S1x512x1024 .f32) (b y : FVec F S512x1024 .f32) (w0 w1 w2 wo a0 a1 a2 a3 d0 d1 d2 d3 : FVec F S1024x1024 .bf16)

theorem pay5_eq : k0_pay5 x g w0 = mmK (hK g x) w0 := rfl
theorem pay6_eq : k0_pay6 x g w1 w2 = planeK (uK (hK g x) w1 w2) := rfl
theorem pay8_eq : k0_pay8 x b u c2 c0 b2 c1 b1 wo = mixK x b (rowsK (addf (addf (tapK c2 u) (tapK c0 b2)) (tapK c1 b1))) wo := rfl
theorem pay9_eq : k0_pay9 x b u c2 c0 b2 c1 b1 wo gm = hK gm (k0_pay8 x b u c2 c0 b2 c1 b1 wo) := rfl
theorem pay1_eq : k0_pay1 (k0_pay11 y (hK gm y) (k0_pay10 a0) (constant S512x1024 .f32 0x00000000#32) d0 a1 d1 a2 d2) (k0_pay12 (hK gm y) a3) d3
    = mlpK gm a0 a1 a2 a3 d0 d1 d2 d3 y := rfl
end

/-- A block's row, and a square's or a gain's entries. -/
abbrev row (y : FVec Ideal S512x1024 .f32) (r : Fin 512) (j : Fin 1024) : EReal := y (ix2 r j)
abbrev mat (w : FVec Ideal S1024x1024 .bf16) (k j : Fin 1024) : EReal := w (ix2 k j)
abbrev gain (g : FVec Ideal S1x1024 .f32) (j : Fin 1024) : EReal := g (ix2 (0 : Fin 1) j)
abbrev plane (u : FVec Ideal S1x512x1024 .f32) (r : Fin 512) (j : Fin 1024) : EReal := u (ix3 (0 : Fin 1) r j)
abbrev pair (p : FVec Ideal S1x2x1024 .f32) (q : Fin 2) (j : Fin 1024) : EReal := p (ix3 (0 : Fin 1) q j)

theorem rmsK_apply (y : FVec Ideal S512x1024 .f32) (g : FVec Ideal S1x1024 .f32) (r : Fin 512) (j : Fin 1024) :
    rmsK y g (ix2 r j) = rms (row y r) (gain g) j := by
  pointwise [rmsK]
  rfl

theorem mmK_apply (h : FVec Ideal S512x1024 .bf16) (w : FVec Ideal S1024x1024 .bf16) (r : Fin 512) (j : Fin 1024) :
    mmK h w (ix2 r j) = ∑ k : Fin 1024, h (ix2 r k) * w (ix2 k j) := by
  pointwise [mmK]

theorem sqK_apply (a : FVec Ideal S512x1024 .f32) (r : Fin 512) (j : Fin 1024) : sqK a (ix2 r j) = reluSq (a (ix2 r j)) := by
  pointwise [sqK]
  rfl

theorem partK_apply (h : FVec Ideal S512x1024 .bf16) (w1 w2 : FVec Ideal S1024x1024 .bf16) (r : Fin 512) (j : Fin 1024) :
    partK h w1 w2 (ix2 r j) = twoLayer (fun k => h (ix2 r k)) (mat w1) (mat w2) j := by
  unfold partK twoLayer
  rw [mmK_apply]
  simp only [sqK_apply, mmK_apply]

theorem hK_apply (g : FVec Ideal S1x1024 .f32) (y : FVec Ideal S512x1024 .f32) (r : Fin 512) (j : Fin 1024) :
    hK g y (ix2 r j) = rms (row y r) (gain g) j := by
  have e : shapeCast S1x1024 g shapeCasts_S1x1024_S1x1024 = g := by
    pointwise
  show rmsK y (shapeCast S1x1024 g shapeCasts_S1x1024_S1x1024) (ix2 r j) = _
  rw [e, rmsK_apply]

theorem mlpK_apply (g : FVec Ideal S1x1024 .f32) (a0 a1 a2 a3 b0 b1 b2 b3 : FVec Ideal S1024x1024 .bf16) (y : FVec Ideal S512x1024 .f32) (r : Fin 512) (j : Fin 1024) :
    mlpK g a0 a1 a2 a3 b0 b1 b2 b3 y (ix2 r j) = (((row y r j + twoLayer (rms (row y r) (gain g)) (mat a0) (mat b0) j)
      + twoLayer (rms (row y r) (gain g)) (mat a1) (mat b1) j) + twoLayer (rms (row y r) (gain g)) (mat a2) (mat b2) j)
      + twoLayer (rms (row y r) (gain g)) (mat a3) (mat b3) j := by
  show (((y (ix2 r j) + partK (hK g y) a0 b0 (ix2 r j)) + partK (hK g y) a1 b1 (ix2 r j)) + partK (hK g y) a2 b2 (ix2 r j)) + partK (hK g y) a3 b3 (ix2 r j) = _
  simp only [partK_apply, hK_apply]

theorem planeK_apply (u : FVec Ideal S512x1024 .f32) (r : Fin 512) (j : Fin 1024) : planeK u (ix3 (0 : Fin 1) r j) = u (ix2 r j) := by
  pointwise [planeK]

theorem rowsK_apply (u : FVec Ideal S1x512x1024 .f32) (r : Fin 512) (j : Fin 1024) : rowsK u (ix2 r j) = u (ix3 (0 : Fin 1) r j) := by
  pointwise [rowsK]

theorem tapK_apply (v : FVec Ideal S1x1024 .f32) (u : FVec Ideal S1x512x1024 .f32) (r : Fin 512) (j : Fin 1024) :
    tapK v u (ix3 (0 : Fin 1) r j) = gain v j * plane u r j := by
  pointwise [tapK]

theorem uK_apply (g : FVec Ideal S1x1024 .f32) (x : FVec Ideal S512x1024 .f32) (w1 w2 : FVec Ideal S1024x1024 .bf16) (r : Fin 512) (j : Fin 1024) :
    uK (hK g x) w1 w2 (ix2 r j) = dotRow (rms (row x r) (gain g)) (mat w1) j * dotRow (rms (row x r) (gain g)) (mat w2) j := by
  show (mmK (hK g x) w1 (ix2 r j) : EReal) * mmK (hK g x) w2 (ix2 r j) = _
  rw [mmK_apply, mmK_apply]
  simp only [hK_apply]
  rfl

theorem mixK_apply (x b v : FVec Ideal S512x1024 .f32) (wo : FVec Ideal S1024x1024 .bf16) (r : Fin 512) (j : Fin 1024) :
    mixK x b v wo (ix2 r j) = row x r j + ∑ k, row b r k * row v r k * mat wo k j := by
  show (x (ix2 r j) : EReal) + mmK _ wo (ix2 r j) = _
  rw [mmK_apply]
  rfl

/-! ## The loads -/

theorem inCol (x3 : FVec Ideal S1024x3072 .bf16) (o : ℕ) (ho : o ≤ 2048) (inb) :
    mat (View.ld (Val := Elt Ideal) (e' := .bf16) x3 (Rect.unit (s := S1024x3072) ![0, o] S1024x1024.size inb)) = cutC (fun k i => x3 (ix2 k i)) o ho := by
  funext k j
  refine View.ld_unit_apply_of (Val := Elt Ideal) (e := .bf16) x3 _ _ _ _ (ix2 k (⟨o + j.val, by omega⟩ : Fin 3072)) ?_
  intro a
  fin_cases a
  · exact (Nat.zero_add k.val).symm
  · rfl

theorem col (x4 : FVec Ideal S1024x4096 .bf16) (o : ℕ) (ho : o ≤ 3072) (inb) :
    mat (View.ld (Val := Elt Ideal) (e' := .bf16) x4 (Rect.unit (s := S1024x4096) ![0, o] S1024x1024.size inb)) = cut1 (fun k i => x4 (ix2 k i)) o ho := by
  funext k j
  refine View.ld_unit_apply_of (Val := Elt Ideal) (e := .bf16) x4 _ _ _ _ (ix2 k (⟨o + j.val, by omega⟩ : Fin 4096)) ?_
  intro a
  fin_cases a
  · exact (Nat.zero_add k.val).symm
  · rfl

theorem rowCut (x5 : FVec Ideal S4096x1024 .bf16) (o : ℕ) (ho : o ≤ 3072) (inb) :
    mat (View.ld (Val := Elt Ideal) (e' := .bf16) x5 (Rect.unit (s := S4096x1024) ![o, 0] S1024x1024.size inb)) = cut2 (fun k i => x5 (ix2 k i)) o ho := by
  funext k j
  refine View.ld_unit_apply_of (Val := Elt Ideal) (e := .bf16) x5 _ _ _ _ (ix2 (⟨o + k.val, by omega⟩ : Fin 4096) j) ?_
  intro a
  fin_cases a
  · rfl
  · exact (Nat.zero_add j.val).symm

theorem tapRow (x4 : FVec Ideal S3x1024 .f32) (o : ℕ) (ho : o < 3) (inb) (j : Fin 1024) :
    gain (View.ld (Val := Elt Ideal) (e' := .f32) x4 (Rect.unit (s := S3x1024) ![o, 0] S1x1024.size inb)) j = x4 (ix2 (⟨o, ho⟩ : Fin 3) j) := by
  refine View.ld_unit_apply_of (Val := Elt Ideal) (e := .f32) x4 _ _ _ _ (ix2 (⟨o, ho⟩ : Fin 3) j) ?_
  intro a
  fin_cases a
  · rfl
  · exact (Nat.zero_add j.val).symm

theorem hz2 : (![0, 0] : Fin 2 → ℕ) = fun _ => 0 := by funext a; fin_cases a <;> rfl
theorem hz3 : (![0, 0, 0] : Fin 3 → ℕ) = fun _ => 0 := by funext a; fin_cases a <;> rfl
theorem ldX (x : FVec Ideal S512x1024 .f32) : View.ld (Val := Elt Ideal) (e' := .f32) x rX = x := View.ld_unit_zero (Val := Elt Ideal) (e := .f32) (S := S512x1024) hz2 _ x
theorem ldG (x : FVec Ideal S1x1024 .f32) : View.ld (Val := Elt Ideal) (e' := .f32) x rG = x := View.ld_unit_zero (Val := Elt Ideal) (e := .f32) (S := S1x1024) hz2 _ x
theorem ldW (x : FVec Ideal S1024x1024 .bf16) : View.ld (Val := Elt Ideal) (e' := .bf16) x rW = x := View.ld_unit_zero (Val := Elt Ideal) (e := .bf16) (S := S1024x1024) hz2 _ x
theorem ldS (x : FVec Ideal S1x2x1024 .f32) : View.ld (Val := Elt Ideal) (e' := .f32) x rS = x := View.ld_unit_zero (Val := Elt Ideal) (e := .f32) (S := S1x2x1024) hz3 _ x

/-! ## The scratch -/

/-- A block's gated inputs below the two carried rows. -/
def below (p : Fin 2 → Fin 1024 → EReal) (u : Fin 512 → Fin 1024 → EReal) (n : Fin 514) (j : Fin 1024) : EReal :=
  if h : n.val < 2 then p ⟨n.val, h⟩ j else u ⟨n.val - 2, by omega⟩ j

theorem scratch_apply (p : FVec Ideal S1x2x1024 .f32) (u : FVec Ideal S1x512x1024 .f32) (n : Fin 514) (j : Fin 1024) :
    View.canon (Val := Elt Ideal) (e := .f32) [⟨rU, u⟩, ⟨rP, p⟩] (ix3 (0 : Fin 1) (⟨6 + n.val, by omega⟩ : Fin 520) j) = below (pair p) (plane u) n j := by
  unfold below
  split
  · rename_i h
    have hn : (ix3 (0 : Fin 1) (⟨6 + n.val, by omega⟩ : Fin 520) j : S1x520x1024.Idx) ∉ rU.set := by
      intro hm
      have := (Rect.mem_set_unit.mp hm 1).1
      have h8 : 8 ≤ 6 + n.val := this
      omega
    refine (View.canon_cons_of_not_mem (Val := Elt Ideal) (e := .f32) ⟨rU, u⟩ [⟨rP, p⟩] hn).trans ?_
    have e : (ix3 (0 : Fin 1) (⟨6 + n.val, by omega⟩ : Fin 520) j : S1x520x1024.Idx) = rP.emb (ix3 (0 : Fin 1) (⟨n.val, h⟩ : Fin 2) j) := by
      funext a
      apply Fin.ext
      fin_cases a
      · rfl
      · show 6 + n.val = 6 + 1 * n.val; omega
      · show j.val = 0 + 1 * j.val; omega
    rw [e]
    exact View.canon_cons_emb (Val := Elt Ideal) (e := .f32) rP p [] _
  · rename_i h
    have e : (ix3 (0 : Fin 1) (⟨6 + n.val, by omega⟩ : Fin 520) j : S1x520x1024.Idx) = rU.emb (ix3 (0 : Fin 1) (⟨n.val - 2, by omega⟩ : Fin 512) j) := by
      funext a
      apply Fin.ext
      fin_cases a
      · rfl
      · show 6 + n.val = 8 + 1 * (n.val - 2); omega
      · show j.val = 0 + 1 * j.val; omega
    rw [e]
    exact View.canon_cons_emb (Val := Elt Ideal) (e := .f32) rU u _ _

theorem ext_two (p : FVec Ideal S1x2x1024 .f32) (u : FVec Ideal S1x512x1024 .f32) (r : Fin 512) (j : Fin 1024) :
    ext (F := Ideal) p u rB2 (ix3 (0 : Fin 1) r j) = below (pair p) (plane u) ⟨r.val, by omega⟩ j := by
  unfold ext
  rw [View.readCov_eq_canon']
  refine Eq.trans (congrArg (View.canon (Val := Elt Ideal) (e := .f32) [⟨rU, u⟩, ⟨rP, p⟩]) ?_) (scratch_apply p u ⟨r.val, by omega⟩ j)
  funext a
  apply Fin.ext
  fin_cases a
  · rfl
  · show 6 + 1 * r.val = 6 + r.val; omega
  · show 0 + 1 * j.val = j.val; omega

theorem ext_one (p : FVec Ideal S1x2x1024 .f32) (u : FVec Ideal S1x512x1024 .f32) (r : Fin 512) (j : Fin 1024) :
    ext (F := Ideal) p u rB1 (ix3 (0 : Fin 1) r j) = below (pair p) (plane u) ⟨r.val + 1, by omega⟩ j := by
  unfold ext
  rw [View.readCov_eq_canon']
  refine Eq.trans (congrArg (View.canon (Val := Elt Ideal) (e := .f32) [⟨rU, u⟩, ⟨rP, p⟩]) ?_) (scratch_apply p u ⟨r.val + 1, by omega⟩ j)
  funext a
  apply Fin.ext
  fin_cases a
  · rfl
  · show 7 + 1 * r.val = 6 + (r.val + 1); omega
  · show 0 + 1 * j.val = j.val; omega

theorem tailU_apply (p : FVec Ideal S1x2x1024 .f32) (u : FVec Ideal S1x512x1024 .f32) (q : Fin 2) (j : Fin 1024) :
    tailU (F := Ideal) p u (ix3 (0 : Fin 1) q j) = below (pair p) (plane u) ⟨512 + q.val, by omega⟩ j := by
  unfold tailU ext
  rw [View.readCov_eq_canon']
  refine Eq.trans (congrArg (View.canon (Val := Elt Ideal) (e := .f32) [⟨rU, u⟩, ⟨rP, p⟩]) ?_) (scratch_apply p u ⟨512 + q.val, by omega⟩ j)
  funext a
  apply Fin.ext
  fin_cases a
  · rfl
  · show 518 + 1 * q.val = 6 + (512 + q.val); omega
  · show 0 + 1 * j.val = j.val; omega

/-! ## The body at an index -/

theorem uB_apply (x0 : FVec Ideal S512x1024 .f32) (x2 : FVec Ideal S1x1024 .f32) (x3 : FVec Ideal S1024x3072 .bf16) (r : Fin 512) (j : Fin 1024) :
    uB (F := Ideal) x0 x2 x3 (ix3 (0 : Fin 1) r j) = gated (rms (row x0 r) (gain x2)) (fun k i => x3 (ix2 k i)) j := by
  unfold uB
  rw [ldX, ldG, pay6_eq, planeK_apply, uK_apply, inCol x3 1024 (by omega), inCol x3 2048 (by omega)]
  rfl

theorem uS_apply (x0 : FVec Ideal S512x1024 .f32) (x2 : FVec Ideal S1x1024 .f32) (x3 : FVec Ideal S1024x3072 .bf16) (r : Fin 512) (j : Fin 1024) :
    uS (F := Ideal) x0 x2 x3 (ix3 (0 : Fin 1) r j) = gated (rms (row x0 r) (gain x2)) (fun k i => x3 (ix2 k i)) j := by
  have e : uS (F := Ideal) x0 x2 x3 = uB x0 x2 x3 := by
    show shapeCast S1x512x1024 (uB (F := Ideal) x0 x2 x3) shapeCasts_S1x512x1024_S1x512x1024 = _
    generalize uB (F := Ideal) x0 x2 x3 = v
    revert v
    intro (v : FVec Ideal S1x512x1024 .f32)
    pointwise
  rw [e, uB_apply]

/-- A block's gated inputs below the carried rows, from the block. -/
def belowX (x0 : FVec Ideal S512x1024 .f32) (x2 : FVec Ideal S1x1024 .f32) (x3 : FVec Ideal S1024x3072 .bf16) (p : FVec Ideal S1x2x1024 .f32) : Fin 514 → Fin 1024 → EReal :=
  below (pair p) (fun r => gated (rms (row x0 r) (gain x2)) (fun k i => x3 (ix2 k i)))

theorem plane_uS (x0 : FVec Ideal S512x1024 .f32) (x2 : FVec Ideal S1x1024 .f32) (x3 : FVec Ideal S1024x3072 .bf16) :
    plane (uS (F := Ideal) x0 x2 x3) = fun r => gated (rms (row x0 r) (gain x2)) (fun k i => x3 (ix2 k i)) :=
  funext fun r => funext fun j => uS_apply x0 x2 x3 r j

theorem tail_apply (x0 : FVec Ideal S512x1024 .f32) (x2 : FVec Ideal S1x1024 .f32) (x3 : FVec Ideal S1024x3072 .bf16) (p : FVec Ideal S1x2x1024 .f32) (q : Fin 2) (j : Fin 1024) :
    tailU (F := Ideal) p (uS x0 x2 x3) (ix3 (0 : Fin 1) q j) = belowX x0 x2 x3 p ⟨512 + q.val, by omega⟩ j := by
  rw [tailU_apply, plane_uS]
  rfl

/-- The taps at a block's row. -/
def tapsB (x4 : FVec Ideal S3x1024 .f32) (up : Fin 514 → Fin 1024 → EReal) (r : Fin 512) (j : Fin 1024) : EReal :=
  x4 (ix2 (0 : Fin 3) j) * up ⟨r.val, by omega⟩ j + x4 (ix2 (1 : Fin 3) j) * up ⟨r.val + 1, by omega⟩ j + x4 (ix2 (2 : Fin 3) j) * up ⟨r.val + 2, by omega⟩ j

theorem convK_apply (c0 c1 c2 : FVec Ideal S1x1024 .f32) (u b1 b2 : FVec Ideal S1x512x1024 .f32) (r : Fin 512) (j : Fin 1024) (y0 y1 y2 z0 z1 z2 : EReal)
    (h0 : gain c0 j = y0) (h1 : gain c1 j = y1) (h2 : gain c2 j = y2) (k0 : plane b2 r j = z0) (k1 : plane b1 r j = z1) (k2 : plane u r j = z2) :
    rowsK (addf (addf (tapK c2 u) (tapK c0 b2)) (tapK c1 b1)) (ix2 r j) = y0 * z0 + y1 * z1 + y2 * z2 := by
  rw [rowsK_apply]
  refine (congrArg₂ (fun a b : EReal => a + b) (congrArg₂ (fun a b : EReal => a + b) (tapK_apply c2 u r j) (tapK_apply c0 b2 r j)) (tapK_apply c1 b1 r j)).trans ?_
  rw [h0, h1, h2, k0, k1, k2, add_assoc, add_comm]

theorem ext_two' (x0 : FVec Ideal S512x1024 .f32) (x2 : FVec Ideal S1x1024 .f32) (x3 : FVec Ideal S1024x3072 .bf16) (p : FVec Ideal S1x2x1024 .f32) (r : Fin 512) (j : Fin 1024) :
    ext (F := Ideal) p (uS (F := Ideal) x0 x2 x3) rB2 (ix3 (0 : Fin 1) r j) = belowX x0 x2 x3 p ⟨r.val, by omega⟩ j := by
  rw [ext_two, plane_uS]
  rfl

theorem ext_one' (x0 : FVec Ideal S512x1024 .f32) (x2 : FVec Ideal S1x1024 .f32) (x3 : FVec Ideal S1024x3072 .bf16) (p : FVec Ideal S1x2x1024 .f32) (r : Fin 512) (j : Fin 1024) :
    ext (F := Ideal) p (uS (F := Ideal) x0 x2 x3) rB1 (ix3 (0 : Fin 1) r j) = belowX x0 x2 x3 p ⟨r.val + 1, by omega⟩ j := by
  rw [ext_one, plane_uS]
  rfl

theorem uB_apply' (x0 : FVec Ideal S512x1024 .f32) (x2 : FVec Ideal S1x1024 .f32) (x3 : FVec Ideal S1024x3072 .bf16) (p : FVec Ideal S1x2x1024 .f32) (r : Fin 512) (j : Fin 1024) :
    uB (F := Ideal) x0 x2 x3 (ix3 (0 : Fin 1) r j) = belowX x0 x2 x3 p ⟨r.val + 2, by omega⟩ j := by
  rw [uB_apply]
  unfold belowX below
  rw [dif_neg (by show ¬ (r.val + 2 < 2); omega)]
  rfl

theorem conv_apply (x0 : FVec Ideal S512x1024 .f32) (x2 : FVec Ideal S1x1024 .f32) (x3 : FVec Ideal S1024x3072 .bf16) (x4 : FVec Ideal S3x1024 .f32) (p : FVec Ideal S1x2x1024 .f32) (r : Fin 512) (j : Fin 1024) :
    rowsK (F := Ideal) (addf (addf (tapK (View.ld (Val := Elt Ideal) (e' := .f32) x4 rTap2) (uB (F := Ideal) x0 x2 x3))
      (tapK (View.ld (Val := Elt Ideal) (e' := .f32) x4 rTap0) (ext (F := Ideal) p (uS (F := Ideal) x0 x2 x3) rB2 : FVec Ideal S1x512x1024 .f32)))
      (tapK (View.ld (Val := Elt Ideal) (e' := .f32) x4 rTap1) (ext (F := Ideal) p (uS (F := Ideal) x0 x2 x3) rB1 : FVec Ideal S1x512x1024 .f32))) (ix2 r j) = tapsB x4 (belowX x0 x2 x3 p) r j :=
  convK_apply _ _ _ _ _ _ r j _ _ _ _ _ _ (tapRow x4 0 (by omega) _ j) (tapRow x4 1 (by omega) _ j) (tapRow x4 2 (by omega) _ j)
    (ext_two' x0 x2 x3 p r j) (ext_one' x0 x2 x3 p r j) (uB_apply' x0 x2 x3 p r j)

theorem resid_apply (x0 : FVec Ideal S512x1024 .f32) (x2 : FVec Ideal S1x1024 .f32) (x3 : FVec Ideal S1024x3072 .bf16) (x4 : FVec Ideal S3x1024 .f32) (x5 : FVec Ideal S1024x1024 .bf16) (p : FVec Ideal S1x2x1024 .f32) (r : Fin 512) (j : Fin 1024) :
    resid (F := Ideal) x0 x2 x3 x4 x5 p (ix2 r j) = mixed (row x0 r) (rms (row x0 r) (gain x2)) (tapsB x4 (belowX x0 x2 x3 p) r) (fun k i => x3 (ix2 k i)) (mat x5) j := by
  unfold resid
  rw [pay8_eq, mixK_apply, ldX, ldG, ldW, pay5_eq]
  unfold mixed
  refine congrArg (row x0 r j + ·) (Finset.sum_congr rfl fun k _ => ?_)
  have e1 : row (mmK (hK x2 x0) (View.ld (Val := Elt Ideal) (e' := .bf16) x3 rIn0)) r k = dotRow (rms (row x0 r) (gain x2)) (cutC (fun k i => x3 (ix2 k i)) 0 (by omega)) k := by
    show mmK (hK x2 x0) _ (ix2 r k) = _
    rw [mmK_apply, ← inCol x3 0 (by omega) inb_S1024x3072_S1024x1024_0_0]
    simp only [hK_apply]
    rfl
  rw [e1]
  exact congrArg (fun z => dotRow (rms (row x0 r) (gain x2)) (cutC (fun k i => x3 (ix2 k i)) 0 (by omega)) k * z * mat x5 k j) (conv_apply x0 x2 x3 x4 p r k)

theorem outMix_apply (x0 : FVec Ideal S512x1024 .f32) (x2 : FVec Ideal S1x1024 .f32) (x3 : FVec Ideal S1024x3072 .bf16) (x4 : FVec Ideal S3x1024 .f32) (x5 : FVec Ideal S1024x1024 .bf16)
    (x6 : FVec Ideal S1x1024 .f32) (x7 : FVec Ideal S1024x4096 .bf16) (x8 : FVec Ideal S4096x1024 .bf16) (p : FVec Ideal S1x2x1024 .f32) (r : Fin 512) (j : Fin 1024) :
    outMix (F := Ideal) x0 x2 x3 x4 x5 x6 x7 x8 p (ix2 r j) = mlp (gain x6) (fun k i => x7 (ix2 k i)) (fun k i => x8 (ix2 k i))
      (mixed (row x0 r) (rms (row x0 r) (gain x2)) (tapsB x4 (belowX x0 x2 x3 p) r) (fun k i => x3 (ix2 k i)) (mat x5)) j := by
  have er : row (resid (F := Ideal) x0 x2 x3 x4 x5 p) r = mixed (row x0 r) (rms (row x0 r) (gain x2)) (tapsB x4 (belowX x0 x2 x3 p) r) (fun k i => x3 (ix2 k i)) (mat x5) :=
    funext fun i => resid_apply x0 x2 x3 x4 x5 p r i
  rw [← er]
  have en : normed (F := Ideal) x0 x2 x3 x4 x5 p x6 = hK x6 (resid x0 x2 x3 x4 x5 p) := by
    unfold normed resid
    rw [pay9_eq, ldG x6]
  unfold outMix
  rw [en]
  generalize resid (F := Ideal) x0 x2 x3 x4 x5 p = y
  refine (congrFun (View.canon_unit_zero (Val := Elt Ideal) (S := S512x1024) hz2 _ _) _).trans ?_
  rw [pay1_eq]
  refine (mlpK_apply x6 _ _ _ _ _ _ _ _ y r j).trans ?_
  rw [mlp_four]
  rw [col x7 0 (by omega), col x7 1024 (by omega), col x7 2048 (by omega), col x7 3072 (by omega),
    rowCut x8 0 (by omega), rowCut x8 1024 (by omega), rowCut x8 2048 (by omega), rowCut x8 3072 (by omega)]

end Cert.Kernel3Ideal.Mix
end
-- ==== Proof.MixFrameI.lean ====
/- The convolution mixer's launch, for any floats: the pipeline's proof data with the carried rows as its invariant, and the frame. -/
module

public import proofs.«01_k».proof.Proof.MixRunI
public import Idealize.ShloMosaic.Lib.Claim

@[expose] public section

set_option maxRecDepth 16384

noncomputable section

namespace Cert.Kernel3Ideal.Mix

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays where the call begins -/

/-- A core's arrays after the host operations before the call. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- The arguments' arrays end as they began, of any run that reaches the pipeline's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The carried rows -/

theorem first_lt : 0 < cfg0.N := by decide +kernel
theorem coord_eq : ∀ t : Fin grid0.N, (grid0.coords t 0).val = t.val := by decide +kernel

/-- The two rows the scratch carries into point `n`: the past's, then each block's last two. -/
def carry (c : Dev nD) : ℕ → Vec F S1x2x1024 .f32
  | 0 => k0_pay3 (View.ld (iblk m c 1 ⟨0, first_lt⟩ : Vec F S1x2x1024 .f32) rS)
  | n + 1 => if h : n < cfg0.N then k0_pay2 (tailU (carry c n) (uS (iblk m c 0 ⟨n, h⟩) (iblk m c 2 ⟨n, h⟩) (iblk m c 3 ⟨n, h⟩))) else carry c n

theorem carry_zero (c : Dev nD) (t : Fin cfg0.N) (h : t.val = 0) : carry m c t.val = k0_pay3 (View.ld (iblk m c 1 t : Vec F S1x2x1024 .f32) rS) := by
  obtain rfl : t = ⟨0, first_lt⟩ := Fin.ext h
  rw [carry]
theorem carry_succ (c : Dev nD) (t : Fin cfg0.N) : carry m c (t.val + 1) = k0_pay2 (tailU (carry m c t.val) (uS (iblk m c 0 t) (iblk m c 2 t) (iblk m c 3 t))) := by
  rw [carry, dif_pos t.isLt]

/-- The scratch before point `n`: anything at first, then the carried rows in place. -/
def scAt (c : Dev nD) (n : ℕ) (f : ScBuf (F := F) c) : ScBuf (F := F) c := if n = 0 then f else carried f (carry m c n)

/-- The invariant before point `n`. -/
def inv (c : Dev nD) (n : ℕ) : sProp 𝕄 := iprop((∃ f, scPt c (scAt m c n f)) ∗ ∃ r, prngReg c r)

/-! ## The pipeline's proof data -/

def out10 (c : Dev nD) (t : Fin cfg0.N) : Vec F S512x1024 .f32 := outMix (iblk m c 0 t) (iblk m c 2 t) (iblk m c 3 t) (iblk m c 4 t) (iblk m c 5 t) (iblk m c 6 t) (iblk m c 7 t) (iblk m c 8 t) (carry m c t.val)
def out11 (c : Dev nD) (t : Fin cfg0.N) : Vec F S1x2x1024 .f32 := View.canon [⟨rS, tailU (carry m c t.val) (uS (iblk m c 0 t) (iblk m c 2 t) (iblk m c 3 t))⟩]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem inv_succ (c : Dev nD) (t : Fin cfg0.N) :
    inv m c (t.val + 1) = iprop((∃ f, scPt c (carried f (k0_pay2 (tailU (carry m c t.val) (uS (iblk m c 0 t) (iblk m c 2 t) (iblk m c 3 t)))))) ∗ ∃ r, prngReg c r) := by
  unfold inv scAt
  simp only [Nat.add_eq_zero_iff, one_ne_zero, and_false, if_false, carry_succ]

theorem inv_first (c : Dev nD) (n : ℕ) (h : n = 0) : inv m c n = iprop((∃ f, scPt c f) ∗ ∃ r, prngReg c r) := by
  unfold inv scAt
  simp only [if_pos h]

theorem inv_later (c : Dev nD) (n : ℕ) (h : n ≠ 0) : inv m c n = iprop((∃ f, scPt c (carried f (carry m c n))) ∗ ∃ r, prngReg c r) := by
  unfold inv scAt
  simp only [if_neg h]

set_option maxHeartbeats 400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = inv m c (t.val + 1) from rfl, inv_succ,
    show (dats m 0 c).Φ t.castSucc = inv m c t.val from rfl,
    show (dats m 0 c).owesAt () t.succ = (dats m 0 c).owesAt () t.castSucc from rfl,
    after0_0, after0_1, after0_2, after0_3, after0_4, after0_5, after0_6, after0_7, after0_8, after0_9, after0_10, after0_11]
  unfold out10 out11
  by_cases h0 : t.val = 0
  · have hi : (grid0.coords t 0).val = 0 := (coord_eq t).trans h0
    rw [inv_first m c t.val h0, carry_zero m c t h0]
    iintro ⟨⟨⟨%f, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c Set.univ (grid0.coords t) hi _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) f _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, ⟨%g, HS⟩⟩
    isplitl [HS HR]
    · isplitl [HS]
      · iexists g; iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hi : (grid0.coords t 0).val ≠ 0 := fun h => h0 ((coord_eq t).symm.trans h)
    rw [inv_later m c t.val h0]
    iintro ⟨⟨⟨%f, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c Set.univ (grid0.coords t) hi _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (carry m c t.val) f _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, ⟨%g, HS⟩⟩
    isplitl [HS HR]
    · isplitl [HS]
      · iexists g; iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : (Pipeline.ΦA spec0 c : sProp 𝕄) ⊢ (dats m 0 c).Φ 0 := by
  rw [show (dats m 0 c).Φ 0 = inv m c 0 from rfl, inv_first m c 0 rfl]
  unfold Pipeline.ΦA
  rw [scopedRest0_eq]

theorem inv_out (c : Dev nD) : (dats m 0 c).Φ (Fin.last cfg0.N) ⊢ (Pipeline.ΦA spec0 c : sProp 𝕄) := by
  rw [show (dats m 0 c).Φ (Fin.last cfg0.N) = inv m c cfg0.N from rfl]
  unfold Pipeline.ΦA inv
  rw [scopedRest0_eq]
  iintro ⟨⟨%f, H⟩, HR⟩
  isplitl [H]
  · iexists _; iexact H
  iexact HR

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The call ends, its arguments' arrays as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel3Ideal.Mix

end
-- ==== Proof.Out3.lean ====
module
public import proofs.«01_k».proof.Proof.Body3
public import proofs.«01_k».proof.Proof.MixFrameI

/-! The result arrays of the convolution mixer after the run: at every index the row of the layer, and the last two gated inputs. The
rows carried from block to block are the ones above the block. -/

@[expose] public section
set_option maxRecDepth 16384
noncomputable section
namespace Cert.Kernel3Ideal.Mix
open Cert.Kernel3Ideal Cert.Kernel3Ideal.Gen Cert.Ffn Cert.Conv
open Idealize.ShloMosaic Idealize.ShloMosaic.TcCoe Idealize.SL.Sem
open Idealize.ShloMosaic.Pipeline (Dat)
open scoped BigOperators

variable (m : (ℓ : Loc nD τ sig) → Buf (Elt Ideal) ℓ)

/-! ## The blocks -/

theorem coord_lt (i : grid0.Coords) : (i 0).val < 32 := (i 0).isLt

theorem point_lt (t : Fin cfg0.N) : t.val < 32 := (coord_eq t) ▸ coord_lt (grid0.coords t)

theorem moves0 (t : Fin cfg0.N) : cc0_transform_0 (grid0.coords t) 0 = t.val ∧ cc0_transform_0 (grid0.coords t) 1 = 0 := by
  have h0 := point_lt t
  refine ⟨?_, rfl⟩
  show (BitVec.ofNat 32 (grid0.coords t 0).val).toNat = _
  rw [coord_eq t, BitVec.toNat_ofNat]; omega
theorem moves10 (t : Fin cfg0.N) : cc0_transform_10 (grid0.coords t) 0 = t.val ∧ cc0_transform_10 (grid0.coords t) 1 = 0 := by
  have h0 := point_lt t
  refine ⟨?_, rfl⟩
  show (BitVec.ofNat 32 (grid0.coords t 0).val).toNat = _
  rw [coord_eq t, BitVec.toNat_ofNat]; omega

/-- The place of a block's row in the array. -/
def at_ (t : Fin cfg0.N) (r : Fin 512) : Fin 16384 := ⟨t.val * 512 + r.val, by have := point_lt t; omega⟩

theorem blk0 (c : Dev nD) (t : Fin cfg0.N) (X : FVec Ideal S16384x1024 .f32) (h : V m c main_arg0 = X) (r : Fin 512) (j : Fin 1024) :
    (iblk m c 0 t : Vec Ideal S512x1024 .f32) (ix2 r j) = X (ix2 (at_ t r) j) := by
  refine Eq.trans ?_ (congrFun h _)
  refine congrArg (V m c main_arg0 : Vec Ideal S16384x1024 .f32) ?_
  funext a
  apply Fin.ext
  refine (Pipeline.Window.rect_emb_val (cfg0.win 0) t (ix2 r j) a).trans ?_
  fin_cases a
  · exact congrArg (· * 512 + r.val) (moves0 t).1
  · exact (congrArg (· * 1024 + j.val) (moves0 t).2).trans (by show 0 * 1024 + j.val = j.val; omega)

theorem blk1 (c : Dev nD) (t : Fin cfg0.N) (X : FVec Ideal S1x2x1024 .f32) (h : V m c main_arg1 = X) (q : Fin 2) (j : Fin 1024) :
    (iblk m c 1 t : Vec Ideal S1x2x1024 .f32) (ix3 (0 : Fin 1) q j) = X (ix3 (0 : Fin 1) q j) := by
  refine Eq.trans ?_ (congrFun h _)
  refine congrArg (V m c main_arg1 : Vec Ideal S1x2x1024 .f32) ?_
  funext a
  apply Fin.ext
  refine (Pipeline.Window.rect_emb_val (cfg0.win 1) t (ix3 (0 : Fin 1) q j) a).trans ?_
  fin_cases a
  · rfl
  · show 0 * 2 + q.val = q.val; omega
  · show 0 * 1024 + j.val = j.val; omega

theorem blk2 (c : Dev nD) (t : Fin cfg0.N) (X : FVec Ideal S1x1024 .f32) (h : V m c main_v4 = X) (k : Fin 1) (j : Fin 1024) :
    (iblk m c 2 t : Vec Ideal S1x1024 .f32) (ix2 k j) = X (ix2 k j) := by
  refine Eq.trans ?_ (congrFun h _)
  refine congrArg (V m c main_v4 : Vec Ideal S1x1024 .f32) ?_
  funext a
  apply Fin.ext
  refine (Pipeline.Window.rect_emb_val (cfg0.win 2) t (ix2 k j) a).trans ?_
  fin_cases a
  · show 0 * 1 + k.val = k.val; omega
  · show 0 * 1024 + j.val = j.val; omega

theorem blk3 (c : Dev nD) (t : Fin cfg0.N) (X : FVec Ideal S1024x3072 .bf16) (h : V m c main_v5 = X) (k : Fin 1024) (j : Fin 3072) :
    (iblk m c 3 t : Vec Ideal S1024x3072 .bf16) (ix2 k j) = X (ix2 k j) := by
  refine Eq.trans ?_ (congrFun h _)
  refine congrArg (V m c main_v5 : Vec Ideal S1024x3072 .bf16) ?_
  funext a
  apply Fin.ext
  refine (Pipeline.Window.rect_emb_val (cfg0.win 3) t (ix2 k j) a).trans ?_
  fin_cases a
  · show 0 * 1024 + k.val = k.val; omega
  · show 0 * 3072 + j.val = j.val; omega

theorem blk4 (c : Dev nD) (t : Fin cfg0.N) (X : FVec Ideal S3x1024 .f32) (h : V m c main_arg4 = X) (k : Fin 3) (j : Fin 1024) :
    (iblk m c 4 t : Vec Ideal S3x1024 .f32) (ix2 k j) = X (ix2 k j) := by
  refine Eq.trans ?_ (congrFun h _)
  refine congrArg (V m c main_arg4 : Vec Ideal S3x1024 .f32) ?_
  funext a
  apply Fin.ext
  refine (Pipeline.Window.rect_emb_val (cfg0.win 4) t (ix2 k j) a).trans ?_
  fin_cases a
  · show 0 * 3 + k.val = k.val; omega
  · show 0 * 1024 + j.val = j.val; omega

theorem blk5 (c : Dev nD) (t : Fin cfg0.N) (X : FVec Ideal S1024x1024 .bf16) (h : V m c main_v6 = X) (k : Fin 1024) (j : Fin 1024) :
    (iblk m c 5 t : Vec Ideal S1024x1024 .bf16) (ix2 k j) = X (ix2 k j) := by
  refine Eq.trans ?_ (congrFun h _)
  refine congrArg (V m c main_v6 : Vec Ideal S1024x1024 .bf16) ?_
  funext a
  apply Fin.ext
  refine (Pipeline.Window.rect_emb_val (cfg0.win 5) t (ix2 k j) a).trans ?_
  fin_cases a
  · show 0 * 1024 + k.val = k.val; omega
  · show 0 * 1024 + j.val = j.val; omega

theorem blk6 (c : Dev nD) (t : Fin cfg0.N) (X : FVec Ideal S1x1024 .f32) (h : V m c main_v0 = X) (k : Fin 1) (j : Fin 1024) :
    (iblk m c 6 t : Vec Ideal S1x1024 .f32) (ix2 k j) = X (ix2 k j) := by
  refine Eq.trans ?_ (congrFun h _)
  refine congrArg (V m c main_v0 : Vec Ideal S1x1024 .f32) ?_
  funext a
  apply Fin.ext
  refine (Pipeline.Window.rect_emb_val (cfg0.win 6) t (ix2 k j) a).trans ?_
  fin_cases a
  · show 0 * 1 + k.val = k.val; omega
  · show 0 * 1024 + j.val = j.val; omega

theorem blk7 (c : Dev nD) (t : Fin cfg0.N) (X : FVec Ideal S1024x4096 .bf16) (h : V m c main_v1 = X) (k : Fin 1024) (j : Fin 4096) :
    (iblk m c 7 t : Vec Ideal S1024x4096 .bf16) (ix2 k j) = X (ix2 k j) := by
  refine Eq.trans ?_ (congrFun h _)
  refine congrArg (V m c main_v1 : Vec Ideal S1024x4096 .bf16) ?_
  funext a
  apply Fin.ext
  refine (Pipeline.Window.rect_emb_val (cfg0.win 7) t (ix2 k j) a).trans ?_
  fin_cases a
  · show 0 * 1024 + k.val = k.val; omega
  · show 0 * 4096 + j.val = j.val; omega

theorem blk8 (c : Dev nD) (t : Fin cfg0.N) (X : FVec Ideal S4096x1024 .bf16) (h : V m c main_v2 = X) (k : Fin 4096) (j : Fin 1024) :
    (iblk m c 8 t : Vec Ideal S4096x1024 .bf16) (ix2 k j) = X (ix2 k j) := by
  refine Eq.trans ?_ (congrFun h _)
  refine congrArg (V m c main_v2 : Vec Ideal S4096x1024 .bf16) ?_
  funext a
  apply Fin.ext
  refine (Pipeline.Window.rect_emb_val (cfg0.win 8) t (ix2 k j) a).trans ?_
  fin_cases a
  · show 0 * 4096 + k.val = k.val; omega
  · show 0 * 1024 + j.val = j.val; omega

/-! ## The prepared arrays: the casts and reshapes before the call -/

theorem v0_eq (c : Dev nD) : V m c main_v0 = shapeCast S1x1024 (m ((c : Thread nD τ).loc main_arg6) : FVec Ideal S1024 .f32) shapeCasts_S1024_S1x1024 := by
  unfold V; simp only [hostOps0]; after_results_simp; rfl
theorem v4_eq (c : Dev nD) : V m c main_v4 = shapeCast S1x1024 (m ((c : Thread nD τ).loc main_arg2) : FVec Ideal S1024 .f32) shapeCasts_S1024_S1x1024 := by
  unfold V; simp only [hostOps0]; after_results_simp; rfl
theorem v1_eq (c : Dev nD) : V m c main_v1 = truncf (F := Ideal) .bf16 (m ((c : Thread nD τ).loc main_arg7) : FVec Ideal S1024x4096 .f32) bitsLt_bf16_f32 := by
  unfold V; simp only [hostOps0]; after_results_simp
theorem v2_eq (c : Dev nD) : V m c main_v2 = truncf (F := Ideal) .bf16 (m ((c : Thread nD τ).loc main_arg8) : FVec Ideal S4096x1024 .f32) bitsLt_bf16_f32 := by
  unfold V; simp only [hostOps0]; after_results_simp
theorem v5_eq (c : Dev nD) : V m c main_v5 = truncf (F := Ideal) .bf16 (m ((c : Thread nD τ).loc main_arg3) : FVec Ideal S1024x3072 .f32) bitsLt_bf16_f32 := by
  unfold V; simp only [hostOps0]; after_results_simp
theorem v6_eq (c : Dev nD) : V m c main_v6 = truncf (F := Ideal) .bf16 (m ((c : Thread nD τ).loc main_arg5) : FVec Ideal S1024x1024 .f32) bitsLt_bf16_f32 := by
  unfold V; simp only [hostOps0]; after_results_simp

theorem gain_cast (g : FVec Ideal S1024 .f32) (j : Fin 1024) : shapeCast S1x1024 g shapeCasts_S1024_S1x1024 (ix2 (0 : Fin 1) j) = g (ix1 j) := by
  pointwise

/-! ## The results -/

section
variable (x : FVec Ideal S16384x1024 .f32) (past : FVec Ideal S1x2x1024 .f32) (g : FVec Ideal S1024 .f32) (wi : FVec Ideal S1024x3072 .f32) (cw : FVec Ideal S3x1024 .f32)
    (wo : FVec Ideal S1024x1024 .f32) (gm : FVec Ideal S1024 .f32) (w1 : FVec Ideal S1024x4096 .f32) (w2 : FVec Ideal S4096x1024 .f32)

/-- All rows' gated inputs, below the two past rows. -/
def allRows : Fin 16386 → Fin 1024 → EReal :=
  rows (fun r k => x (ix2 r k)) (fun q k => past (ix3 (0 : Fin 1) q k)) (fun k => g (ix1 k)) (fun k i => wi (ix2 k i))

/-- The layer's result array. -/
def layerA : FVec Ideal S16384x1024 .f32 := fun i =>
  layer (fun r k => x (ix2 r k)) (fun q k => past (ix3 (0 : Fin 1) q k)) (fun k => g (ix1 k)) (fun k i => wi (ix2 k i)) (fun i k => cw (ix2 i k)) (fun k i => wo (ix2 k i))
    (fun k => gm (ix1 k)) (fun k i => w1 (ix2 k i)) (fun k i => w2 (ix2 k i)) (i 0) (i 1)

/-- The rows left. -/
def leftA : FVec Ideal S1x2x1024 .f32 := fun i => allRows x past g wi ⟨16384 + (i 1).val, by have : (i 1 : ℕ) < 2 := (i 1).isLt; omega⟩ (i 2)
end

/-- The call's arguments. -/
abbrev aX (c : Dev nD) : FVec Ideal S16384x1024 .f32 := m ((c : Thread nD τ).loc main_arg0)
abbrev aP (c : Dev nD) : FVec Ideal S1x2x1024 .f32 := m ((c : Thread nD τ).loc main_arg1)
abbrev aG (c : Dev nD) : FVec Ideal S1024 .f32 := m ((c : Thread nD τ).loc main_arg2)
abbrev aI (c : Dev nD) : FVec Ideal S1024x3072 .f32 := m ((c : Thread nD τ).loc main_arg3)
abbrev aC (c : Dev nD) : FVec Ideal S3x1024 .f32 := m ((c : Thread nD τ).loc main_arg4)
abbrev aO (c : Dev nD) : FVec Ideal S1024x1024 .f32 := m ((c : Thread nD τ).loc main_arg5)
abbrev aM (c : Dev nD) : FVec Ideal S1024 .f32 := m ((c : Thread nD τ).loc main_arg6)
abbrev aU (c : Dev nD) : FVec Ideal S1024x4096 .f32 := m ((c : Thread nD τ).loc main_arg7)
abbrev aD (c : Dev nD) : FVec Ideal S4096x1024 .f32 := m ((c : Thread nD τ).loc main_arg8)

theorem row_blk (c : Dev nD) (t : Fin cfg0.N) (r : Fin 512) : row (iblk m c 0 t) r = fun k => aX m c (ix2 (at_ t r) k) :=
  funext fun k => blk0 m c t _ (V_main_arg0 m c) r k
theorem gain_blk (c : Dev nD) (t : Fin cfg0.N) : gain (iblk m c 2 t) = fun k => aG m c (ix1 k) :=
  funext fun k => (blk2 m c t _ (v4_eq m c) 0 k).trans (gain_cast _ k)
theorem in_blk (c : Dev nD) (t : Fin cfg0.N) : (fun k i => (iblk m c 3 t : Vec Ideal S1024x3072 .bf16) (ix2 k i)) = fun (k : Fin 1024) (i : Fin 3072) => aI m c (ix2 k i) :=
  funext fun k => funext fun i => blk3 m c t _ (v5_eq m c) k i
theorem out_blk (c : Dev nD) (t : Fin cfg0.N) : mat (iblk m c 5 t) = fun k i => aO m c (ix2 k i) :=
  funext fun k => funext fun i => blk5 m c t _ (v6_eq m c) k i
theorem gainM_blk (c : Dev nD) (t : Fin cfg0.N) : gain (iblk m c 6 t) = fun k => aM m c (ix1 k) :=
  funext fun k => (blk6 m c t _ (v0_eq m c) 0 k).trans (gain_cast _ k)
theorem up_blk (c : Dev nD) (t : Fin cfg0.N) : (fun k i => (iblk m c 7 t : Vec Ideal S1024x4096 .bf16) (ix2 k i)) = fun (k : Fin 1024) (i : Fin 4096) => aU m c (ix2 k i) :=
  funext fun k => funext fun i => blk7 m c t _ (v1_eq m c) k i
theorem down_blk (c : Dev nD) (t : Fin cfg0.N) : (fun k i => (iblk m c 8 t : Vec Ideal S4096x1024 .bf16) (ix2 k i)) = fun (k : Fin 4096) (i : Fin 1024) => aD m c (ix2 k i) :=
  funext fun k => funext fun i => blk8 m c t _ (v2_eq m c) k i

/-! ## The carried rows -/

/-- A block's gated inputs below the carried rows are the rows from the block's place on, if the carried ones are. -/
theorem belowX_eq (c : Dev nD) (t : Fin cfg0.N) (p : FVec Ideal S1x2x1024 .f32)
    (hp : ∀ (q : Fin 2) (j : Fin 1024), pair p q j = allRows (aX m c) (aP m c) (aG m c) (aI m c) ⟨t.val * 512 + q.val, by have := point_lt t; omega⟩ j) (a : Fin 514) (j : Fin 1024) :
    belowX (iblk m c 0 t) (iblk m c 2 t) (iblk m c 3 t) p a j = allRows (aX m c) (aP m c) (aG m c) (aI m c) ⟨t.val * 512 + a.val, by have := point_lt t; omega⟩ j := by
  unfold belowX below
  split
  · rename_i h
    exact hp ⟨a.val, h⟩ j
  · rename_i h
    have hn : ¬ (t.val * 512 + a.val < 2) := by omega
    unfold allRows rows padded
    rw [dif_neg hn]
    have e := row_blk m c t ⟨a.val - 2, by omega⟩
    have ea : at_ t ⟨a.val - 2, by omega⟩ = ⟨t.val * 512 + a.val - 2, by have := point_lt t; omega⟩ := Fin.ext (by show t.val * 512 + (a.val - 2) = t.val * 512 + a.val - 2; omega)
    rw [ea] at e
    refine (congrArg (fun w => gated (rms (row (iblk m c 0 t) ⟨a.val - 2, by omega⟩) (gain (iblk m c 2 t))) w j) (in_blk m c t)).trans ?_
    rw [e, gain_blk]

theorem pay3_eq (p : FVec Ideal S1x2x1024 .f32) : k0_pay3 p = p := by
  show shapeCast S1x2x1024 p shapeCasts_S1x2x1024_S1x2x1024 = p
  pointwise
theorem pay2_eq (p : FVec Ideal S1x2x1024 .f32) : k0_pay2 p = p := pay3_eq p

/-- The rows carried into a point are the two above its block. -/
theorem carry_eq (c : Dev nD) (n : ℕ) : ∀ (hn : n < 32) (q : Fin 2) (j : Fin 1024),
    pair (carry m c n) q j = allRows (aX m c) (aP m c) (aG m c) (aI m c) ⟨n * 512 + q.val, by omega⟩ j := by
  have hN : ∀ n, n < 32 → n < cfg0.N := fun n h => h
  induction n with
  | zero =>
    intro hn q j
    have e := carry_zero m c ⟨0, first_lt⟩ rfl
    have e' : pair (carry m c 0) q j = pair (k0_pay3 (View.ld (Val := Elt Ideal) (e' := .f32) (iblk m c 1 ⟨0, first_lt⟩ : Vec Ideal S1x2x1024 .f32) rS)) q j :=
      congrArg (fun p => pair p q j) e
    rw [e', ldS, pay3_eq]
    refine (blk1 m c ⟨0, first_lt⟩ _ (V_main_arg1 m c) q j).trans ?_
    unfold allRows rows padded
    rw [dif_pos (by show 0 * 512 + q.val < 2; omega)]
    exact congrArg (fun q => aP m c (ix3 (0 : Fin 1) q j)) (Fin.ext (by show q.val = 0 * 512 + q.val; omega))
  | succ n ih =>
    intro hn q j
    have e := carry_succ m c ⟨n, hN n (by omega)⟩
    have e' : pair (carry m c (n + 1)) q j = pair (k0_pay2 (tailU (carry m c n) (uS (iblk m c 0 ⟨n, hN n (by omega)⟩) (iblk m c 2 ⟨n, hN n (by omega)⟩) (iblk m c 3 ⟨n, hN n (by omega)⟩)))) q j :=
      congrArg (fun p => pair p q j) e
    rw [e', pay2_eq]
    refine (tail_apply _ _ _ _ q j).trans ?_
    refine (belowX_eq m c ⟨n, hN n (by omega)⟩ _ (ih (by omega)) ⟨512 + q.val, by omega⟩ j).trans ?_
    exact congrArg (fun i => allRows (aX m c) (aP m c) (aG m c) (aI m c) i j) (Fin.ext (by show n * 512 + (512 + q.val) = (n + 1) * 512 + q.val; omega))

theorem below_point (c : Dev nD) (t : Fin cfg0.N) (a : Fin 514) (j : Fin 1024) :
    belowX (iblk m c 0 t) (iblk m c 2 t) (iblk m c 3 t) (carry m c t.val) a j = allRows (aX m c) (aP m c) (aG m c) (aI m c) ⟨t.val * 512 + a.val, by have := point_lt t; omega⟩ j :=
  belowX_eq m c t _ (carry_eq m c t.val (point_lt t)) a j

theorem taps_point (c : Dev nD) (t : Fin cfg0.N) (r : Fin 512) :
    tapsB (iblk m c 4 t) (belowX (iblk m c 0 t) (iblk m c 2 t) (iblk m c 3 t) (carry m c t.val)) r
      = taps (fun i k => aC m c (ix2 i k)) (allRows (aX m c) (aP m c) (aG m c) (aI m c)) (at_ t r) := by
  funext j
  unfold tapsB taps
  rw [below_point, below_point, below_point]
  rw [blk4 m c t _ (V_main_arg4 m c) 0 j, blk4 m c t _ (V_main_arg4 m c) 1 j, blk4 m c t _ (V_main_arg4 m c) 2 j]
  rfl

theorem point_apply (c : Dev nD) (t : Fin cfg0.N) (r : Fin 512) (j : Fin 1024) :
    out10 m c t (ix2 r j) = layerA (aX m c) (aP m c) (aG m c) (aI m c) (aC m c) (aO m c) (aM m c) (aU m c) (aD m c) (ix2 (at_ t r) j) := by
  refine (outMix_apply _ _ _ _ _ _ _ _ _ r j).trans ?_
  rw [taps_point, row_blk, gain_blk, out_blk, gainM_blk]
  refine (congrArg (fun w => mlp (fun k => aM m c (ix1 k)) (fun k i => (iblk m c 7 t : Vec Ideal S1024x4096 .bf16) (ix2 k i)) (fun k i => (iblk m c 8 t : Vec Ideal S4096x1024 .bf16) (ix2 k i))
    (mixed (fun k => aX m c (ix2 (at_ t r) k)) (rms (fun k => aX m c (ix2 (at_ t r) k)) (fun k => aG m c (ix1 k)))
      (taps (fun i k => aC m c (ix2 i k)) (allRows (aX m c) (aP m c) (aG m c) (aI m c)) (at_ t r)) w (fun k i => aO m c (ix2 k i))) j) (in_blk m c t)).trans ?_
  exact congrArg₂ (fun a b => mlp (fun k => aM m c (ix1 k)) a b
    (mixed (fun k => aX m c (ix2 (at_ t r) k)) (rms (fun k => aX m c (ix2 (at_ t r) k)) (fun k => aG m c (ix1 k)))
      (taps (fun i k => aC m c (ix2 i k)) (allRows (aX m c) (aP m c) (aG m c) (aI m c)) (at_ t r)) (fun k i => aI m c (ix2 k i)) (fun k i => aO m c (ix2 k i))) j) (up_blk m c t) (down_blk m c t)

theorem left_apply (c : Dev nD) (t : Fin cfg0.N) (h : t.val = 31) (q : Fin 2) (j : Fin 1024) :
    out11 m c t (ix3 (0 : Fin 1) q j) = leftA (aX m c) (aP m c) (aG m c) (aI m c) (ix3 (0 : Fin 1) q j) := by
  unfold out11
  refine (congrFun (View.canon_unit_zero (Val := Elt Ideal) (S := S1x2x1024) hz3 _ _) _).trans ?_
  refine (tail_apply _ _ _ _ q j).trans ?_
  refine (below_point m c t ⟨512 + q.val, by omega⟩ j).trans ?_
  exact congrArg (fun i => allRows (aX m c) (aP m c) (aG m c) (aI m c) i j) (Fin.ext (by show t.val * 512 + (512 + q.val) = 16384 + q.val; omega))

/-! ## The arrays -/

/-- The points' blocks cover the result array. -/
theorem cover10 (i : S16384x1024.Idx) : ∃ t : Fin cfg0.N, (cfg0.win 10).flush t = true ∧ i ∈ ((cfg0.win 10).blk t).view.set := by
  have hq : (i 0 : ℕ) < 16384 := (i 0).isLt
  have hn : (i 1 : ℕ) < 1024 := (i 1).isLt
  have hN : ∀ (a : Fin 32), ∃ t : Fin grid0.N, t.val = a.val := by decide +kernel
  obtain ⟨t, e0⟩ := hN ⟨(i 0 : ℕ) / 512, by omega⟩
  refine ⟨t, flush0_10 t, ?_⟩
  refine (congrArg (i ∈ ·) (View.set_slice_whole main_v7_0 ((cfg0.win 10).rect t))).mpr ?_
  refine (Pipeline.Window.mem_rect_iff (cfg0.win 10) t i).mpr ?_
  obtain ⟨f0, f1⟩ := moves10 t
  intro a
  match a with
  | ⟨0, _⟩ =>
    show cc0_transform_10 (grid0.coords t) 0 * 512 ≤ (i 0 : ℕ) ∧ (i 0 : ℕ) < cc0_transform_10 (grid0.coords t) 0 * 512 + 512
    rw [f0, e0]; dsimp only; omega
  | ⟨1, _⟩ =>
    show cc0_transform_10 (grid0.coords t) 1 * 1024 ≤ (i 1 : ℕ) ∧ (i 1 : ℕ) < cc0_transform_10 (grid0.coords t) 1 * 1024 + 1024
    rw [f1]; omega

/-- The last point's block is the array of the rows left. -/
theorem cover11 (i : S1x2x1024.Idx) : ∃ t : Fin cfg0.N, (cfg0.win 11).flush t = true ∧ i ∈ ((cfg0.win 11).blk t).view.set := by
  have h0 : (i 0 : ℕ) < 1 := (i 0).isLt
  have h1 : (i 1 : ℕ) < 2 := (i 1).isLt
  have h2 : (i 2 : ℕ) < 1024 := (i 2).isLt
  have hN : ∃ t : Fin grid0.N, t.val % 32 = 31 := by decide +kernel
  obtain ⟨t, e0⟩ := hN
  refine ⟨t, (flush0_11 t).mpr e0, ?_⟩
  refine (congrArg (i ∈ ·) (View.set_slice_whole main_v7_1 ((cfg0.win 11).rect t))).mpr ?_
  refine (Pipeline.Window.mem_rect_iff (cfg0.win 11) t i).mpr ?_
  intro a
  match a with
  | ⟨0, _⟩ =>
    show 0 * 1 ≤ (i 0 : ℕ) ∧ (i 0 : ℕ) < 0 * 1 + 1
    omega
  | ⟨1, _⟩ =>
    show 0 * 2 ≤ (i 1 : ℕ) ∧ (i 1 : ℕ) < 0 * 2 + 2
    omega
  | ⟨2, _⟩ =>
    show 0 * 1024 ≤ (i 2 : ℕ) ∧ (i 2 : ℕ) < 0 * 1024 + 1024
    omega

theorem flushed10 (c : Dev nD) (t : Fin cfg0.N) : (dats m 0 c).flushed 10 t = (cfg0.win 10).cut (grid0.coords t) (out10 m c t) := by
  show (cfg0.win 10).cut (grid0.coords t) ((dats m 0 c).after 10 t) = _
  rw [after0_10]
theorem flushed11 (c : Dev nD) (t : Fin cfg0.N) : (dats m 0 c).flushed 11 t = (cfg0.win 11).cut (grid0.coords t) (out11 m c t) := by
  show (cfg0.win 11).cut (grid0.coords t) ((dats m 0 c).after 11 t) = _
  rw [after0_11]

/-- The result array after the run is the layer's. -/
theorem final10 (c : Dev nD) : (dats m 0 c).arrAt 10 cfg0.N = layerA (aX m c) (aP m c) (aG m c) (aI m c) (aC m c) (aO m c) (aM m c) (aU m c) (aD m c) := by
  refine (dats m 0 c).arrAt_eq_of_cover 10 (layerA (aX m c) (aP m c) (aG m c) (aI m c) (aC m c) (aO m c) (aM m c) (aU m c) (aD m c)) (fun t _ => ?_) cover10
  refine (flushed10 m c t).trans ?_
  refine funext fun (y : S512x1024.Idx) => ?_
  have hy : ∃ (r : Fin 512) (l : Fin 1024), y = ix2 r l := ⟨y 0, y 1, by funext a; fin_cases a <;> rfl⟩
  obtain ⟨r, l, rfl⟩ := hy
  refine (point_apply m c t r l).trans ?_
  refine congrArg (layerA (aX m c) (aP m c) (aG m c) (aI m c) (aC m c) (aO m c) (aM m c) (aU m c) (aD m c)) ?_
  funext a
  apply Fin.ext
  refine Eq.symm ((Pipeline.Window.rect_emb_val (cfg0.win 10) t (ix2 r l) a).trans ?_)
  fin_cases a
  · exact congrArg (· * 512 + r.val) (moves10 t).1
  · exact (congrArg (· * 1024 + l.val) (moves10 t).2).trans (by show 0 * 1024 + l.val = l.val; omega)

/-- The rows left after the run are the last two. -/
theorem final11 (c : Dev nD) : (dats m 0 c).arrAt 11 cfg0.N = leftA (aX m c) (aP m c) (aG m c) (aI m c) := by
  refine (dats m 0 c).arrAt_eq_of_cover 11 (leftA (aX m c) (aP m c) (aG m c) (aI m c)) (fun t hf => ?_) cover11
  have ht : t.val = 31 := by
    have := (flush0_11 t).mp hf
    have := point_lt t
    omega
  refine (flushed11 m c t).trans ?_
  refine funext fun (y : S1x2x1024.Idx) => ?_
  have hy : ∃ (q : Fin 2) (l : Fin 1024), y = ix3 (0 : Fin 1) q l := ⟨y 1, y 2, by
    funext a
    fin_cases a
    · exact Fin.ext (by have : (y 0 : ℕ) < 1 := (y 0).isLt; show (y 0 : ℕ) = 0; omega)
    · rfl
    · rfl⟩
  obtain ⟨q, l, rfl⟩ := hy
  refine (left_apply m c t ht q l).trans ?_
  refine congrArg (leftA (aX m c) (aP m c) (aG m c) (aI m c)) ?_
  funext a
  apply Fin.ext
  refine Eq.symm ((Pipeline.Window.rect_emb_val (cfg0.win 11) t (ix3 (0 : Fin 1) q l) a).trans ?_)
  fin_cases a
  · rfl
  · show 0 * 2 + q.val = q.val; omega
  · show 0 * 1024 + l.val = l.val; omega

end Cert.Kernel3Ideal.Mix
end
-- ==== Proof.Ref3.lean ====
module
public import proofs.«01_k».proof.Proof.Gen.Reference3Ideal.Run
public import proofs.«01_k».proof.Proof.Conv
public import Idealize.ShloMosaic.Lib.Pointwise
public import Idealize.ShloMosaic.Lib.Quiescent

/-! The reference of the convolution mixer at an index: the row of the layer, and the two rows left. -/

@[expose] public section
set_option maxRecDepth 16384
noncomputable section
namespace Cert.Reference3Ideal.Mix
open Cert.Reference3Ideal Cert.Reference3Ideal.Gen Cert.Reference3Ideal.Value
open Cert.Ffn Cert.Conv
open Idealize.ShloMosaic Idealize.ShloMosaic.TcCoe Idealize.SL.Sem Idealize.ShloMosaic.StableHlo
open scoped BigOperators

def rmsR (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0
    (Host.reduceAdd (mulf y y) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))

def upR (h : FVec Ideal S16384x1024 .f32) (w1 : FVec Ideal S1024x4096 .f32) : FVec Ideal S16384x4096 .f32 :=
  Host.dotGeneral dot_S16384x1024_S1024x4096_S16384x4096_1_0_0_1_n_n none h w1

def posR (a : FVec Ideal S16384x4096 .f32) : FVec Ideal S16384x4096 .f32 :=
  maximumf a (broadcastInDim S16384x4096 ![] bcast_S_S16384x4096 (constant S_ .f32 0x00000000#32))

def sqR (a : FVec Ideal S16384x4096 .f32) : FVec Ideal S16384x4096 .f32 := mulf (posR a) (posR a)

def downR (a : FVec Ideal S16384x4096 .f32) (w2 : FVec Ideal S4096x1024 .f32) : FVec Ideal S16384x1024 .f32 :=
  Host.dotGeneral dot_S16384x4096_S4096x1024_S16384x1024_1_0_0_1_n_n none a w2

def mlpR (y : FVec Ideal S16384x1024 .f32) (g : FVec Ideal S1024 .f32) (w1 : FVec Ideal S1024x4096 .f32) (w2 : FVec Ideal S4096x1024 .f32) : FVec Ideal S16384x1024 .f32 :=
  addf y (downR (sqR (upR (rmsR y g) w1)) w2)

def inR (h : FVec Ideal S16384x1024 .f32) (w : FVec Ideal S1024x3072 .f32) : FVec Ideal S16384x3072 .f32 :=
  Host.dotGeneral dot_S16384x1024_S1024x3072_S16384x3072_1_0_0_1_n_n none h w

def gateR (a : FVec Ideal S16384x3072 .f32) : FVec Ideal S16384x1024 .f32 := extractStridedSlice S16384x1024 ![0, 0] a slices_S16384x3072_S16384x1024_0_0

def uR (a : FVec Ideal S16384x3072 .f32) : FVec Ideal S16384x1024 .f32 :=
  mulf (extractStridedSlice S16384x1024 ![0, 1024] a slices_S16384x3072_S16384x1024_0_1024) (extractStridedSlice S16384x1024 ![0, 2048] a slices_S16384x3072_S16384x1024_0_2048)

def padR (past : FVec Ideal S1x2x1024 .f32) (u : FVec Ideal S16384x1024 .f32) : FVec Ideal S16386x1024 .f32 :=
  concatenate S16386x1024 0 [⟨S2x1024, (shapeCast _ past shapeCasts_S1x2x1024_S2x1024)⟩, ⟨S16384x1024, u⟩] concatenates_S2x1024_S16384x1024_S16386x1024_d0

def tapR (v : FVec Ideal S1x1024 .f32) (u : FVec Ideal S16384x1024 .f32) : FVec Ideal S16384x1024 .f32 :=
  mulf (broadcastInDim S16384x1024 ![0, 1] bcast_S1x1024_S16384x1024_0_1 (broadcastInDim S1x1024 ![1] bcast_S1024_S1x1024_1 (shapeCast _ v shapeCasts_S1x1024_S1024))) u

def convR (cw : FVec Ideal S3x1024 .f32) (up : FVec Ideal S16386x1024 .f32) : FVec Ideal S16384x1024 .f32 :=
  addf (addf (addf (broadcastInDim S16384x1024 ![] bcast_S_S16384x1024 (constant S_ .f32 0x00000000#32))
    (tapR (extractStridedSlice S1x1024 ![0, 0] cw slices_S3x1024_S1x1024_0_0) (extractStridedSlice S16384x1024 ![0, 0] up slices_S16386x1024_S16384x1024_0_0)))
    (tapR (extractStridedSlice S1x1024 ![1, 0] cw slices_S3x1024_S1x1024_1_0) (extractStridedSlice S16384x1024 ![1, 0] up slices_S16386x1024_S16384x1024_1_0)))
    (tapR (extractStridedSlice S1x1024 ![2, 0] cw slices_S3x1024_S1x1024_2_0) (extractStridedSlice S16384x1024 ![2, 0] up slices_S16386x1024_S16384x1024_2_0))

def outR (x b v : FVec Ideal S16384x1024 .f32) (wo : FVec Ideal S1024x1024 .f32) : FVec Ideal S16384x1024 .f32 :=
  addf x (Host.dotGeneral dot_S16384x1024_S1024x1024_S16384x1024_1_0_0_1_n_n none (mulf b v) wo)

def leftR (up : FVec Ideal S16386x1024 .f32) : FVec Ideal S1x2x1024 .f32 :=
  broadcastInDim S1x2x1024 ![1, 2] bcast_S2x1024_S1x2x1024_1_2 (extractStridedSlice S2x1024 ![16384, 0] up slices_S16386x1024_S2x1024_16384_0)

/-- The reference's first result is these steps one after the other. -/
theorem res_steps (m : (ℓ : Loc nD τ sig) → Buf (Elt Ideal) ℓ) (c : Dev nD) :
    res_main_v62 (F := Ideal) m c = mlpR (outR (m ((c.tc : Thread nD τ).loc main_arg0))
        (gateR (inR (rmsR (m ((c.tc : Thread nD τ).loc main_arg0)) (m ((c.tc : Thread nD τ).loc main_arg2))) (m ((c.tc : Thread nD τ).loc main_arg3))))
        (convR (m ((c.tc : Thread nD τ).loc main_arg4)) (padR (m ((c.tc : Thread nD τ).loc main_arg1))
          (uR (inR (rmsR (m ((c.tc : Thread nD τ).loc main_arg0)) (m ((c.tc : Thread nD τ).loc main_arg2))) (m ((c.tc : Thread nD τ).loc main_arg3))))))
        (m ((c.tc : Thread nD τ).loc main_arg5)))
      (m ((c.tc : Thread nD τ).loc main_arg6)) (m ((c.tc : Thread nD τ).loc main_arg7)) (m ((c.tc : Thread nD τ).loc main_arg8)) := rfl

theorem rmsR_apply (y : FVec Ideal S16384x1024 .f32) (g : FVec Ideal S1024 .f32) (r : Fin 16384) (j : Fin 1024) :
    rmsR y g (ix2 r j) = rms (fun k => y (ix2 r k)) (fun k => g (ix1 k)) j := by
  pointwise [rmsR]
  rfl

theorem upR_apply (h : FVec Ideal S16384x1024 .f32) (w1 : FVec Ideal S1024x4096 .f32) (r : Fin 16384) (j : Fin 4096) :
    upR h w1 (ix2 r j) = ∑ k : Fin 1024, h (ix2 r k) * w1 (ix2 k j) := by
  pointwise [upR]

theorem downR_apply (a : FVec Ideal S16384x4096 .f32) (w2 : FVec Ideal S4096x1024 .f32) (r : Fin 16384) (j : Fin 1024) :
    downR a w2 (ix2 r j) = ∑ k : Fin 4096, a (ix2 r k) * w2 (ix2 k j) := by
  pointwise [downR]

theorem posR_apply (a : FVec Ideal S16384x4096 .f32) (r : Fin 16384) (j : Fin 4096) : posR a (ix2 r j) = (max (a (ix2 r j) : EReal) 0 : EReal) := by
  pointwise [posR]

theorem sqR_apply (a : FVec Ideal S16384x4096 .f32) (r : Fin 16384) (j : Fin 4096) : sqR a (ix2 r j) = reluSq (a (ix2 r j)) := by
  show (posR a (ix2 r j) : EReal) * posR a (ix2 r j) = _
  rw [posR_apply]
  rfl

theorem mlpR_apply (y : FVec Ideal S16384x1024 .f32) (g : FVec Ideal S1024 .f32) (w1 : FVec Ideal S1024x4096 .f32) (w2 : FVec Ideal S4096x1024 .f32) (r : Fin 16384) (j : Fin 1024) :
    mlpR y g w1 w2 (ix2 r j) = mlp (fun k => g (ix1 k)) (fun k i => w1 (ix2 k i)) (fun k i => w2 (ix2 k i)) (fun k => y (ix2 r k)) j := by
  show (y (ix2 r j) : EReal) + downR (sqR (upR (rmsR y g) w1)) w2 (ix2 r j) = _
  rw [downR_apply]
  simp only [sqR_apply, upR_apply, rmsR_apply]
  rfl

theorem inR_apply (h : FVec Ideal S16384x1024 .f32) (w : FVec Ideal S1024x3072 .f32) (r : Fin 16384) (j : Fin 3072) :
    inR h w (ix2 r j) = ∑ k : Fin 1024, h (ix2 r k) * w (ix2 k j) := by
  pointwise [inR]

theorem gateR_apply (a : FVec Ideal S16384x3072 .f32) (r : Fin 16384) (j : Fin 1024) :
    gateR a (ix2 r j) = a (ix2 r (⟨0 + j.val, by omega⟩ : Fin 3072)) := by
  pointwise [gateR]

theorem uR_apply (a : FVec Ideal S16384x3072 .f32) (r : Fin 16384) (j : Fin 1024) :
    uR a (ix2 r j) = a (ix2 r (⟨1024 + j.val, by omega⟩ : Fin 3072)) * a (ix2 r (⟨2048 + j.val, by omega⟩ : Fin 3072)) := by
  pointwise [uR]

theorem padR_apply (past : FVec Ideal S1x2x1024 .f32) (u : FVec Ideal S16384x1024 .f32) (n : Fin 16386) (j : Fin 1024) :
    padR past u (ix2 n j) = padded (fun q k => past (ix3 (0 : Fin 1) q k)) (fun r k => u (ix2 r k)) n j := by
  pointwise [padR]
  rfl

theorem tapR_apply (v : FVec Ideal S1x1024 .f32) (u : FVec Ideal S16384x1024 .f32) (r : Fin 16384) (j : Fin 1024) :
    tapR v u (ix2 r j) = v (ix2 (0 : Fin 1) j) * u (ix2 r j) := by
  pointwise [tapR]

theorem outR_apply (x b v : FVec Ideal S16384x1024 .f32) (wo : FVec Ideal S1024x1024 .f32) (r : Fin 16384) (j : Fin 1024) :
    outR x b v wo (ix2 r j) = x (ix2 r j) + ∑ k : Fin 1024, b (ix2 r k) * v (ix2 r k) * wo (ix2 k j) := by
  pointwise [outR]

theorem leftR_apply (up : FVec Ideal S16386x1024 .f32) (q : Fin 2) (j : Fin 1024) :
    leftR up (ix3 (0 : Fin 1) q j) = up (ix2 (⟨16384 + q.val, by omega⟩ : Fin 16386) j) := by
  pointwise [leftR]

theorem convR_apply (cw : FVec Ideal S3x1024 .f32) (up : FVec Ideal S16386x1024 .f32) (r : Fin 16384) (j : Fin 1024) :
    convR cw up (ix2 r j) = taps (fun i k => cw (ix2 i k)) (fun n k => up (ix2 n k)) r j := by
  pointwise [convR, tapR, taps]
  simp only [Nat.add_comm 1 r.val, Nat.add_comm 2 r.val]

theorem u_row (x : FVec Ideal S16384x1024 .f32) (g : FVec Ideal S1024 .f32) (wi : FVec Ideal S1024x3072 .f32) (r : Fin 16384) (j : Fin 1024) :
    uR (inR (rmsR x g) wi) (ix2 r j) = gated (rms (fun k => x (ix2 r k)) (fun k => g (ix1 k))) (fun k i => wi (ix2 k i)) j := by
  rw [uR_apply, inR_apply, inR_apply]
  simp only [rmsR_apply]
  rfl

theorem gate_row (x : FVec Ideal S16384x1024 .f32) (g : FVec Ideal S1024 .f32) (wi : FVec Ideal S1024x3072 .f32) (r : Fin 16384) (j : Fin 1024) :
    gateR (inR (rmsR x g) wi) (ix2 r j) = dotRow (rms (fun k => x (ix2 r k)) (fun k => g (ix1 k))) (cutC (fun k i => wi (ix2 k i)) 0 (by omega)) j := by
  rw [gateR_apply, inR_apply]
  simp only [rmsR_apply]
  rfl

theorem layer_row (x : FVec Ideal S16384x1024 .f32) (past : FVec Ideal S1x2x1024 .f32) (g : FVec Ideal S1024 .f32) (wi : FVec Ideal S1024x3072 .f32) (cw : FVec Ideal S3x1024 .f32)
    (wo : FVec Ideal S1024x1024 .f32) (gm : FVec Ideal S1024 .f32) (w1 : FVec Ideal S1024x4096 .f32) (w2 : FVec Ideal S4096x1024 .f32) (r : Fin 16384) (j : Fin 1024) :
    mlpR (outR x (gateR (inR (rmsR x g) wi)) (convR cw (padR past (uR (inR (rmsR x g) wi)))) wo) gm w1 w2 (ix2 r j) =
      layer (fun r k => x (ix2 r k)) (fun q k => past (ix3 (0 : Fin 1) q k)) (fun k => g (ix1 k)) (fun k i => wi (ix2 k i)) (fun i k => cw (ix2 i k)) (fun k i => wo (ix2 k i))
        (fun k => gm (ix1 k)) (fun k i => w1 (ix2 k i)) (fun k i => w2 (ix2 k i)) r j := by
  rw [mlpR_apply]
  simp only [outR_apply, gate_row, convR_apply, padR_apply, u_row]
  rfl

theorem left_row (x : FVec Ideal S16384x1024 .f32) (past : FVec Ideal S1x2x1024 .f32) (g : FVec Ideal S1024 .f32) (wi : FVec Ideal S1024x3072 .f32) (q : Fin 2) (j : Fin 1024) :
    leftR (padR past (uR (inR (rmsR x g) wi))) (ix3 (0 : Fin 1) q j) =
      rows (fun r k => x (ix2 r k)) (fun q k => past (ix3 (0 : Fin 1) q k)) (fun k => g (ix1 k)) (fun k i => wi (ix2 k i)) ⟨16384 + q.val, by omega⟩ j := by
  rw [leftR_apply, padR_apply]
  simp only [u_row]
  rfl

/-- The reference ends with the steps' two arrays, its arguments' arrays as they began. -/
theorem run_steps (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62) = res_main_v62 (F := Ideal) m c
      ∧ r.2.mem ((c.tc : Thread nD τ).loc main_v64) = leftR (padR (m ((c.tc : Thread nD τ).loc main_arg1)) (uR (inR (rmsR (m ((c.tc : Thread nD τ).loc main_arg0)) (m ((c.tc : Thread nD τ).loc main_arg2))) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c => ⟨(h c).1, (h c).2.1, (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => (h c).2.2, sem_eq_zero_of_no_sems (by decide) r.2⟩) (Value.run m ρ)

end Cert.Reference3Ideal.Mix
end
-- ==== Proof.Words.lean ====
module
public import Idealize.ShloMosaic.Lib.Tactic.Disch
public import Idealize.ShloMosaic.PureOps
public import Idealize.ShloMosaic.Signature.Words
public import Mathlib.Tactic.IntervalCases
public import Mathlib.Tactic.NormNum

/-! Arithmetic of the small 32-bit words from which the kernel computes its loop bounds and its row offsets. -/

@[expose] public section

namespace Cert.Att

open Idealize.ShloMosaic

theorem toInt_ofNat {a : ℕ} (ha : a < 32) : (BitVec.ofNat 32 a).toInt = a := by
  rw [BitVec.toInt_ofNat']; simp only [Int.bmod]; omega

theorem toNat_ofNat {a : ℕ} (ha : a < 32) : (BitVec.ofNat 32 a).toNat = a := by
  rw [BitVec.toNat_ofNat]; omega

theorem minsi_ofNat {a b : ℕ} (ha : a < 32) (hb : b < 32) :
    Scalar.minsi (BitVec.ofNat 32 a) (BitVec.ofNat 32 b) = BitVec.ofNat 32 (min a b) := by
  interval_cases a <;> interval_cases b <;> rfl

theorem subi_ofNat {a b : ℕ} (ha : a < 32) (hb : b ≤ a) :
    Scalar.subi (BitVec.ofNat 32 a) (BitVec.ofNat 32 b) = BitVec.ofNat 32 (a - b) := by
  apply BitVec.eq_of_toNat_eq
  simp only [Scalar.subi, IntOp.subi, BitVec.toNat_sub, BitVec.toNat_ofNat]; omega

theorem addi_ofNat (a b : ℕ) :
    Scalar.addi (BitVec.ofNat 32 a) (BitVec.ofNat 32 b) = BitVec.ofNat 32 (a + b) := by
  apply BitVec.eq_of_toNat_eq
  simp only [Scalar.addi, IntOp.addi, BitVec.toNat_add, BitVec.toNat_ofNat]; omega

theorem divsi_one {a : ℕ} (ha : a < 32) : Scalar.divsi (BitVec.ofNat 32 a) 1#32 = BitVec.ofNat 32 a := by
  interval_cases a <;> rfl

theorem muli_one (a : BitVec 32) : Scalar.muli a 1#32 = a := by
  simp [Scalar.muli, IntOp.muli]

theorem iv_ofNat (x k : ℕ) : Scf.iv (BitVec.ofNat 32 x) 1#32 k = BitVec.ofNat 32 (x + k) := by
  apply BitVec.eq_of_toNat_eq
  simp only [Scf.iv, BitVec.toNat_add, BitVec.toNat_mul, BitVec.toNat_ofNat]; omega

theorem trips_ofNat {x y : ℕ} (hx : x < 32) (hy : y < 32) : Scf.trips (BitVec.ofNat 32 x) (BitVec.ofNat 32 y) 1#32 = y - x := by
  have h1 : (1#32 : BitVec 32).toInt = 1 := rfl
  simp only [Scf.trips, toInt_ofNat hx, toInt_ofNat hy, h1, Int.ediv_one]; omega

theorem ok_ofNat {x y : ℕ} (hx : x < 32) (hy : y < 32) : Scf.OK (BitVec.ofNat 32 x) (BitVec.ofNat 32 y) 1#32 := by
  have h1 : (1#32 : BitVec 32).toInt = 1 := rfl
  refine ⟨by decide, ?_⟩
  rw [trips_ofNat hx hy, toInt_ofNat hx, h1]; norm_num; omega

/-- The first row of a half block, as the kernel computes it. -/
theorem row_word {n x : ℕ} (c : BitVec 32) (hn : n < 32) (hx : x < n) (hc : c.toNat ≤ 256) :
    (Scalar.addi (Scalar.muli (Scalar.subi (Scalar.subi (BitVec.ofNat 32 n) 1#32) (BitVec.ofNat 32 x)) 512#32) c).toNat
      = (n - 1 - x) * 512 + c.toNat := by
  rw [show (1#32 : BitVec 32) = BitVec.ofNat 32 1 from rfl, subi_ofNat hn (by omega), subi_ofNat (by omega) (by omega)]
  simp only [Scalar.addi, Scalar.muli, IntOp.addi, IntOp.muli, BitVec.toNat_add, BitVec.toNat_mul, BitVec.toNat_ofNat]
  omega

theorem indexCast_toNat (c : BitVec 32) : (Scalar.indexCast c).toNat = c.toNat := rfl

/-- A word between zero and a small bound is the word of a small natural number. -/
theorem exists_ofNat {v : BitVec 32} {n : ℕ} (h : 0 ≤ v.toInt ∧ v.toInt ≤ (n : ℤ)) :
    ∃ a, a ≤ n ∧ v = BitVec.ofNat 32 a := by
  refine ⟨v.toNat, ?_, by simp⟩
  have hv := v.isLt
  rw [BitVec.toInt_eq_toNat_cond (x := v)] at h
  split at h <;> omega

end Cert.Att
-- ==== Proof.Range.lean ====
module
public import proofs.«01_k».proof.Defs
public import proofs.«01_k».proof.Proof.Gen.Pre_trips_in_range
public import proofs.«01_k».proof.Proof.Gen.Pre_finite_inputs
public import Idealize.ShloMosaic.Lib.StableHlo.Predicate
public import Idealize.ShloMosaic.Lib.ReduceAll
public import Idealize.ShloMosaic.Lib.Pointwise
public import Idealize.ShloMosaic.Lib.Affine

/-! What the two preconditions say, read element by element. -/

@[expose] public section

namespace Cert.Att

open Idealize.ShloMosaic

/-- Every word of the table lies between zero and the index of the block of query rows it belongs to. -/
def RangeOk (t : (⟨1, ![512]⟩ : Shape).Idx → BitVec 32) : Prop :=
  ∀ (h : Fin 16) (i : Fin 32), 0 ≤ (t (ix1 ⟨h.val * 32 + i.val, by omega⟩)).toInt ∧ (t (ix1 ⟨h.val * 32 + i.val, by omega⟩)).toInt ≤ (i.val : ℤ)

theorem sge_iff {a b : BitVec 32} : IntOp.cmpi .sge a b = 1#1 ↔ b.toInt ≤ a.toInt := by
  simp [IntOp.cmpi, StableHlo.Predicate.ofBool_eq_one_iff, BitVec.sle]

theorem sle_iff {a b : BitVec 32} : IntOp.cmpi .sle a b = 1#1 ↔ a.toInt ≤ b.toInt := by
  simp [IntOp.cmpi, StableHlo.Predicate.ofBool_eq_one_iff, BitVec.sle]

section
open Cert.Pre_trips_in_range

theorem range_of_pre {F : FTy → Type} [FloatOps F] [Cert.Pre_trips_in_range.Facts] (t : IVec S512 32) (a b c : FVec F S16384x2048 .bf16)
    (H : Cert.Pre_trips_in_range.fn (F := F) t a b c = fun _ => 1#1) : RangeOk t := by
  intro h i
  have e := congrFun H (ix2 h i)
  simp only [Cert.Pre_trips_in_range.fn, andi, IntOp.andi_eq_one, cmpi, sge_iff, sle_iff] at e
  pointwise at e
  have hi : (BitVec.ofNat 32 i.val).toInt = i.val := StableHlo.Predicate.toInt_ofNat_small _ (by omega)
  rw [hi] at e
  exact e
end

section
open Cert.Pre_finite_inputs

variable [Cert.Pre_finite_inputs.Facts] {t : IVec S512 32} {a b c : FVec Ideal S16384x2048 .bf16}

theorem range_of_fin (H : Cert.Pre_finite_inputs.fn (F := Ideal) t a b c = fun _ => 1#1) : RangeOk t := by
  intro h i
  have e := congrFun H ix0
  simp only [Cert.Pre_finite_inputs.fn, Cert.Pre_finite_inputs.fn_part1, andi, IntOp.andi_eq_one] at e
  have e1 := Host.reduce_andi_all _ _ _ _ _ e.1.1.1 (ix2 h i)
  simp only [andi, IntOp.andi_eq_one, cmpi, sge_iff, sle_iff] at e1
  pointwise at e1
  have hi : (BitVec.ofNat 32 i.val).toInt = i.val := StableHlo.Predicate.toInt_ofNat_small _ (by omega)
  rw [hi] at e1
  exact e1

theorem inf_word : Ideal.ofBits FTy.f32 2139095040#32 = (⊤ : EReal) := by
  simp [Ideal.ofBits, Ideal.ieee]

/-- An extended real whose absolute value is below infinity is a real number. -/
theorem real_of_abs {x : EReal} (h : max x (-x) < ⊤) : ∃ r : ℝ, x = (r : EReal) := by
  induction x with
  | bot => simp at h
  | coe r => exact ⟨r, rfl⟩
  | top => simp at h

theorem q_real (H : Cert.Pre_finite_inputs.fn (F := Ideal) t a b c = fun _ => 1#1) (r : Fin 16384) (d : Fin 2048) :
    ∃ x : ℝ, a (ix2 r d) = (x : EReal) := by
  have e := congrFun H ix0
  simp only [Cert.Pre_finite_inputs.fn, Cert.Pre_finite_inputs.fn_part1, andi, IntOp.andi_eq_one] at e
  have e1 := Host.reduce_andi_all _ _ _ _ _ e.1.1.2 (ix2 r d)
  pointwise at e1
  rw [StableHlo.Predicate.ofBool_eq_one_iff, decide_eq_true_iff, inf_word] at e1
  exact real_of_abs e1

theorem k_real (H : Cert.Pre_finite_inputs.fn (F := Ideal) t a b c = fun _ => 1#1) (r : Fin 16384) (d : Fin 2048) :
    ∃ x : ℝ, b (ix2 r d) = (x : EReal) := by
  have e := congrFun H ix0
  simp only [Cert.Pre_finite_inputs.fn, Cert.Pre_finite_inputs.fn_part1, andi, IntOp.andi_eq_one] at e
  have e1 := Host.reduce_andi_all _ _ _ _ _ e.1.2 (ix2 r d)
  pointwise at e1
  rw [StableHlo.Predicate.ofBool_eq_one_iff, decide_eq_true_iff, inf_word] at e1
  exact real_of_abs e1

theorem v_one (H : Cert.Pre_finite_inputs.fn (F := Ideal) t a b c = fun _ => 1#1) (r : Fin 16384) (h : Fin 16) :
    c (ix2 r ⟨h.val * 128 + 64, by omega⟩) = (1 : EReal) := by
  have e := congrFun H ix0
  simp only [Cert.Pre_finite_inputs.fn, Cert.Pre_finite_inputs.fn_part1, andi, IntOp.andi_eq_one] at e
  have e1 := Host.reduce_andi_all _ _ _ _ _ e.2 (ix2 r h)
  pointwise at e1
  rw [StableHlo.Predicate.ofBool_eq_one_iff, decide_eq_true_iff] at e1
  exact e1
end
end Cert.Att
-- ==== Proof.SetupI.lean ====
/- The set-up of the attention call's run, for any floats: the schedule of its windows, the prefetched table read off the launch
   memory, each window's block at a grid point, and the frame's statement out of a run that leaves the arrays as found. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg2)) is fetched at the points ≡ 0 (mod 32), at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_reads cc0_transform_1 reads0_1 hreads0_1 0 (by decide) (by decide) (Pipeline.Window.sep_of_coord cc0_transform_1 0 1 (fun _ => rfl) (by decide)) (P := 32) (by decide) t : ∀ t : Fin grid0.N, Pipeline.Window.fetchOf grid0 false cc0_transform_1 t = true ↔ t.val % 32 = 0)
/-- Window 2 (operand 3 (%arg3)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 0 (by decide) (by decide) (Pipeline.Window.sep_of_coord cc0_transform_2 0 1 (fun _ => rfl) (by decide)) (P := 32) (by decide) t : ∀ t : Fin grid0.N, Pipeline.Window.fetchOf grid0 false cc0_transform_2 t = true ↔ t.val % 32 = 0)
/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prompt_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16384x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16384x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x128 .f32 := spec0_3.stage ((cfgM m hO).slots t 3)
abbrev hs0_3 (hO : Ok m) (t : Fin (cfgM m hO).N) : (ms0_3 m hO t).IsWhole := hstage0_3 (((cfgM m hO).slots t 3).cast nbuf0_3)

end Cert.KernelIdeal.Att

end
-- ==== Proof.RunI.lean ====
module
public import proofs.«01_k».proof.Proof.SetupI
public import proofs.«01_k».proof.Proof.Gen.KernelIdeal.Loops
public import Idealize.ShloMosaic.Lib.Tactic.Disch

@[expose] public section
set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The table's word for head `e` of the pair at a grid point, as the body reads it. -/
abbrev word0 (c : Dev nD) (i : grid0.Coords) (xt0 : TbBuf0 (F := F) c tbM0_0) : Elt F .i32 :=
  View.readAt (Elt F) tbM0_0.view (Rect.unit (s := S512) (k0_off1 i 0#32) S1.size (k0_off1_inb i 0)).toLoadRect xt0 (Shape.Idx.first Nat.one_pos)
abbrev word1 (c : Dev nD) (i : grid0.Coords) (xt0 : TbBuf0 (F := F) c tbM0_0) : Elt F .i32 :=
  View.readAt (Elt F) tbM0_0.view (Rect.unit (s := S512) (k0_off1 i 1#32) S1.size (k0_off1_inb i 1)).toLoadRect xt0 (Shape.Idx.first Nat.one_pos)

set_option maxHeartbeats 4000000 in
/-- One grid point's run: from the staged blocks and the table, with the side condition of the two table words, the body leaves
    the inputs as they were and the result's block at a value the run finds. -/
def kernelRun (c : Dev nD) (i : grid0.Coords) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole)
    (x0 : Vec F S512x256 .bf16) (x1 : Vec F S16384x256 .bf16) (x2 : Vec F S16384x256 .bf16) (xt0 : TbBuf0 (F := F) c tbM0_0)
    (hc : k0_chk1 i (word0 c i xt0) (word1 c i xt0)) :
      { R : Vec F S512x128 .f32 // ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare R ∗ tbPt0 c tbM0_0 xt0) -∗ K ⟨⟩))
          ⊢ wp frame (wpE (defs₀ (F := F)) Variants.none c none) E (cc0_prompt_attn i tbM0_0 htbM0_0 arg3 harg3 arg4 harg4 arg5 harg5 arg6 harg6) K } := by
    refine ⟨?_, fun E K => ?run⟩
    case run =>
    simp only [cc0_prompt_attn_eq_skeleton]; unfold cc0_prompt_attn_skel
    unfold owns
    iintro ⟨⟨%f0, %hf0, H0⟩, ⟨%f1, %hf1, H1⟩, ⟨%f2, %hf2, H2⟩, ⟨%d3, %f3, -, H3⟩, HT0, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      refine View.read_writes_eq_canon (Val := Elt F) _ _ _ ?_
      exact View.cover_of_tiled _ S512x128.size (by rfl)
    iexact HT0

end Cert.KernelIdeal.Att

end
-- ==== Proof.Math.lean ====
module
public import Idealize.ShloMosaic.PureOps.Ideal
public import Mathlib.Order.Interval.Finset.Nat
public import Mathlib.Analysis.SpecialFunctions.Pow.Real

/-! Sums of weighted values over the extended reals, and the running softmax: what one more block of keys does to it. -/

@[expose] public section

noncomputable section

namespace Cert.Att

open Idealize.ShloMosaic
open scoped BigOperators

/-- A nonnegative real factor goes into a finite sum of extended reals. -/
theorem real_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A finite sum of reals is the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Two to a real power, as a weight. -/
def wt (x : ℝ) : ℝ := Real.rpow 2 x

theorem wt_pos (x : ℝ) : 0 < wt x := Real.rpow_pos_of_pos two_pos x
theorem wt_add (x y : ℝ) : wt (x + y) = wt x * wt y := Real.rpow_add two_pos x y
theorem exp2_real (x : ℝ) : Ideal.exp2 (x : EReal) = (wt x : EReal) := rfl
theorem exp2_sub (x y : ℝ) : Ideal.exp2 ((x : EReal) - (y : EReal)) = (wt (x - y) : EReal) := by
  rw [← EReal.coe_sub, exp2_real]
theorem exp2_bot_sub (y : ℝ) : Ideal.exp2 ((⊥ : EReal) - (y : EReal)) = 0 := by
  rw [EReal.bot_sub]; exact Ideal.exp2_bot

/-- A value that is neither infinity is a real. -/
theorem exists_real {x : EReal} (h1 : x ≠ ⊤) (h2 : x ≠ ⊥) : ∃ r : ℝ, x = (r : EReal) := by
  induction x with
  | bot => exact absurd rfl h2
  | coe r => exact ⟨r, rfl⟩
  | top => exact absurd rfl h1

theorem fold_max_ne_top {ι : Type} (s : Finset ι) (f : ι → EReal) (h : ∀ i ∈ s, f i ≠ ⊤) : s.fold max ⊥ f ≠ ⊤ := by
  rw [← lt_top_iff_ne_top, Finset.fold_max_lt]
  exact ⟨bot_lt_top, fun i hi => lt_top_iff_ne_top.2 (h i hi)⟩

theorem fold_max_ne_bot {ι : Type} (s : Finset ι) (f : ι → EReal) (i : ι) (hi : i ∈ s) (x : ℝ) (h : f i = (x : EReal)) :
    s.fold max ⊥ f ≠ ⊥ := by
  have e : (x : EReal) ≤ s.fold max ⊥ f := (Finset.le_fold_max _).2 (Or.inr ⟨i, hi, h.ge⟩)
  exact fun hb => EReal.coe_ne_bot x (le_bot_iff.1 (hb ▸ e))

/-- The running softmax of a query over a set of keys `K`: the running maximum is some real `M`, and each lane of the accumulator
    is the sum over `K` of the values weighted by `2 ^ (logit - M)`. -/
def Good (K : Finset ℕ) (s : ℕ → ℝ) (v : ℕ → Fin 128 → EReal) (m : EReal) (acc : Fin 128 → EReal) : Prop :=
  ∃ M : ℝ, m = (M : EReal) ∧ ∀ d, acc d = ∑ k ∈ K, ((wt (s k - M) : ℝ) : EReal) * v k d

/-- A sum over the members of a block is a sum over an interval of keys. -/
theorem sum_block (b n : ℕ) (f : ℕ → EReal) : ∑ j : Fin n, f (b + j.val) = ∑ k ∈ Finset.Ico b (b + n), f k := by
  rw [Finset.sum_Ico_eq_sum_range, show b + n - b = n by omega]
  exact Fin.sum_univ_eq_sum_range (fun j => f (b + j)) n

/-- One more block of `n` keys, from key `b` on. -/
theorem Good.step {K : Finset ℕ} {s : ℕ → ℝ} {v : ℕ → Fin 128 → EReal} {m : EReal} {acc : Fin 128 → EReal} (h : Good K s v m acc)
    (b n : ℕ) (hd : Disjoint K (Finset.Ico b (b + n))) {m' : EReal} {acc' : Fin 128 → EReal} (L : Fin n → EReal) (V : Fin n → Fin 128 → EReal)
    (hL : ∀ j, L j = (s (b + j.val) : EReal)) (hV : ∀ j d, V j d = v (b + j.val) d)
    (hm : m' = max m (Finset.univ.fold max ⊥ L))
    (ha : ∀ d, acc' d = Ideal.exp2 (m - m') * acc d + ∑ j, Ideal.exp2 (L j - m') * V j d) :
    Good (K ∪ Finset.Ico b (b + n)) s v m' acc' := by
  obtain ⟨M, rfl, hacc⟩ := h
  have h1 : m' ≠ ⊤ := by
    rw [hm]
    refine (max_lt (EReal.coe_lt_top M) (lt_top_iff_ne_top.2 (fold_max_ne_top _ _ fun j _ => ?_))).ne
    rw [hL]; exact EReal.coe_ne_top _
  have h2 : m' ≠ ⊥ := by
    rw [hm]
    exact (lt_of_lt_of_le (EReal.bot_lt_coe M) (le_max_left _ _)).ne'
  obtain ⟨M', rfl⟩ := exists_real h1 h2
  refine ⟨M', rfl, fun d => ?_⟩
  rw [ha d, hacc d, exp2_sub, real_mul_sum _ (wt_pos _).le, Finset.sum_union hd, ← sum_block b n (fun k => ((wt (s k - M') : ℝ) : EReal) * v k d)]
  congr 1
  · refine Finset.sum_congr rfl fun k _ => ?_
    rw [← mul_assoc, ← EReal.coe_mul, ← wt_add]
    congr 3; ring
  · refine Finset.sum_congr rfl fun j _ => ?_
    rw [hL, hV, exp2_sub]

/-- The first block, of the keys from `b` on, seen up to the query's own row `r` of the block. -/
theorem Good.first {s : ℕ → ℝ} {v : ℕ → Fin 128 → EReal} (b n : ℕ) (r : Fin n) {m' : EReal} {acc' : Fin 128 → EReal} (L : Fin n → EReal)
    (V : Fin n → Fin 128 → EReal) (hL : ∀ j, L j = if j.val ≤ r.val then (s (b + j.val) : EReal) else ⊥) (hV : ∀ j d, V j d = v (b + j.val) d)
    (hm : m' = Finset.univ.fold max ⊥ L)
    (ha : ∀ d, acc' d = ∑ j, Ideal.exp2 (L j - m') * V j d) :
    Good (Finset.Ico b (b + (r.val + 1))) s v m' acc' := by
  have h1 : m' ≠ ⊤ := by
    rw [hm]
    refine fold_max_ne_top _ _ fun j _ => ?_
    rw [hL]; split
    · exact EReal.coe_ne_top _
    · exact bot_ne_top
  have h2 : m' ≠ ⊥ := by
    rw [hm]
    exact fold_max_ne_bot _ _ r (Finset.mem_univ _) (s (b + r.val)) (by rw [hL, if_pos le_rfl])
  obtain ⟨M, rfl⟩ := exists_real h1 h2
  refine ⟨M, rfl, fun d => ?_⟩
  rw [ha d]
  have e : ∀ j : Fin n, Ideal.exp2 (L j - M) * V j d = if b + j.val < b + (r.val + 1) then ((wt (s (b + j.val) - M) : ℝ) : EReal) * v (b + j.val) d else 0 := by
    intro j
    rw [hL, hV]
    by_cases hj : j.val ≤ r.val
    · rw [if_pos hj, if_pos (by omega), exp2_sub]
    · rw [if_neg hj, if_neg (by omega), exp2_bot_sub, zero_mul]
  rw [Finset.sum_congr rfl fun j _ => e j, sum_block b n (fun k => if k < b + (r.val + 1) then ((wt (s k - M) : ℝ) : EReal) * v k d else 0),
    ← Finset.sum_filter]
  refine Finset.sum_congr ?_ fun _ _ => rfl
  ext k; simp only [Finset.mem_filter, Finset.mem_Ico]; omega

end Cert.Att
end
-- ==== Proof.Step.lean ====
module
public import proofs.«01_k».proof.Proof.Gen.KernelIdeal.Skeleton
public import proofs.«01_k».proof.Proof.Math
public import Idealize.ShloMosaic.Lib.Pointwise

/-! One block of keys in the kernel's body, read row by row: the first (causal) block and one more half block. -/

@[expose] public section
set_option maxRecDepth 16384
noncomputable section
namespace Cert.KernelIdeal.Att
open Cert.KernelIdeal.Gen Cert.Att
open Idealize.ShloMosaic Idealize.ShloMosaic.TcCoe
open scoped BigOperators

section
variable {F : FTy → Type} [FloatOps F] [Named F]
/-- The running maximum after a half block of keys. -/
def attM (q : Vec F S512x128 .bf16) (k : Vec F S256x128 .bf16) (m : FVec F S512x1 .f32) : FVec F S512x1 .f32 :=
  k0_pay3 q m k
/-- The accumulator after a half block of keys and values. -/
def attA (q : Vec F S512x128 .bf16) (k v : Vec F S256x128 .bf16) (m : FVec F S512x1 .f32) (acc : FVec F S512x128 .f32) : FVec F S512x128 .f32 :=
  addf (mulf (broadcastTo S512x128 (exp2 (subf m (attM q k m))) broadcasts_S512x1_S512x128) acc)
    (matmul (φ₁ := .bf16) (φ₂ := .bf16) dot_S512x256_S256x128_S512x128_1_0_0_1_n_n none
      (truncf .bf16 (exp2 (subf (k0_pay2 q k) (broadcastTo S512x256 (attM q k m) broadcasts_S512x1_S512x256))) bitsLt_bf16_f32) v
      (constant S512x128 .f32 0x00000000#32))
/-- Both, on the pair that a loop carries. -/
def att (q : Vec F S512x128 .bf16) (k v : Vec F S256x128 .bf16) (x : FVec F S512x1 .f32 × FVec F S512x128 .f32) : FVec F S512x1 .f32 × FVec F S512x128 .f32 :=
  (attM q k x.1, attA q k v x.1 x.2)
/-- The first block's pair. -/
def att0 (q k v : Vec F S512x128 .bf16) : FVec F S512x1 .f32 × FVec F S512x128 .f32 :=
  (k0_pay46 q k, k0_pay49 v (k0_pay47 q k) (k0_pay48 q k))

variable (q : Vec F S512x128 .bf16) (m : FVec F S512x1 .f32) (acc : FVec F S512x128 .f32) (k v k' v' : Vec F S256x128 .bf16)
theorem both0_eq : (k0_pay5 q m k k', k0_pay6 q m acc k v k' v') = att q k' v' (att q k v (m, acc)) := rfl
theorem both1_eq : (k0_pay10 q m k k', k0_pay11 q m acc k v k' v') = att q k' v' (att q k v (m, acc)) := rfl
theorem rest0_eq : (k0_pay25 q m k k', k0_pay26 q m acc k v k' v') = att q k' v' (att q k v (m, acc)) := rfl
theorem rest1_eq : (k0_pay35 q m k k', k0_pay36 q m acc k v k' v') = att q k' v' (att q k v (m, acc)) := rfl
theorem first1_eq (k v : Vec F S512x128 .bf16) : (k0_pay51 k0_pay42 q k0_pay43 k, k0_pay52 k0_pay42 q k0_pay43 k0_pay44 k v) = att0 q k v := rfl
end

theorem neg_inf_word : Ideal.ofBits FTy.f32 4286578688#32 = (⊥ : EReal) := by
  simp [Ideal.ofBits, Ideal.ieee]

theorem attM_apply (q : FVec Ideal S512x128 .bf16) (k : FVec Ideal S256x128 .bf16) (m : FVec Ideal S512x1 .f32) (r : Fin 512) :
    attM q k m (ix2 r (0 : Fin 1)) = max (m (ix2 r (0 : Fin 1))) (Finset.univ.fold max ⊥ fun j : Fin 256 => ∑ d : Fin 128, q (ix2 r d) * k (ix2 j d)) := by
  pointwise [attM, k0_pay3, k0_pay2]
  rw [neg_inf_word]

theorem attA_apply (q : FVec Ideal S512x128 .bf16) (k v : FVec Ideal S256x128 .bf16) (m : FVec Ideal S512x1 .f32) (acc) (r : Fin 512) (d : Fin 128) :
    attA q k v m acc (ix2 r d) = Ideal.exp2 (m (ix2 r (0 : Fin 1)) - attM q k m (ix2 r (0 : Fin 1))) * acc (ix2 r d)
      + ∑ j : Fin 256, Ideal.exp2 ((∑ e : Fin 128, q (ix2 r e) * k (ix2 j e)) - attM q k m (ix2 r (0 : Fin 1))) * v (ix2 j d) := by
  pointwise [attA, k0_pay2]
  rfl

/-- The state of every row of a block of queries is good for the row's own set of keys. -/
def GoodR (K : Fin 512 → Finset ℕ) (s : Fin 512 → ℕ → ℝ) (v : ℕ → Fin 128 → EReal) (x : FVec Ideal S512x1 .f32 × FVec Ideal S512x128 .f32) : Prop :=
  ∀ r : Fin 512, Good (K r) (s r) v (x.1 (ix2 r (0 : Fin 1))) (fun d => x.2 (ix2 r d))

/-- One more half block, of the keys from `b` on. -/
theorem good_step {K : Fin 512 → Finset ℕ} {s : Fin 512 → ℕ → ℝ} {vv : ℕ → Fin 128 → EReal} {x : FVec Ideal S512x1 .f32 × FVec Ideal S512x128 .f32}
    (h : GoodR K s vv x) (q : FVec Ideal S512x128 .bf16) (k v : FVec Ideal S256x128 .bf16) (b : ℕ)
    (hd : ∀ r, Disjoint (K r) (Finset.Ico b (b + 256)))
    (hs : ∀ (r : Fin 512) (j : Fin 256), ∑ d : Fin 128, q (ix2 r d) * k (ix2 j d) = (s r (b + j.val) : EReal))
    (hv : ∀ (j : Fin 256) (d : Fin 128), v (ix2 j d) = vv (b + j.val) d) :
    GoodR (fun r => K r ∪ Finset.Ico b (b + 256)) s vv (att q k v x) := by
  intro r
  refine (h r).step b 256 (hd r) (fun j => ∑ d : Fin 128, q (ix2 r d) * k (ix2 j d)) (fun j d => v (ix2 j d)) (hs r) hv (attM_apply q k x.1 r) fun d => ?_
  exact attA_apply q k v x.1 x.2 r d

theorem sle_row (j r : Fin 512) : IntOp.cmpi .sle (BitVec.ofNat 32 j.val) (BitVec.ofNat 32 r.val) = if j.val ≤ r.val then 1#1 else 0#1 := by
  have e1 : (BitVec.ofNat 32 j.val).toInt = j.val := by
    rw [BitVec.toInt_eq_toNat_of_lt (by simp; omega)]; simp; omega
  have e2 : (BitVec.ofNat 32 r.val).toInt = r.val := by
    rw [BitVec.toInt_eq_toNat_of_lt (by simp; omega)]; simp; omega
  simp only [IntOp.cmpi, BitVec.sle, e1, e2]
  by_cases h : j.val ≤ r.val <;> simp [h]

theorem mask_bot : (Named.named κ "mask" 4048155338#32 : Ideal .f32) = (⊥ : EReal) := by
  rfl

theorem pay45_apply (q k : FVec Ideal S512x128 .bf16) (r j : Fin 512) :
    k0_pay45 (F := Ideal) q k (ix2 r j) = if j.val ≤ r.val then ∑ d : Fin 128, q (ix2 r d) * k (ix2 j d) else (⊥ : EReal) := by
  pointwise [k0_pay45, k0_pay42]
  rw [sle_row, mask_bot]
  split <;> rfl

theorem att0_m (q k v : FVec Ideal S512x128 .bf16) (r : Fin 512) :
    (att0 (F := Ideal) q k v).1 (ix2 r (0 : Fin 1)) = Finset.univ.fold max ⊥ fun j : Fin 512 => k0_pay45 (F := Ideal) q k (ix2 r j) := by
  unfold att0
  pointwise [k0_pay46, k0_pay43]
  rw [neg_inf_word, mask_bot, max_eq_right bot_le]

theorem att0_a (q k v : FVec Ideal S512x128 .bf16) (r : Fin 512) (d : Fin 128) :
    (att0 (F := Ideal) q k v).2 (ix2 r d) = ∑ j : Fin 512, Ideal.exp2 (k0_pay45 (F := Ideal) q k (ix2 r j) - (att0 (F := Ideal) q k v).1 (ix2 r (0 : Fin 1))) * v (ix2 j d) := by
  unfold att0
  pointwise [k0_pay49, k0_pay48, k0_pay47, k0_pay44]
  rw [mul_zero, zero_add]
  rfl

/-- The first block, of the keys from `b` on. -/
theorem good_first {s : Fin 512 → ℕ → ℝ} {vv : ℕ → Fin 128 → EReal} (q k v : FVec Ideal S512x128 .bf16) (b : ℕ)
    (hs : ∀ (r : Fin 512) (j : Fin 512), ∑ d : Fin 128, q (ix2 r d) * k (ix2 j d) = (s r (b + j.val) : EReal))
    (hv : ∀ (j : Fin 512) (d : Fin 128), v (ix2 j d) = vv (b + j.val) d) :
    GoodR (fun r => Finset.Ico b (b + (r.val + 1))) s vv (Att.att0 (F := Ideal) q k v) := by
  intro r
  refine Good.first b 512 r (fun j => k0_pay45 (F := Ideal) q k (ix2 r j)) (fun j d => v (ix2 j d)) (fun j => ?_) hv (att0_m q k v r) (fun d => att0_a q k v r d)
  show k0_pay45 (F := Ideal) q k (ix2 r j) = _
  rw [pay45_apply, hs]

/-- The last step of the body: each head's accumulator divided by its lane of ones, side by side. -/
theorem pay1_apply (a b : FVec Ideal S512x128 .f32) (r : Fin 512) (d : Fin 128) :
    k0_pay1 (F := Ideal) a b (ix2 r d) = if h : d.val < 64 then Ideal.div (a (ix2 r d)) (a (ix2 r (64 : Fin 128)))
      else Ideal.div (b (ix2 r (⟨d.val - 64, by omega⟩ : Fin 128))) (b (ix2 r (64 : Fin 128))) := by
  pointwise [k0_pay1]
  try rfl

end Cert.KernelIdeal.Att
end
-- ==== Proof.TripI.lean ====
module
public import proofs.«01_k».proof.Proof.RunI
public import proofs.«01_k».proof.Proof.Step

/-! One trip of each of the body's loops, as two half blocks per head. -/

@[expose] public section
set_option maxRecDepth 16384
noncomputable section
namespace Cert.KernelIdeal.Att
open Cert.KernelIdeal.Gen
open Idealize.ShloMosaic Idealize.ShloMosaic.TcCoe
variable {F : FTy → Type} [FloatOps F] [Named F]

/-- A half block of rows and one head's columns, read from a staged array. -/
abbrev ldR (arg : Memref sig .tc .vmem S16384x256 .bf16) (X : BufTy.Contents (Elt F) arg.view.ty) (off : Fin S16384x256.rank → ℕ)
    (h : ∀ a, off a + S256x128.size a ≤ S16384x256.size a) : Vec F S256x128 .bf16 :=
  View.readAt (Elt F) arg.view (Rect.unit (s := S16384x256) off S256x128.size h).toLoadRect X

/-- Loop 1's trip. -/
theorem trip1_eq (𝒱 : Variants) (c : Dev nD) (bd : Option 𝒱.V) (i : grid0.Coords) (arg2 : Memref sig .tc .smem S512 .i32) (harg2 : arg2.IsWhole) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole) (arg1 : BitVec 32) (v2 : IVec S512x512 1) (v3 : Vec F S512x128 .bf16) (v4 : Vec F S512x128 .bf16) (v10 : Elt F .i32) (v16 : Elt F .i32) (k0_hw1 : k0_chk1 i v10 v16) (v17 : FVec F S512x1 .f32) (v18 : FVec F S512x128 .f32) (v20 : BitVec 32) (v24 : Vec F S512x128 .bf16) (v30 : FVec F S512x1 .f32) (v34 : FVec F S512x512 .bf16) (v38 : FVec F S512x128 .f32) (X_arg4 : BufTy.Contents (Elt F) arg4.view.ty) (X_arg5 : BufTy.Contents (Elt F) arg5.view.ty) (k : Fin (k0_t1_loop v10 v16).trips) (acc : FVec F S512x1 .f32 × FVec F S512x128 .f32 × FVec F S512x1 .f32 × FVec F S512x128 .f32) : ∀ h0 h1 h2 h3,
    tripR_k0_t1 (F := F) 𝒱 c bd i arg2 harg2 arg3 harg3 arg4 harg4 arg5 harg5 arg6 harg6 arg1 v2 v3 v4 v10 v16 k0_hw1 v17 v18 v20 v24 v30 v34 v38 X_arg4 X_arg5 k acc = ((att v3 (ldR arg4 X_arg4 (k0_off4 i v10 v16 k 256#32) h1) (ldR arg5 X_arg5 (k0_off4 i v10 v16 k 256#32) h1) (att v3 (ldR arg4 X_arg4 (k0_off4 i v10 v16 k 0#32) h0) (ldR arg5 X_arg5 (k0_off4 i v10 v16 k 0#32) h0) (acc.1, acc.2.1))).1, (att v3 (ldR arg4 X_arg4 (k0_off4 i v10 v16 k 256#32) h1) (ldR arg5 X_arg5 (k0_off4 i v10 v16 k 256#32) h1) (att v3 (ldR arg4 X_arg4 (k0_off4 i v10 v16 k 0#32) h0) (ldR arg5 X_arg5 (k0_off4 i v10 v16 k 0#32) h0) (acc.1, acc.2.1))).2, att v4 (ldR arg4 X_arg4 (k0_off5 i v10 v16 k 256#32) h3) (ldR arg5 X_arg5 (k0_off5 i v10 v16 k 256#32) h3) (att v4 (ldR arg4 X_arg4 (k0_off5 i v10 v16 k 0#32) h2) (ldR arg5 X_arg5 (k0_off5 i v10 v16 k 0#32) h2) acc.2.2)) := by
  intro h0 h1 h2 h3
  unfold tripR_k0_t1 trip_k0_t1
  rfl

/-- Loop 3's trip. -/
theorem trip3_eq (𝒱 : Variants) (c : Dev nD) (bd : Option 𝒱.V) (i : grid0.Coords) (arg2 : Memref sig .tc .smem S512 .i32) (harg2 : arg2.IsWhole) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole) (arg1 : BitVec 32) (v2 : IVec S512x512 1) (v3 : Vec F S512x128 .bf16) (v4 : Vec F S512x128 .bf16) (v10 : Elt F .i32) (v16 : Elt F .i32) (k0_hw1 : k0_chk1 i v10 v16) (v17 : FVec F S512x1 .f32) (v18 : FVec F S512x128 .f32) (v20 : BitVec 32) (v24 : Vec F S512x128 .bf16) (v30 : FVec F S512x1 .f32) (v34 : FVec F S512x512 .bf16) (v38 : FVec F S512x128 .f32) (v61 : BitVec 32) (X_arg4 : BufTy.Contents (Elt F) arg4.view.ty) (X_arg5 : BufTy.Contents (Elt F) arg5.view.ty) (k : Fin (k0_t3_loop v10 v16).trips) (acc : FVec F S512x1 .f32 × FVec F S512x128 .f32) : ∀ h0 h1,
    tripR_k0_t3 (F := F) 𝒱 c bd i arg2 harg2 arg3 harg3 arg4 harg4 arg5 harg5 arg6 harg6 arg1 v2 v3 v4 v10 v16 k0_hw1 v17 v18 v20 v24 v30 v34 v38 v61 X_arg4 X_arg5 k acc = att v3 (ldR arg4 X_arg4 (k0_off8 i v10 v16 k 256#32) h1) (ldR arg5 X_arg5 (k0_off8 i v10 v16 k 256#32) h1) (att v3 (ldR arg4 X_arg4 (k0_off8 i v10 v16 k 0#32) h0) (ldR arg5 X_arg5 (k0_off8 i v10 v16 k 0#32) h0) acc) := by
  intro h0 h1
  unfold tripR_k0_t3 trip_k0_t3
  rfl

/-- Loop 5's trip. -/
theorem trip5_eq (𝒱 : Variants) (c : Dev nD) (bd : Option 𝒱.V) (i : grid0.Coords) (arg2 : Memref sig .tc .smem S512 .i32) (harg2 : arg2.IsWhole) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole) (arg1 : BitVec 32) (v2 : IVec S512x512 1) (v3 : Vec F S512x128 .bf16) (v4 : Vec F S512x128 .bf16) (v10 : Elt F .i32) (v16 : Elt F .i32) (k0_hw1 : k0_chk1 i v10 v16) (v17 : FVec F S512x1 .f32) (v18 : FVec F S512x128 .f32) (v20 : BitVec 32) (v24 : Vec F S512x128 .bf16) (v30 : FVec F S512x1 .f32) (v34 : FVec F S512x512 .bf16) (v38 : FVec F S512x128 .f32) (v61 : BitVec 32) (X_arg4 : BufTy.Contents (Elt F) arg4.view.ty) (X_arg5 : BufTy.Contents (Elt F) arg5.view.ty) (k : Fin (k0_t5_loop v10 v16).trips) (acc : FVec F S512x1 .f32 × FVec F S512x128 .f32) : ∀ h0 h1,
    tripR_k0_t5 (F := F) 𝒱 c bd i arg2 harg2 arg3 harg3 arg4 harg4 arg5 harg5 arg6 harg6 arg1 v2 v3 v4 v10 v16 k0_hw1 v17 v18 v20 v24 v30 v34 v38 v61 X_arg4 X_arg5 k acc = att v4 (ldR arg4 X_arg4 (k0_off10 i v10 v16 k 256#32) h1) (ldR arg5 X_arg5 (k0_off10 i v10 v16 k 256#32) h1) (att v4 (ldR arg4 X_arg4 (k0_off10 i v10 v16 k 0#32) h0) (ldR arg5 X_arg5 (k0_off10 i v10 v16 k 0#32) h0) acc) := by
  intro h0 h1
  unfold tripR_k0_t5 trip_k0_t5
  rfl

end Cert.KernelIdeal.Att
end
-- ==== Proof.ChkI.lean ====
module
public import proofs.«01_k».proof.Proof.SetupI
public import proofs.«01_k».proof.Proof.Words

@[expose] public section

namespace Cert.KernelIdeal.Att

open Cert.KernelIdeal.Gen Cert.Att
open Idealize.ShloMosaic Idealize.ShloMosaic.TcCoe Idealize.ShloMosaic.Tactic

variable {a b : ℕ}

/-! The six loops at two small words: the trips both heads share, then what is left of each head's. -/

theorem loop1 (ha : a < 32) (hb : b < 32) : k0_t1_loop (BitVec.ofNat 32 a) (BitVec.ofNat 32 b) = ⟨BitVec.ofNat 32 0, BitVec.ofNat 32 (min a b), 1#32⟩ := by
  have h1 : min a b < 32 := by omega
  have h2 : a - min a b < 32 := by omega
  have h3 : b - min a b < 32 := by omega
  simp only [k0_t1_loop, minsi_ofNat ha hb, show (0#32 : BitVec 32) = BitVec.ofNat 32 0 from rfl, subi_ofNat h1 (Nat.zero_le _), subi_ofNat ha (min_le_left a b), subi_ofNat hb (min_le_right a b), Nat.sub_zero, divsi_one h1, divsi_one h2, divsi_one h3, muli_one, addi_ofNat, Nat.zero_add]
  try (rw [Nat.add_sub_cancel' (min_le_left a b)])
  try (rw [Nat.add_sub_cancel' (min_le_right a b)])

theorem trips1 (ha : a < 32) (hb : b < 32) : (k0_t1_loop (BitVec.ofNat 32 a) (BitVec.ofNat 32 b)).trips = (min a b) - 0 := by
  rw [loop1 ha hb]; exact trips_ofNat (by omega) (by omega)

theorem ok1 (ha : a < 32) (hb : b < 32) : (k0_t1_loop (BitVec.ofNat 32 a) (BitVec.ofNat 32 b)).OK := by
  rw [loop1 ha hb]; exact ok_ofNat (by omega) (by omega)

theorem loop2 (ha : a < 32) (hb : b < 32) : k0_t2_loop (BitVec.ofNat 32 a) (BitVec.ofNat 32 b) = ⟨BitVec.ofNat 32 (min a b), BitVec.ofNat 32 (min a b), 1#32⟩ := by
  have h1 : min a b < 32 := by omega
  have h2 : a - min a b < 32 := by omega
  have h3 : b - min a b < 32 := by omega
  simp only [k0_t2_loop, minsi_ofNat ha hb, show (0#32 : BitVec 32) = BitVec.ofNat 32 0 from rfl, subi_ofNat h1 (Nat.zero_le _), subi_ofNat ha (min_le_left a b), subi_ofNat hb (min_le_right a b), Nat.sub_zero, divsi_one h1, divsi_one h2, divsi_one h3, muli_one, addi_ofNat, Nat.zero_add]
  try (rw [Nat.add_sub_cancel' (min_le_left a b)])
  try (rw [Nat.add_sub_cancel' (min_le_right a b)])

theorem trips2 (ha : a < 32) (hb : b < 32) : (k0_t2_loop (BitVec.ofNat 32 a) (BitVec.ofNat 32 b)).trips = (min a b) - (min a b) := by
  rw [loop2 ha hb]; exact trips_ofNat (by omega) (by omega)

theorem ok2 (ha : a < 32) (hb : b < 32) : (k0_t2_loop (BitVec.ofNat 32 a) (BitVec.ofNat 32 b)).OK := by
  rw [loop2 ha hb]; exact ok_ofNat (by omega) (by omega)

theorem loop3 (ha : a < 32) (hb : b < 32) : k0_t3_loop (BitVec.ofNat 32 a) (BitVec.ofNat 32 b) = ⟨BitVec.ofNat 32 (min a b), BitVec.ofNat 32 a, 1#32⟩ := by
  have h1 : min a b < 32 := by omega
  have h2 : a - min a b < 32 := by omega
  have h3 : b - min a b < 32 := by omega
  simp only [k0_t3_loop, minsi_ofNat ha hb, show (0#32 : BitVec 32) = BitVec.ofNat 32 0 from rfl, subi_ofNat h1 (Nat.zero_le _), subi_ofNat ha (min_le_left a b), subi_ofNat hb (min_le_right a b), Nat.sub_zero, divsi_one h1, divsi_one h2, divsi_one h3, muli_one, addi_ofNat, Nat.zero_add]
  try (rw [Nat.add_sub_cancel' (min_le_left a b)])
  try (rw [Nat.add_sub_cancel' (min_le_right a b)])

theorem trips3 (ha : a < 32) (hb : b < 32) : (k0_t3_loop (BitVec.ofNat 32 a) (BitVec.ofNat 32 b)).trips = a - (min a b) := by
  rw [loop3 ha hb]; exact trips_ofNat (by omega) (by omega)

theorem ok3 (ha : a < 32) (hb : b < 32) : (k0_t3_loop (BitVec.ofNat 32 a) (BitVec.ofNat 32 b)).OK := by
  rw [loop3 ha hb]; exact ok_ofNat (by omega) (by omega)

theorem loop4 (ha : a < 32) (hb : b < 32) : k0_t4_loop (BitVec.ofNat 32 a) (BitVec.ofNat 32 b) = ⟨BitVec.ofNat 32 a, BitVec.ofNat 32 a, 1#32⟩ := by
  have h1 : min a b < 32 := by omega
  have h2 : a - min a b < 32 := by omega
  have h3 : b - min a b < 32 := by omega
  simp only [k0_t4_loop, minsi_ofNat ha hb, show (0#32 : BitVec 32) = BitVec.ofNat 32 0 from rfl, subi_ofNat h1 (Nat.zero_le _), subi_ofNat ha (min_le_left a b), subi_ofNat hb (min_le_right a b), Nat.sub_zero, divsi_one h1, divsi_one h2, divsi_one h3, muli_one, addi_ofNat, Nat.zero_add]
  try (rw [Nat.add_sub_cancel' (min_le_left a b)])
  try (rw [Nat.add_sub_cancel' (min_le_right a b)])

theorem trips4 (ha : a < 32) (hb : b < 32) : (k0_t4_loop (BitVec.ofNat 32 a) (BitVec.ofNat 32 b)).trips = a - a := by
  rw [loop4 ha hb]; exact trips_ofNat (by omega) (by omega)

theorem ok4 (ha : a < 32) (hb : b < 32) : (k0_t4_loop (BitVec.ofNat 32 a) (BitVec.ofNat 32 b)).OK := by
  rw [loop4 ha hb]; exact ok_ofNat (by omega) (by omega)

theorem loop5 (ha : a < 32) (hb : b < 32) : k0_t5_loop (BitVec.ofNat 32 a) (BitVec.ofNat 32 b) = ⟨BitVec.ofNat 32 (min a b), BitVec.ofNat 32 b, 1#32⟩ := by
  have h1 : min a b < 32 := by omega
  have h2 : a - min a b < 32 := by omega
  have h3 : b - min a b < 32 := by omega
  simp only [k0_t5_loop, minsi_ofNat ha hb, show (0#32 : BitVec 32) = BitVec.ofNat 32 0 from rfl, subi_ofNat h1 (Nat.zero_le _), subi_ofNat ha (min_le_left a b), subi_ofNat hb (min_le_right a b), Nat.sub_zero, divsi_one h1, divsi_one h2, divsi_one h3, muli_one, addi_ofNat, Nat.zero_add]
  try (rw [Nat.add_sub_cancel' (min_le_left a b)])
  try (rw [Nat.add_sub_cancel' (min_le_right a b)])

theorem trips5 (ha : a < 32) (hb : b < 32) : (k0_t5_loop (BitVec.ofNat 32 a) (BitVec.ofNat 32 b)).trips = b - (min a b) := by
  rw [loop5 ha hb]; exact trips_ofNat (by omega) (by omega)

theorem ok5 (ha : a < 32) (hb : b < 32) : (k0_t5_loop (BitVec.ofNat 32 a) (BitVec.ofNat 32 b)).OK := by
  rw [loop5 ha hb]; exact ok_ofNat (by omega) (by omega)

theorem loop6 (ha : a < 32) (hb : b < 32) : k0_t6_loop (BitVec.ofNat 32 a) (BitVec.ofNat 32 b) = ⟨BitVec.ofNat 32 b, BitVec.ofNat 32 b, 1#32⟩ := by
  have h1 : min a b < 32 := by omega
  have h2 : a - min a b < 32 := by omega
  have h3 : b - min a b < 32 := by omega
  simp only [k0_t6_loop, minsi_ofNat ha hb, show (0#32 : BitVec 32) = BitVec.ofNat 32 0 from rfl, subi_ofNat h1 (Nat.zero_le _), subi_ofNat ha (min_le_left a b), subi_ofNat hb (min_le_right a b), Nat.sub_zero, divsi_one h1, divsi_one h2, divsi_one h3, muli_one, addi_ofNat, Nat.zero_add]
  try (rw [Nat.add_sub_cancel' (min_le_left a b)])
  try (rw [Nat.add_sub_cancel' (min_le_right a b)])

theorem trips6 (ha : a < 32) (hb : b < 32) : (k0_t6_loop (BitVec.ofNat 32 a) (BitVec.ofNat 32 b)).trips = b - b := by
  rw [loop6 ha hb]; exact trips_ofNat (by omega) (by omega)

theorem ok6 (ha : a < 32) (hb : b < 32) : (k0_t6_loop (BitVec.ofNat 32 a) (BitVec.ofNat 32 b)).OK := by
  rw [loop6 ha hb]; exact ok_ofNat (by omega) (by omega)

theorem off4 {i : grid0.Coords} (ha : a ≤ (i 1).val) (hb : b ≤ (i 1).val) (k : Fin (k0_t1_loop (BitVec.ofNat 32 a) (BitVec.ofNat 32 b)).trips) (c : BitVec 32) (hc : c.toNat ≤ 256) :
    k0_off4 i (BitVec.ofNat 32 a) (BitVec.ofNat 32 b) k c = ![((i 1).val - 1 - (0 + k.val)) * 512 + c.toNat, 0] := by
  have hi : (i 1).val < 32 := (i 1).isLt
  have hk : k.val < (min a b) - 0 := lt_of_lt_of_eq k.isLt (trips1 (by omega) (by omega))
  have h1 : min a b < 32 := by omega
  have h2 : a - min a b < 32 := by omega
  have h3 : b - min a b < 32 := by omega
  have ha' : a < 32 := by omega
  have hb' : b < 32 := by omega
  simp only [k0_off4, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off5 {i : grid0.Coords} (ha : a ≤ (i 1).val) (hb : b ≤ (i 1).val) (k : Fin (k0_t1_loop (BitVec.ofNat 32 a) (BitVec.ofNat 32 b)).trips) (c : BitVec 32) (hc : c.toNat ≤ 256) :
    k0_off5 i (BitVec.ofNat 32 a) (BitVec.ofNat 32 b) k c = ![((i 1).val - 1 - (0 + k.val)) * 512 + c.toNat, 128] := by
  have hi : (i 1).val < 32 := (i 1).isLt
  have hk : k.val < (min a b) - 0 := lt_of_lt_of_eq k.isLt (trips1 (by omega) (by omega))
  have h1 : min a b < 32 := by omega
  have h2 : a - min a b < 32 := by omega
  have h3 : b - min a b < 32 := by omega
  have ha' : a < 32 := by omega
  have hb' : b < 32 := by omega
  simp only [k0_off5, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off6 {i : grid0.Coords} (ha : a ≤ (i 1).val) (hb : b ≤ (i 1).val) (k : Fin (k0_t2_loop (BitVec.ofNat 32 a) (BitVec.ofNat 32 b)).trips) (c : BitVec 32) (hc : c.toNat ≤ 256) :
    k0_off6 i (BitVec.ofNat 32 a) (BitVec.ofNat 32 b) k c = ![((i 1).val - 1 - ((min a b) + k.val)) * 512 + c.toNat, 0] := by
  have hi : (i 1).val < 32 := (i 1).isLt
  have hk : k.val < (min a b) - (min a b) := lt_of_lt_of_eq k.isLt (trips2 (by omega) (by omega))
  have h1 : min a b < 32 := by omega
  have h2 : a - min a b < 32 := by omega
  have h3 : b - min a b < 32 := by omega
  have ha' : a < 32 := by omega
  have hb' : b < 32 := by omega
  simp only [k0_off6, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off7 {i : grid0.Coords} (ha : a ≤ (i 1).val) (hb : b ≤ (i 1).val) (k : Fin (k0_t2_loop (BitVec.ofNat 32 a) (BitVec.ofNat 32 b)).trips) (c : BitVec 32) (hc : c.toNat ≤ 256) :
    k0_off7 i (BitVec.ofNat 32 a) (BitVec.ofNat 32 b) k c = ![((i 1).val - 1 - ((min a b) + k.val)) * 512 + c.toNat, 128] := by
  have hi : (i 1).val < 32 := (i 1).isLt
  have hk : k.val < (min a b) - (min a b) := lt_of_lt_of_eq k.isLt (trips2 (by omega) (by omega))
  have h1 : min a b < 32 := by omega
  have h2 : a - min a b < 32 := by omega
  have h3 : b - min a b < 32 := by omega
  have ha' : a < 32 := by omega
  have hb' : b < 32 := by omega
  simp only [k0_off7, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off8 {i : grid0.Coords} (ha : a ≤ (i 1).val) (hb : b ≤ (i 1).val) (k : Fin (k0_t3_loop (BitVec.ofNat 32 a) (BitVec.ofNat 32 b)).trips) (c : BitVec 32) (hc : c.toNat ≤ 256) :
    k0_off8 i (BitVec.ofNat 32 a) (BitVec.ofNat 32 b) k c = ![((i 1).val - 1 - ((min a b) + k.val)) * 512 + c.toNat, 0] := by
  have hi : (i 1).val < 32 := (i 1).isLt
  have hk : k.val < a - (min a b) := lt_of_lt_of_eq k.isLt (trips3 (by omega) (by omega))
  have h1 : min a b < 32 := by omega
  have h2 : a - min a b < 32 := by omega
  have h3 : b - min a b < 32 := by omega
  have ha' : a < 32 := by omega
  have hb' : b < 32 := by omega
  simp only [k0_off8, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off9 {i : grid0.Coords} (ha : a ≤ (i 1).val) (hb : b ≤ (i 1).val) (k : Fin (k0_t4_loop (BitVec.ofNat 32 a) (BitVec.ofNat 32 b)).trips) (c : BitVec 32) (hc : c.toNat ≤ 256) :
    k0_off9 i (BitVec.ofNat 32 a) (BitVec.ofNat 32 b) k c = ![((i 1).val - 1 - (a + k.val)) * 512 + c.toNat, 0] := by
  have hi : (i 1).val < 32 := (i 1).isLt
  have hk : k.val < a - a := lt_of_lt_of_eq k.isLt (trips4 (by omega) (by omega))
  have h1 : min a b < 32 := by omega
  have h2 : a - min a b < 32 := by omega
  have h3 : b - min a b < 32 := by omega
  have ha' : a < 32 := by omega
  have hb' : b < 32 := by omega
  simp only [k0_off9, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off10 {i : grid0.Coords} (ha : a ≤ (i 1).val) (hb : b ≤ (i 1).val) (k : Fin (k0_t5_loop (BitVec.ofNat 32 a) (BitVec.ofNat 32 b)).trips) (c : BitVec 32) (hc : c.toNat ≤ 256) :
    k0_off10 i (BitVec.ofNat 32 a) (BitVec.ofNat 32 b) k c = ![((i 1).val - 1 - ((min a b) + k.val)) * 512 + c.toNat, 128] := by
  have hi : (i 1).val < 32 := (i 1).isLt
  have hk : k.val < b - (min a b) := lt_of_lt_of_eq k.isLt (trips5 (by omega) (by omega))
  have h1 : min a b < 32 := by omega
  have h2 : a - min a b < 32 := by omega
  have h3 : b - min a b < 32 := by omega
  have ha' : a < 32 := by omega
  have hb' : b < 32 := by omega
  simp only [k0_off10, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

theorem off11 {i : grid0.Coords} (ha : a ≤ (i 1).val) (hb : b ≤ (i 1).val) (k : Fin (k0_t6_loop (BitVec.ofNat 32 a) (BitVec.ofNat 32 b)).trips) (c : BitVec 32) (hc : c.toNat ≤ 256) :
    k0_off11 i (BitVec.ofNat 32 a) (BitVec.ofNat 32 b) k c = ![((i 1).val - 1 - (b + k.val)) * 512 + c.toNat, 128] := by
  have hi : (i 1).val < 32 := (i 1).isLt
  have hk : k.val < b - b := lt_of_lt_of_eq k.isLt (trips6 (by omega) (by omega))
  have h1 : min a b < 32 := by omega
  have h2 : a - min a b < 32 := by omega
  have h3 : b - min a b < 32 := by omega
  have ha' : a < 32 := by omega
  have hb' : b < 32 := by omega
  simp only [k0_off11, minsi_ofNat ha' hb', show (0#32 : BitVec 32) = BitVec.ofNat 32 0 from rfl, subi_ofNat h1 (Nat.zero_le _), subi_ofNat ha' (min_le_left a b), subi_ofNat hb' (min_le_right a b), Nat.sub_zero, divsi_one h1, divsi_one h2, divsi_one h3, muli_one, addi_ofNat, iv_ofNat, indexCast_toNat]
  rw [row_word c hi (by omega) hc]
  all_goals (try (congr 1; omega))

/-- The side condition of the two table words holds when both are between zero and the row block's index. -/
theorem chk_of_range (i : grid0.Coords) (v w : BitVec 32) (hv : 0 ≤ v.toInt ∧ v.toInt ≤ ((i 1).val : ℤ))
    (hw : 0 ≤ w.toInt ∧ w.toInt ≤ ((i 1).val : ℤ)) : k0_chk1 i v w := by
  have hi : (i 1).val < 32 := (i 1).isLt
  obtain ⟨a, ha, rfl⟩ := exists_ofNat hv
  obtain ⟨b, hb, rfl⟩ := exists_ofNat hw
  have ha' : a < 32 := by omega
  have hb' : b < 32 := by omega
  have hr : ∀ r : Fin 2, (BitVec.ofNat 32 (256 * r.val)).toNat ≤ 256 := by decide
  unfold k0_chk1
  refine ⟨ok1 ha' hb', ?_, ?_, ?_, ?_, ?_, ?_, ok2 ha' hb', ?_, ?_, ?_, ?_, ?_, ?_, ok3 ha' hb', ?_, ?_, ?_, ok4 ha' hb', ?_, ?_, ?_, ok5 ha' hb', ?_, ?_, ?_, ok6 ha' hb', ?_, ?_, ?_⟩
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off4 ha hb k _ h]
    revert d
    refine Fin.forall_fin_two.2 ⟨?_, show 0 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off5 ha hb k _ h]
    revert d
    refine Fin.forall_fin_two.2 ⟨?_, show 128 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off6 ha hb k _ h]
    revert d
    refine Fin.forall_fin_two.2 ⟨?_, show 0 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off7 ha hb k _ h]
    revert d
    refine Fin.forall_fin_two.2 ⟨?_, show 128 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off8 ha hb k _ h]
    revert d
    refine Fin.forall_fin_two.2 ⟨?_, show 0 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off9 ha hb k _ h]
    revert d
    refine Fin.forall_fin_two.2 ⟨?_, show 0 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off10 ha hb k _ h]
    revert d
    refine Fin.forall_fin_two.2 ⟨?_, show 128 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega
  · intro k r d
    have h := hr r
    rw [off11 ha hb k _ h]
    revert d
    refine Fin.forall_fin_two.2 ⟨?_, show 128 + 128 ≤ 256 by decide⟩
    show ((i 1).val - 1 - _) * 512 + _ + 256 ≤ 16384
    omega
  · intro k; simp only [k0_mult2, k0_mult3, k0_mult4, k0_mult5, k0_mult6, k0_mult7, k0_mult8, k0_mult9, k0_mult10, k0_mult11, k0_mult12, k0_mult13, k0_mult14, k0_mult15, k0_mult16, k0_mult17, Scalar.addi, Scalar.muli, IntOp.addi, IntOp.muli, BitVec.toNat_add, BitVec.toNat_mul, BitVec.toNat_ofNat]; omega

end Cert.KernelIdeal.Att
-- ==== Proof.LoopI.lean ====
module
public import proofs.«01_k».proof.Proof.TripI
public import proofs.«01_k».proof.Proof.ChkI
public import Idealize.ShloMosaic.Lib.WholeRead

/-! What the body's loops leave: after `n` blocks before its own, every row's state is good for the keys from the first of them up to
the row itself. -/

@[expose] public section
set_option maxRecDepth 16384
noncomputable section
namespace Cert.KernelIdeal.Att
open Cert.KernelIdeal.Gen Cert.Att
open Idealize.ShloMosaic Idealize.ShloMosaic.TcCoe
open scoped BigOperators

/-- A staged array of keys or values, at a row and a column, zero outside. -/
def at2 (x : Vec Ideal S16384x256 .bf16) (n c : ℕ) : EReal := if h : n < 16384 ∧ c < 256 then x (ix2 (⟨n, h.1⟩ : Fin 16384) (⟨c, h.2⟩ : Fin 256)) else 0

theorem at2_of (x : Vec Ideal S16384x256 .bf16) (n : Fin 16384) (c : Fin 256) : at2 x n.val c.val = x (ix2 n c) := dif_pos ⟨n.isLt, c.isLt⟩

theorem ldR_apply (arg : Memref sig .tc .vmem S16384x256 .bf16) (harg : arg.IsWhole) (x : Vec Ideal S16384x256 .bf16) (off : Fin S16384x256.rank → ℕ)
    (h : ∀ a, off a + S256x128.size a ≤ S16384x256.size a) (b c : ℕ) (e : off = ![b, c]) (j : Fin 256) (d : Fin 128) :
    ldR (F := Ideal) arg (harg.unread x) off h (ix2 j d) = at2 x (b + j.val) (c + d.val) := by
  subst e
  have h0 : b + 256 ≤ 16384 := h 0
  have h1 : c + 128 ≤ 256 := h 1
  unfold ldR
  rw [harg.readAt_unread]
  unfold at2
  rw [dif_pos ⟨by omega, by omega⟩]
  refine congrArg x ?_
  funext a
  apply Fin.ext
  fin_cases a
  · show b + 1 * j.val = b + j.val; omega
  · show c + 1 * d.val = c + d.val; omega

/-- The keys that row `r` of block `i` has met after `n` blocks before its own. -/
def keys (i n : ℕ) (r : Fin 512) : Finset ℕ := Finset.Ico ((i - n) * 512) (i * 512 + (r.val + 1))

theorem keys_succ {i n : ℕ} (hn : n < i) (r : Fin 512) : keys i (n + 1) r
    = (keys i n r ∪ Finset.Ico ((i - 1 - n) * 512 + 0) ((i - 1 - n) * 512 + 0 + 256)) ∪ Finset.Ico ((i - 1 - n) * 512 + 256) ((i - 1 - n) * 512 + 256 + 256) := by
  ext k
  simp only [keys, Finset.mem_union, Finset.mem_Ico]
  omega

/-- One more block, in two halves. -/
theorem good_block {arg4 arg5 : Memref sig .tc .vmem S16384x256 .bf16} {harg4 : arg4.IsWhole} {harg5 : arg5.IsWhole} {x1 x2 : Vec Ideal S16384x256 .bf16}
    {i n col : ℕ} {s : Fin 512 → ℕ → ℝ} {q : FVec Ideal S512x128 .bf16} {x : FVec Ideal S512x1 .f32 × FVec Ideal S512x128 .f32}
    (hs : ∀ (r : Fin 512) (k : ℕ), k < 16384 → ∑ d : Fin 128, q (ix2 r d) * at2 x1 k (col + d.val) = (s r k : EReal)) (hi : i < 32)
    (h : GoodR (keys i n) s (fun k d => at2 x2 k (col + d.val)) x) (hn : n < i) (o0 o1 : Fin S16384x256.rank → ℕ)
    (h0 : ∀ a, o0 a + S256x128.size a ≤ S16384x256.size a) (h1 : ∀ a, o1 a + S256x128.size a ≤ S16384x256.size a)
    (e0 : o0 = ![(i - 1 - n) * 512 + 0, col]) (e1 : o1 = ![(i - 1 - n) * 512 + 256, col]) :
    GoodR (keys i (n + 1)) s (fun k d => at2 x2 k (col + d.val))
      (att (F := Ideal) q (ldR arg4 (harg4.unread x1) o1 h1) (ldR arg5 (harg5.unread x2) o1 h1)
        (att (F := Ideal) q (ldR arg4 (harg4.unread x1) o0 h0) (ldR arg5 (harg5.unread x2) o0 h0) x)) := by
  rw [show keys i (n + 1) = fun r => _ from funext fun r => keys_succ hn r]
  refine good_step (good_step h q _ _ ((i - 1 - n) * 512 + 0) (fun r => ?_) (fun r j => ?_) (fun j d => ?_)) q _ _ ((i - 1 - n) * 512 + 256) (fun r => ?_) (fun r j => ?_) (fun j d => ?_)
  · rw [Finset.disjoint_left]; intro k; simp only [keys, Finset.mem_Ico]; omega
  · rw [← hs r _ (by omega)]
    exact Finset.sum_congr rfl fun d _ => congrArg _ (ldR_apply arg4 harg4 x1 o0 h0 _ _ e0 j d)
  · exact ldR_apply arg5 harg5 x2 o0 h0 _ _ e0 j d
  · rw [Finset.disjoint_left]; intro k; simp only [keys, Finset.mem_union, Finset.mem_Ico]; omega
  · rw [← hs r _ (by omega)]
    exact Finset.sum_congr rfl fun d _ => congrArg _ (ldR_apply arg4 harg4 x1 o1 h1 _ _ e1 j d)
  · exact ldR_apply arg5 harg5 x2 o1 h1 _ _ e1 j d

/-- After `k` trips of loop 1. -/
theorem loop1_good {a b : ℕ} {x1 x2 : Vec Ideal S16384x256 .bf16} {s0 : Fin 512 → ℕ → ℝ} {s1 : Fin 512 → ℕ → ℝ} (𝒱 : Variants) (c : Dev nD) (bd : Option 𝒱.V) (i : grid0.Coords) (arg2 : Memref sig .tc .smem S512 .i32) (harg2 : arg2.IsWhole) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole) (arg1 : BitVec 32) (v2 : IVec S512x512 1) (v3 : Vec Ideal S512x128 .bf16) (v4 : Vec Ideal S512x128 .bf16) (k0_hw1 : k0_chk1 i (BitVec.ofNat 32 a) (BitVec.ofNat 32 b)) (v17 : FVec Ideal S512x1 .f32) (v18 : FVec Ideal S512x128 .f32) (v20 : BitVec 32) (v24 : Vec Ideal S512x128 .bf16) (v30 : FVec Ideal S512x1 .f32) (v34 : FVec Ideal S512x512 .bf16) (v38 : FVec Ideal S512x128 .f32) (ha : a ≤ (i 1).val) (hb : b ≤ (i 1).val)
    (hs0 : ∀ (r : Fin 512) (k : ℕ), k < 16384 → ∑ d : Fin 128, v3 (ix2 r d) * at2 x1 k (0 + d.val) = (s0 r k : EReal)) (hs1 : ∀ (r : Fin 512) (k : ℕ), k < 16384 → ∑ d : Fin 128, v4 (ix2 r d) * at2 x1 k (128 + d.val) = (s1 r k : EReal))
    (init : FVec Ideal S512x1 .f32 × FVec Ideal S512x128 .f32 × FVec Ideal S512x1 .f32 × FVec Ideal S512x128 .f32) (h : GoodR (keys (i 1).val (0)) s0 (fun k d => at2 x2 k (0 + d.val)) ((init).1, (init).2.1) ∧ GoodR (keys (i 1).val (0)) s1 (fun k d => at2 x2 k (128 + d.val)) (init).2.2) :
    ∀ k : ℕ, k ≤ min a b → GoodR (keys (i 1).val (0 + k)) s0 (fun k d => at2 x2 k (0 + d.val)) ((st_k0_t1 (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 (harg4.unread x1) (harg5.unread x2) init k).1, (st_k0_t1 (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 (harg4.unread x1) (harg5.unread x2) init k).2.1) ∧ GoodR (keys (i 1).val (0 + k)) s1 (fun k d => at2 x2 k (128 + d.val)) (st_k0_t1 (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 (harg4.unread x1) (harg5.unread x2) init k).2.2 := by
  have hi : (i 1).val < 32 := (i 1).isLt
  have ht := trips1 (a := a) (b := b) (by omega) (by omega)
  intro k
  induction k with
  | zero => intro _; rw [st_k0_t1_zero]; exact h
  | succ k ih =>
    intro hk
    have ih := ih (by omega)
    have hk' : k < (k0_t1_loop (BitVec.ofNat 32 a) (BitVec.ofNat 32 b)).trips := by rw [ht]; omega
    have hn : 0 + k < (i 1).val := by omega
    have e := st_k0_t1_succ (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 (harg4.unread x1) (harg5.unread x2) init ⟨k, hk'⟩
    rw [trip1_eq (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 (harg4.unread x1) (harg5.unread x2) ⟨k, hk'⟩ _ (k0_off4_inb i _ _ k0_hw1 ⟨k, hk'⟩ 0) (k0_off4_inb i _ _ k0_hw1 ⟨k, hk'⟩ 1) (k0_off5_inb i _ _ k0_hw1 ⟨k, hk'⟩ 0) (k0_off5_inb i _ _ k0_hw1 ⟨k, hk'⟩ 1)] at e
    rw [e]
    exact ⟨good_block hs0 hi ih.1 hn _ _ _ _ (off4 ha hb ⟨k, hk'⟩ 0#32 (by decide)) (off4 ha hb ⟨k, hk'⟩ 256#32 (by decide)), good_block hs1 hi ih.2 hn _ _ _ _ (off5 ha hb ⟨k, hk'⟩ 0#32 (by decide)) (off5 ha hb ⟨k, hk'⟩ 256#32 (by decide))⟩

/-- After `k` trips of loop 3. -/
theorem loop3_good {a b : ℕ} {x1 x2 : Vec Ideal S16384x256 .bf16} {s0 : Fin 512 → ℕ → ℝ} (𝒱 : Variants) (c : Dev nD) (bd : Option 𝒱.V) (i : grid0.Coords) (arg2 : Memref sig .tc .smem S512 .i32) (harg2 : arg2.IsWhole) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole) (arg1 : BitVec 32) (v2 : IVec S512x512 1) (v3 : Vec Ideal S512x128 .bf16) (v4 : Vec Ideal S512x128 .bf16) (k0_hw1 : k0_chk1 i (BitVec.ofNat 32 a) (BitVec.ofNat 32 b)) (v17 : FVec Ideal S512x1 .f32) (v18 : FVec Ideal S512x128 .f32) (v20 : BitVec 32) (v24 : Vec Ideal S512x128 .bf16) (v30 : FVec Ideal S512x1 .f32) (v34 : FVec Ideal S512x512 .bf16) (v38 : FVec Ideal S512x128 .f32) (v61 : BitVec 32) (ha : a ≤ (i 1).val) (hb : b ≤ (i 1).val)
    (hs0 : ∀ (r : Fin 512) (k : ℕ), k < 16384 → ∑ d : Fin 128, v3 (ix2 r d) * at2 x1 k (0 + d.val) = (s0 r k : EReal))
    (init : FVec Ideal S512x1 .f32 × FVec Ideal S512x128 .f32) (h : GoodR (keys (i 1).val (min a b)) s0 (fun k d => at2 x2 k (0 + d.val)) init) :
    ∀ k : ℕ, k ≤ a - min a b → GoodR (keys (i 1).val ((min a b) + k)) s0 (fun k d => at2 x2 k (0 + d.val)) (st_k0_t3 (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 v61 (harg4.unread x1) (harg5.unread x2) init k) := by
  have hi : (i 1).val < 32 := (i 1).isLt
  have ht := trips3 (a := a) (b := b) (by omega) (by omega)
  intro k
  induction k with
  | zero => intro _; rw [st_k0_t3_zero]; exact h
  | succ k ih =>
    intro hk
    have ih := ih (by omega)
    have hk' : k < (k0_t3_loop (BitVec.ofNat 32 a) (BitVec.ofNat 32 b)).trips := by rw [ht]; omega
    have hn : (min a b) + k < (i 1).val := by omega
    have e := st_k0_t3_succ (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 v61 (harg4.unread x1) (harg5.unread x2) init ⟨k, hk'⟩
    rw [trip3_eq (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 v61 (harg4.unread x1) (harg5.unread x2) ⟨k, hk'⟩ _ (k0_off8_inb i _ _ k0_hw1 ⟨k, hk'⟩ 0) (k0_off8_inb i _ _ k0_hw1 ⟨k, hk'⟩ 1)] at e
    rw [e]
    exact good_block hs0 hi ih hn _ _ _ _ (off8 ha hb ⟨k, hk'⟩ 0#32 (by decide)) (off8 ha hb ⟨k, hk'⟩ 256#32 (by decide))

/-- After `k` trips of loop 5. -/
theorem loop5_good {a b : ℕ} {x1 x2 : Vec Ideal S16384x256 .bf16} {s0 : Fin 512 → ℕ → ℝ} (𝒱 : Variants) (c : Dev nD) (bd : Option 𝒱.V) (i : grid0.Coords) (arg2 : Memref sig .tc .smem S512 .i32) (harg2 : arg2.IsWhole) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole) (arg1 : BitVec 32) (v2 : IVec S512x512 1) (v3 : Vec Ideal S512x128 .bf16) (v4 : Vec Ideal S512x128 .bf16) (k0_hw1 : k0_chk1 i (BitVec.ofNat 32 a) (BitVec.ofNat 32 b)) (v17 : FVec Ideal S512x1 .f32) (v18 : FVec Ideal S512x128 .f32) (v20 : BitVec 32) (v24 : Vec Ideal S512x128 .bf16) (v30 : FVec Ideal S512x1 .f32) (v34 : FVec Ideal S512x512 .bf16) (v38 : FVec Ideal S512x128 .f32) (v61 : BitVec 32) (ha : a ≤ (i 1).val) (hb : b ≤ (i 1).val)
    (hs0 : ∀ (r : Fin 512) (k : ℕ), k < 16384 → ∑ d : Fin 128, v4 (ix2 r d) * at2 x1 k (128 + d.val) = (s0 r k : EReal))
    (init : FVec Ideal S512x1 .f32 × FVec Ideal S512x128 .f32) (h : GoodR (keys (i 1).val (min a b)) s0 (fun k d => at2 x2 k (128 + d.val)) init) :
    ∀ k : ℕ, k ≤ b - min a b → GoodR (keys (i 1).val ((min a b) + k)) s0 (fun k d => at2 x2 k (128 + d.val)) (st_k0_t5 (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 v61 (harg4.unread x1) (harg5.unread x2) init k) := by
  have hi : (i 1).val < 32 := (i 1).isLt
  have ht := trips5 (a := a) (b := b) (by omega) (by omega)
  intro k
  induction k with
  | zero => intro _; rw [st_k0_t5_zero]; exact h
  | succ k ih =>
    intro hk
    have ih := ih (by omega)
    have hk' : k < (k0_t5_loop (BitVec.ofNat 32 a) (BitVec.ofNat 32 b)).trips := by rw [ht]; omega
    have hn : (min a b) + k < (i 1).val := by omega
    have e := st_k0_t5_succ (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 v61 (harg4.unread x1) (harg5.unread x2) init ⟨k, hk'⟩
    rw [trip5_eq (F := Ideal) 𝒱 c bd i arg2 harg2 arg3 harg3 arg4 harg4 arg5 harg5 arg6 harg6 arg1 v2 v3 v4 (BitVec.ofNat 32 a) (BitVec.ofNat 32 b) k0_hw1 v17 v18 v20 v24 v30 v34 v38 v61 (harg4.unread x1) (harg5.unread x2) ⟨k, hk'⟩ _ (k0_off10_inb i _ _ k0_hw1 ⟨k, hk'⟩ 0) (k0_off10_inb i _ _ k0_hw1 ⟨k, hk'⟩ 1)] at e
    rw [e]
    exact good_block hs0 hi ih hn _ _ _ _ (off10 ha hb ⟨k, hk'⟩ 0#32 (by decide)) (off10 ha hb ⟨k, hk'⟩ 256#32 (by decide))

end Cert.KernelIdeal.Att
end
-- ==== Proof.FrameI.lean ====
module
public import proofs.«01_k».proof.Proof.RunI
public import Idealize.ShloMosaic.Lib.Claim

@[expose] public section
set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The table's words as the launch found them satisfy the body's side condition at every point. -/
def TblOk (hO : Ok m) : Prop :=
  ∀ (c : Dev nD) (t : Fin (cfgM m hO).N), k0_chk1 (grid0.coords t) (word0 c (grid0.coords t) (tbl m 0)) (word1 c (grid0.coords t) (tbl m 0))

/-- What the body leaves in the result's block at point `t`. -/
def outAt (hO : Ok m) (hT : TblOk m hO) (c : Dev nD) (t : Fin (cfgM m hO).N) : Vec F S512x128 .f32 :=
  (kernelRun c (grid0.coords t) (ms0_0 m hO t) (hs0_0 m hO t) (ms0_1 m hO t) (hs0_1 m hO t) (ms0_2 m hO t) (hs0_2 m hO t) (ms0_3 m hO t) (hs0_3 m hO t)
    (iblk m hO c 0 t) (iblk m hO c 1 t) (iblk m hO c 2 t) (tbl m 0) (hT c t)).1

/-- The proof data of the one pipeline on core `c`: the arrays as the region finds them (`V`); after the body at
    point `t` each input's buffer at its block and the output at what the body leaves; the invariant the class's
    (Lib/Pipeline/Frame.lean `ΦA`: the scoped rest and the generator register) and the tables' halves (`ΦT`); nothing owed;
    full shares. -/
def dats (hO : Ok m) (hT : TblOk m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO hT c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hT : TblOk m hO) (c : Dev nD) (w : Fin (cfgM m hO).W) : (dats m hO hT 0 c).A w = V m c (Pipeline.arrRef spec0 w) := by
  dsimp only [dats]

/-- What the body leaves, window by window (the proof data's `match` reduced by `dsimp`). -/
theorem after0_0 (hO : Ok m) (hT : TblOk m hO) (c : Dev nD) (t : Fin (cfgM m hO).N) : (dats m hO hT 0 c).after 0 t = iblk m hO c 0 t := by dsimp only [dats]; try rfl
theorem after0_1 (hO : Ok m) (hT : TblOk m hO) (c : Dev nD) (t : Fin (cfgM m hO).N) : (dats m hO hT 0 c).after 1 t = iblk m hO c 1 t := by dsimp only [dats]; try rfl
theorem after0_3 (hO : Ok m) (hT : TblOk m hO) (c : Dev nD) (t : Fin (cfgM m hO).N) : (dats m hO hT 0 c).after 3 t = outAt m hO hT c t := by dsimp only [dats]; try rfl
theorem after0_2 (hO : Ok m) (hT : TblOk m hO) (c : Dev nD) (t : Fin (cfgM m hO).N) : (dats m hO hT 0 c).after 2 t = iblk m hO c 2 t := by dsimp only [dats]; try rfl

/-- Each input's current staging buffer holds its block at every point, fetched there or not (`beforeK_W_of`). -/
theorem before0_0 (hO : Ok m) (hT : TblOk m hO) (c : Dev nD) (t : Fin (cfgM m hO).N) (d) : (dats m hO hT 0 c).before 0 t d = iblk m hO c 0 t :=
  before0_0_of m hO (dats m hO hT 0 c) (A_eq m hO hT c 0) (after0_0 m hO hT c) t d
theorem before0_1 (hO : Ok m) (hT : TblOk m hO) (c : Dev nD) (t : Fin (cfgM m hO).N) (d) : (dats m hO hT 0 c).before 1 t d = iblk m hO c 1 t :=
  before0_1_of m hO (dats m hO hT 0 c) (A_eq m hO hT c 1) (after0_1 m hO hT c) t d
theorem before0_2 (hO : Ok m) (hT : TblOk m hO) (c : Dev nD) (t : Fin (cfgM m hO).N) (d) : (dats m hO hT 0 c).before 2 t d = iblk m hO c 2 t :=
  before0_2_of m hO (dats m hO hT 0 c) (A_eq m hO hT c 2) (after0_2 m hO hT c) t d

/-! ## The body obligation, at a generic point -/

/-- What the body is called with at point `t` (Lib/Pipeline.lean `BodyObligation`'s precondition, the windows one by one), -/
def bodyPre (hO : Ok m) (hT : TblOk m hO) (c : Dev nD) (t : Fin (cfgM m hO).N) : sProp 𝕄 :=
  iprop((dats m hO hT 0 c).Φ t.castSucc ∗ (dats m hO hT 0 c).owesAt () t.castSucc
    ∗ (∃ d, owns (c : Thread nD τ) (ms0_0 m hO t) fullShare ((dats m hO hT 0 c).before 0 t d))
    ∗ (∃ d, owns (c : Thread nD τ) (ms0_1 m hO t) fullShare ((dats m hO hT 0 c).before 1 t d))
    ∗ (∃ d, owns (c : Thread nD τ) (ms0_2 m hO t) fullShare ((dats m hO hT 0 c).before 2 t d))
    ∗ (∃ d, owns (c : Thread nD τ) (ms0_3 m hO t) fullShare ((dats m hO hT 0 c).before 3 t d)))

/-- and what it returns. -/
def bodyPost (hO : Ok m) (hT : TblOk m hO) (c : Dev nD) (t : Fin (cfgM m hO).N) : sProp 𝕄 :=
  iprop((dats m hO hT 0 c).Φ t.succ ∗ (dats m hO hT 0 c).owesAt () t.succ
    ∗ owns (c : Thread nD τ) (ms0_0 m hO t) fullShare ((dats m hO hT 0 c).after 0 t)
    ∗ owns (c : Thread nD τ) (ms0_1 m hO t) fullShare ((dats m hO hT 0 c).after 1 t)
    ∗ owns (c : Thread nD τ) (ms0_2 m hO t) fullShare ((dats m hO hT 0 c).after 2 t)
    ∗ owns (c : Thread nD τ) (ms0_3 m hO t) fullShare ((dats m hO hT 0 c).after 3 t))

/-- The body at any point: the inputs' memrefs hold their blocks (`before0_W`); so the
    run applies; the invariant passes through unread; the core owes nothing throughout. -/
theorem sound_body (hO : Ok m) (hT : TblOk m hO) (c : Dev nD) (t : Fin (cfgM m hO).N) :
    bodyPre m hO hT c t ⊢ wp frame (wpE (defs₀ (F := F)) Variants.none c none) Set.univ (bodyAt0 (adm m hO) t) (fun _ => bodyPost m hO hT c t) := by
  unfold bodyPre bodyPost bodyAt0
  simp only [before0_0, before0_1, before0_2]
  rw [show (dats m hO hT 0 c).Φ t.succ = (dats m hO hT 0 c).Φ t.castSucc from rfl,
    show (dats m hO hT 0 c).owesAt () t.succ = (dats m hO hT 0 c).owesAt () t.castSucc from rfl,
    after0_0, after0_1, after0_2, after0_3]
  rw [show (dats m hO hT 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩⟩
  unfold outAt
  iapply ((kernelRun c (grid0.coords t) _ _ _ _ _ _ _ _ (iblk m hO c 0 t) (iblk m hO c 1 t) (iblk m hO c 2 t) (tbl m 0) (hT c t)).2 Set.univ _)
  isplitl [H0]; · iexact H0
  isplitl [H1]; · iexact H1
  isplitl [H2]; · iexact H2
  isplitl [H3]; · iexists _; iexact H3
  isplitl [HT0]; · iexact HT0
  iintro ⟨H0, H1, H2, H3, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : TblOk m hO) (c : Dev nD) : BodyObligation (dats (F := F) m hO hT 0 c) (defs₀ (F := F)) Variants.none () Set.univ := fun t => by
  rw [bigSep_W0, bigSep_W0, defs₀_row m hO]
  exact triple_restated (sound_body m hO hT c t) rfl .rfl fun _ => .rfl

/-! ## The run and the frame -/

set_option backward.isDefEq.respectTransparency.types false in
/-- THE LAUNCH: `run_main`'s statement, and every semaphore counter of the machine at zero at every final state. -/
theorem run_main_quiescent (hO : Ok m) (hT : TblOk m hO) : θ_run defs (onTc (τ := τ) (main (F := F))) (s₀ m ρ) (fun r => (Pipeline.RDat.FramePost ((Pipeline.pin pcfgs fun _ => adm m hO) 0) (fun c => (dats m hO hT 0 c).toR) (V m)) r ∧ r.2.sem = fun _ => 0) :=
  Pipeline.RDat.θ_run_frameP (Q' := _) pcfgs (fun _ => adm m hO) (0 : Fin 1) launch0 defs₀ Variants.none (fun c => (dats m hO hT 0 c).toR) m ρ main
    (hbody := fun c => (body_obligation m hO hT c).loose.toR) (hshare := fun c => (dats m hO hT 0 c).share_full fun _ => rfl)
    (howed := fun _ _ => rfl) (V := V m) (hmain := hmain m Variants.none) (hA := A_eq m hO hT) (hpf := V_pre m) (hΦ := fun _ _ => rfl)

/-- The run alone: the final state's arrays in terms of the proof data. -/
theorem run_main (hO : Ok m) (hT : TblOk m hO) : θ_run defs (onTc (τ := τ) (main (F := F))) (s₀ m ρ) (Pipeline.RDat.FramePost ((Pipeline.pin pcfgs fun _ => adm m hO) 0) (fun c => (dats m hO hT 0 c).toR) (V m)) :=
  (θ_run defs _ _).mono (fun _ h => h.1) (run_main_quiescent m ρ hO hT)

/-- `frame` without the counters: the argument arrays end unchanged. -/
theorem unchanged (hO : Ok m) (hT : TblOk m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO hT 0 c).toR) (A_eq m hO hT) (run_main m ρ hO hT)

/-- Arguments unchanged and every counter at zero, from any launch memory whose table satisfies the body's side condition. -/
theorem frame (hO : Ok m) (hT : TblOk m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hT) ((θ_run defs _ _).mono (fun _ h => h.2) (run_main_quiescent m ρ hO hT))

end Cert.KernelIdeal.Att

end
-- ==== Proof.TblI.lean ====
module
public import proofs.«01_k».proof.Proof.FrameI
public import proofs.«01_k».proof.Proof.ChkI
public import proofs.«01_k».proof.Proof.Range

@[expose] public section
set_option maxRecDepth 16384

noncomputable section

namespace Cert.KernelIdeal.Att

open Cert.KernelIdeal.Gen
open Idealize.ShloMosaic
open Cert.Att (RangeOk)

variable {F : FTy → Type} [FloatOps F] [Named F]
variable (m : (ℓ : Loc nD τ sig) → Buf (Elt F) ℓ)

theorem off1_val (i : grid0.Coords) (r : Fin 2) (a : Fin S512.rank) : k0_off1 i (BitVec.ofNat 32 r.val) a = 64 * (i 0).val + 32 * r.val + (i 1).val := by
  rw [k0_off1_eq i r]
  fin_cases a; rfl

/-- The first head's word at a grid point is the table's entry of that head and block. -/
theorem word0_eq (c : Dev nD) (i : grid0.Coords) (x : TbBuf0 (F := F) c tbM0_0) (h0 : (i 0).val < 8) (h1 : (i 1).val < 32) :
    word0 c i x = (x : S512.Idx → BitVec 32) (ix1 ⟨(2 * (i 0).val) * 32 + (i 1).val, by omega⟩) := by
  unfold word0
  rw [View.readAt_apply]
  refine congrArg (x : S512.Idx → BitVec 32) ?_
  funext a
  apply Fin.ext
  show k0_off1 i 0#32 a + 1 * 0 = _
  have e := off1_val i 0 a
  change k0_off1 i 0#32 a = _ at e
  rw [e]
  fin_cases a
  show _ = (2 * (i 0).val) * 32 + (i 1).val
  simp only [Fin.val_zero]
  omega

/-- The second head's word likewise. -/
theorem word1_eq (c : Dev nD) (i : grid0.Coords) (x : TbBuf0 (F := F) c tbM0_0) (h0 : (i 0).val < 8) (h1 : (i 1).val < 32) :
    word1 c i x = (x : S512.Idx → BitVec 32) (ix1 ⟨(2 * (i 0).val + 1) * 32 + (i 1).val, by omega⟩) := by
  unfold word1
  rw [View.readAt_apply]
  refine congrArg (x : S512.Idx → BitVec 32) ?_
  funext a
  apply Fin.ext
  show k0_off1 i 1#32 a + 1 * 0 = _
  have e := off1_val i 1 a
  change k0_off1 i 1#32 a = _ at e
  rw [e]
  fin_cases a
  show _ = (2 * (i 0).val + 1) * 32 + (i 1).val
  simp only [Fin.val_one]
  omega

theorem coord0_lt (i : grid0.Coords) : (i 0).val < 8 := (i 0).isLt
theorem coord1_lt (i : grid0.Coords) : (i 1).val < 32 := (i 1).isLt

/-- A table in range meets the body's side condition at every grid point. -/
theorem tblOk (hO : Ok m) (hR : RangeOk (tbl m 0)) : TblOk m hO := by
  intro c t
  have h0 := coord0_lt (grid0.coords t)
  have h1 := coord1_lt (grid0.coords t)
  have e0 := word0_eq (F := F) c (grid0.coords t) (tbl m 0) h0 h1
  have e1 := word1_eq (F := F) c (grid0.coords t) (tbl m 0) h0 h1
  refine (congrArg₂ (k0_chk1 (grid0.coords t)) e0 e1).mpr ?_
  exact chk_of_range _ _ _ (hR ⟨2 * (grid0.coords t 0).val, by omega⟩ ⟨(grid0.coords t 1).val, h1⟩)
    (hR ⟨2 * (grid0.coords t 0).val + 1, by omega⟩ ⟨(grid0.coords t 1).val, h1⟩)

end Cert.KernelIdeal.Att
end
-- ==== Proof.ValI.lean ====
module
public import proofs.«01_k».proof.Proof.LoopI
public import proofs.«01_k».proof.Proof.TblI
public import Idealize.ShloMosaic.Lib.Pipeline.Value

/-! What one grid point leaves in the result's block: for each of its two heads a state good for the head's keys, divided by the
state's own lane of ones. -/

@[expose] public section
set_option maxRecDepth 16384
noncomputable section
namespace Cert.KernelIdeal.Att
open Cert.KernelIdeal.Gen Cert.Att
open Idealize.ShloMosaic Idealize.ShloMosaic.TcCoe
open scoped BigOperators

section
variable {F : FTy → Type} [FloatOps F] [Named F]

/-- A head's half of the staged queries, and a head's diagonal block of keys or values. -/
abbrev ldQ (arg : Memref sig .tc .vmem S512x256 .bf16) (X : BufTy.Contents (Elt F) arg.view.ty) (off : Fin S512x256.rank → ℕ) (h : ∀ a, off a + S512x128.size a ≤ S512x256.size a) : Vec F S512x128 .bf16 :=
  View.readAt (Elt F) arg.view (Rect.unit (s := S512x256) off S512x128.size h).toLoadRect X
abbrev ldD (arg : Memref sig .tc .vmem S16384x256 .bf16) (X : BufTy.Contents (Elt F) arg.view.ty) (off : Fin S16384x256.rank → ℕ) (h : ∀ a, off a + S512x128.size a ≤ S16384x256.size a) : Vec F S512x128 .bf16 :=
  View.readAt (Elt F) arg.view (Rect.unit (s := S16384x256) off S512x128.size h).toLoadRect X

/-- The six loops' last states one from another, and the block they leave. -/
def runVal (c : Dev nD) (i : grid0.Coords) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole)
    (x1 x2 : Vec F S16384x256 .bf16) (q0 q1 : Vec F S512x128 .bf16) (i0 i1 : FVec F S512x1 .f32 × FVec F S512x128 .f32)
    (w0 w1 : BitVec 32) (hw : k0_chk1 i w0 w1) (a1 : BitVec 32) (v2 : IVec S512x512 1) (v17 : FVec F S512x1 .f32) (v18 : FVec F S512x128 .f32) (v20 : BitVec 32) (v24 : Vec F S512x128 .bf16) (v30 : FVec F S512x1 .f32) (v34 : FVec F S512x512 .bf16) (v38 : FVec F S512x128 .f32)
    (v61 v66 v73 v61' v80 c1 : BitVec 32) : Vec F S512x128 .f32 :=
  let s1 := st_k0_t1 (F := F) Variants.none c none i tbM0_0 htbM0_0 arg3 harg3 arg4 harg4 arg5 harg5 arg6 harg6 a1 v2 q0 q1 w0 w1 hw v17 v18 v20 v24 v30 v34 v38 (harg4.unread x1) (harg5.unread x2) (i0.1, i0.2, i1) (k0_t1_loop w0 w1).trips
  let s2 := st_k0_t2 (F := F) Variants.none c none i tbM0_0 htbM0_0 arg3 harg3 arg4 harg4 arg5 harg5 arg6 harg6 a1 v2 q0 q1 w0 w1 hw v17 v18 v20 v24 v30 v34 v38 v66 (harg4.unread x1) (harg5.unread x2) s1 (k0_t2_loop w0 w1).trips
  let s3 := st_k0_t3 (F := F) Variants.none c none i tbM0_0 htbM0_0 arg3 harg3 arg4 harg4 arg5 harg5 arg6 harg6 a1 v2 q0 q1 w0 w1 hw v17 v18 v20 v24 v30 v34 v38 v61 (harg4.unread x1) (harg5.unread x2) (s2.1, s2.2.1) (k0_t3_loop w0 w1).trips
  let s4 := st_k0_t4 (F := F) Variants.none c none i tbM0_0 htbM0_0 arg3 harg3 arg4 harg4 arg5 harg5 arg6 harg6 a1 v2 q0 q1 w0 w1 hw v17 v18 v20 v24 v30 v34 v38 v73 (harg4.unread x1) (harg5.unread x2) s3 (k0_t4_loop w0 w1).trips
  let s5 := st_k0_t5 (F := F) Variants.none c none i tbM0_0 htbM0_0 arg3 harg3 arg4 harg4 arg5 harg5 arg6 harg6 a1 v2 q0 q1 w0 w1 hw v17 v18 v20 v24 v30 v34 v38 v61' (harg4.unread x1) (harg5.unread x2) s2.2.2 (k0_t5_loop w0 w1).trips
  let s6 := st_k0_t6 (F := F) Variants.none c none i tbM0_0 htbM0_0 arg3 harg3 arg4 harg4 arg5 harg5 arg6 harg6 a1 q1 w0 w1 hw v80 c1 (harg4.unread x1) (harg5.unread x2) s5 (k0_t6_loop w0 w1).trips
  k0_pay1 s4.2 s6.2

theorem qInb (a : ℕ) (h : a ≤ 128) : ∀ x, (![0, a] : Fin S512x256.rank → ℕ) x + S512x128.size x ≤ S512x256.size x := by
  intro x; fin_cases x
  · show 0 + 512 ≤ 512; omega
  · show a + 128 ≤ 256; omega

set_option maxHeartbeats 4000000 in
theorem run_eq (c : Dev nD) (i : grid0.Coords) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole)
    (x0 : Vec F S512x256 .bf16) (x1 : Vec F S16384x256 .bf16) (x2 : Vec F S16384x256 .bf16) (xt0 : TbBuf0 (F := F) c tbM0_0)
    (hc : k0_chk1 i (word0 c i xt0) (word1 c i xt0)) :
    ∃ a1 v2 v17 v18 v20 v24 v30 v34 v38 v61 v66 v73 v61' v80 c1,
      (kernelRun c i arg3 harg3 arg4 harg4 arg5 harg5 arg6 harg6 x0 x1 x2 xt0 hc).1
        = runVal c i arg3 harg3 arg4 harg4 arg5 harg5 arg6 harg6 x1 x2 (ldQ arg3 (harg3.unread x0) ![0, 0] (qInb 0 (by omega))) (ldQ arg3 (harg3.unread x0) ![0, 128] (qInb 128 (by omega)))
          (att0 (ldQ arg3 (harg3.unread x0) ![0, 0] (qInb 0 (by omega))) (ldD arg4 (harg4.unread x1) (k0_off2 i) (k0_off2_inb i)) (ldD arg5 (harg5.unread x2) (k0_off2 i) (k0_off2_inb i)))
          (att0 (ldQ arg3 (harg3.unread x0) ![0, 128] (qInb 128 (by omega))) (ldD arg4 (harg4.unread x1) (k0_off3 i) (k0_off3_inb i)) (ldD arg5 (harg5.unread x2) (k0_off3 i) (k0_off3_inb i)))
          (word0 c i xt0) (word1 c i xt0) hc a1 v2 v17 v18 v20 v24 v30 v34 v38 v61 v66 v73 v61' v80 c1 := by
  refine ⟨BitVec.ofNat 32 (i 1).val, k0_pay42, k0_pay43, k0_pay44, kernelRun.sl.v19 i, ldD arg5 (harg5.unread x2) (k0_off2 i) (k0_off2_inb i),
    k0_pay46 (ldQ arg3 (harg3.unread x0) ![0, 0] (qInb 0 (by omega))) (ldD arg4 (harg4.unread x1) (k0_off2 i) (k0_off2_inb i)),
    k0_pay47 (ldQ arg3 (harg3.unread x0) ![0, 0] (qInb 0 (by omega))) (ldD arg4 (harg4.unread x1) (k0_off2 i) (k0_off2_inb i)),
    k0_pay48 (ldQ arg3 (harg3.unread x0) ![0, 0] (qInb 0 (by omega))) (ldD arg4 (harg4.unread x1) (k0_off2 i) (k0_off2_inb i)),
    kernelRun.sl.v61 c i xt0, kernelRun.sl.v66 c i xt0, kernelRun.sl.v73 c i xt0, kernelRun.sl.v61 c i xt0, kernelRun.sl.v80 c i xt0, 1#32, ?_⟩
  unfold kernelRun
  dsimp only
  refine (View.canon_unit_zero (by funext a; fin_cases a <;> rfl) _ _).trans ?_
  unfold kernelRun.sl.r_8 kernelRun.sl.r_9 kernelRun.sl.r_10
  dsimp only [runVal]
  rfl
end

theorem ldQ_apply (arg : Memref sig .tc .vmem S512x256 .bf16) (harg : arg.IsWhole) (x : Vec Ideal S512x256 .bf16) (a : ℕ) (h : a ≤ 128) (r : Fin 512) (d : Fin 128) :
    ldQ (F := Ideal) arg (harg.unread x) ![0, a] (qInb a h) (ix2 r d) = x (ix2 r (⟨a + d.val, by omega⟩ : Fin 256)) := by
  unfold ldQ
  rw [harg.readAt_unread]
  refine congrArg x ?_
  funext y
  apply Fin.ext
  fin_cases y
  · show 0 + 1 * r.val = r.val; omega
  · show a + 1 * d.val = a + d.val; omega

theorem ldD_apply (arg : Memref sig .tc .vmem S16384x256 .bf16) (harg : arg.IsWhole) (x : Vec Ideal S16384x256 .bf16) (off : Fin S16384x256.rank → ℕ)
    (h : ∀ a, off a + S512x128.size a ≤ S16384x256.size a) (b c : ℕ) (e : off = ![b, c]) (j : Fin 512) (d : Fin 128) :
    ldD (F := Ideal) arg (harg.unread x) off h (ix2 j d) = at2 x (b + j.val) (c + d.val) := by
  subst e
  have h0 : b + 512 ≤ 16384 := h 0
  have h1 : c + 128 ≤ 256 := h 1
  unfold ldD
  rw [harg.readAt_unread]
  unfold at2
  rw [dif_pos ⟨by omega, by omega⟩]
  refine congrArg x ?_
  funext a
  apply Fin.ext
  fin_cases a
  · show b + 1 * j.val = b + j.val; omega
  · show c + 1 * d.val = c + d.val; omega

theorem keys_zero (i : ℕ) : keys i 0 = fun r => Finset.Ico (512 * i) (512 * i + (r.val + 1)) := by
  funext r
  show Finset.Ico ((i - 0) * 512) (i * 512 + (r.val + 1)) = _
  rw [Nat.sub_zero, Nat.mul_comm]

/-- A head's state from its diagonal block. -/
theorem diag_good (arg4 arg5 : Memref sig .tc .vmem S16384x256 .bf16) (harg4 : arg4.IsWhole) (harg5 : arg5.IsWhole) {x1 x2 : Vec Ideal S16384x256 .bf16} {i col : ℕ}
    {s : Fin 512 → ℕ → ℝ} {q : FVec Ideal S512x128 .bf16} (hi : i < 32)
    (hs : ∀ (r : Fin 512) (k : ℕ), k < 16384 → ∑ d : Fin 128, q (ix2 r d) * at2 x1 k (col + d.val) = (s r k : EReal))
    (off : Fin S16384x256.rank → ℕ) (h h' : ∀ a, off a + S512x128.size a ≤ S16384x256.size a) (e : off = ![512 * i, col]) :
    GoodR (keys i 0) s (fun k d => at2 x2 k (col + d.val)) (att0 (F := Ideal) q (ldD arg4 (harg4.unread x1) off h) (ldD arg5 (harg5.unread x2) off h')) := by
  rw [keys_zero]
  refine good_first q _ _ (512 * i) (fun r j => ?_) (fun j d => ldD_apply arg5 harg5 x2 off h' _ _ e j d)
  rw [← hs r (512 * i + j.val) (by omega)]
  exact Finset.sum_congr rfl fun d _ => congrArg _ (ldD_apply arg4 harg4 x1 off h _ _ e j d)

theorem runVal_good {a b : ℕ} {s0 s1 : Fin 512 → ℕ → ℝ} (c : Dev nD) (i : grid0.Coords) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole)
    (x1 x2 : Vec Ideal S16384x256 .bf16) (q0 q1 : Vec Ideal S512x128 .bf16) (i0 i1 : FVec Ideal S512x1 .f32 × FVec Ideal S512x128 .f32)
    (w0 w1 : BitVec 32) (hw : k0_chk1 i w0 w1) (a1 : BitVec 32) (v2 : IVec S512x512 1) (v17 : FVec Ideal S512x1 .f32) (v18 : FVec Ideal S512x128 .f32) (v20 : BitVec 32) (v24 : Vec Ideal S512x128 .bf16) (v30 : FVec Ideal S512x1 .f32) (v34 : FVec Ideal S512x512 .bf16) (v38 : FVec Ideal S512x128 .f32)
    (v61 v66 v73 v61' v80 c1 : BitVec 32) (e0 : w0 = BitVec.ofNat 32 a) (e1 : w1 = BitVec.ofNat 32 b) (ha : a ≤ (i 1).val) (hb : b ≤ (i 1).val)
    (hs0 : ∀ (r : Fin 512) (k : ℕ), k < 16384 → ∑ d : Fin 128, q0 (ix2 r d) * at2 x1 k (0 + d.val) = (s0 r k : EReal))
    (hs1 : ∀ (r : Fin 512) (k : ℕ), k < 16384 → ∑ d : Fin 128, q1 (ix2 r d) * at2 x1 k (128 + d.val) = (s1 r k : EReal))
    (g0 : GoodR (keys (i 1).val 0) s0 (fun k d => at2 x2 k (0 + d.val)) i0) (g1 : GoodR (keys (i 1).val 0) s1 (fun k d => at2 x2 k (128 + d.val)) i1) :
    ∃ A B : FVec Ideal S512x1 .f32 × FVec Ideal S512x128 .f32, runVal (F := Ideal) c i arg3 harg3 arg4 harg4 arg5 harg5 arg6 harg6 x1 x2 q0 q1 i0 i1 w0 w1 hw a1 v2 v17 v18 v20 v24 v30 v34 v38 v61 v66 v73 v61' v80 c1 = k0_pay1 (F := Ideal) A.2 B.2
      ∧ GoodR (keys (i 1).val a) s0 (fun k d => at2 x2 k (0 + d.val)) A ∧ GoodR (keys (i 1).val b) s1 (fun k d => at2 x2 k (128 + d.val)) B := by
  subst e0 e1
  have hi : (i 1).val < 32 := (i 1).isLt
  have ha' : a < 32 := by omega
  have hb' : b < 32 := by omega
  unfold runVal
  dsimp only
  rw [trips1 ha' hb', trips2 ha' hb', trips3 ha' hb', trips4 ha' hb', trips5 ha' hb', trips6 ha' hb', Nat.sub_self, Nat.sub_self, Nat.sub_self, Nat.sub_zero,
    st_k0_t2_zero, st_k0_t4_zero, st_k0_t6_zero]
  have h1 := loop1_good (a := a) (b := b) Variants.none c none i tbM0_0 htbM0_0 arg3 harg3 arg4 harg4 arg5 harg5 arg6 harg6 a1 v2 q0 q1 hw v17 v18 v20 v24 v30 v34 v38 ha hb hs0 hs1 (i0.1, i0.2, i1) ⟨g0, g1⟩ (min a b) le_rfl
  rw [Nat.zero_add] at h1
  have h3 := loop3_good (a := a) (b := b) Variants.none c none i tbM0_0 htbM0_0 arg3 harg3 arg4 harg4 arg5 harg5 arg6 harg6 a1 v2 q0 q1 hw v17 v18 v20 v24 v30 v34 v38 v61 ha hb hs0 _ h1.1 (a - min a b) le_rfl
  have h5 := loop5_good (a := a) (b := b) Variants.none c none i tbM0_0 htbM0_0 arg3 harg3 arg4 harg4 arg5 harg5 arg6 harg6 a1 v2 q0 q1 hw v17 v18 v20 v24 v30 v34 v38 v61' ha hb hs1 _ h1.2 (b - min a b) le_rfl
  rw [Nat.add_sub_cancel' (min_le_left a b)] at h3
  rw [Nat.add_sub_cancel' (min_le_right a b)] at h5
  exact ⟨_, _, rfl, h3, h5⟩

/-- The block of one grid point, from the two heads' words and real logits. -/
theorem run_good {a b : ℕ} {s0 s1 : Fin 512 → ℕ → ℝ} (c : Dev nD) (i : grid0.Coords) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x128 .f32) (harg6 : arg6.IsWhole)
    (x0 : Vec Ideal S512x256 .bf16) (x1 x2 : Vec Ideal S16384x256 .bf16) (xt0 : TbBuf0 (F := Ideal) c tbM0_0)
    (hc : k0_chk1 i (word0 c i xt0) (word1 c i xt0)) (e0 : word0 c i xt0 = BitVec.ofNat 32 a) (e1 : word1 c i xt0 = BitVec.ofNat 32 b) (ha : a ≤ (i 1).val) (hb : b ≤ (i 1).val)
    (hs0 : ∀ (r : Fin 512) (k : ℕ), k < 16384 → ∑ d : Fin 128, x0 (ix2 r (⟨0 + d.val, by omega⟩ : Fin 256)) * at2 x1 k (0 + d.val) = (s0 r k : EReal))
    (hs1 : ∀ (r : Fin 512) (k : ℕ), k < 16384 → ∑ d : Fin 128, x0 (ix2 r (⟨128 + d.val, by omega⟩ : Fin 256)) * at2 x1 k (128 + d.val) = (s1 r k : EReal)) :
    ∃ A B : FVec Ideal S512x1 .f32 × FVec Ideal S512x128 .f32, (kernelRun (F := Ideal) c i arg3 harg3 arg4 harg4 arg5 harg5 arg6 harg6 x0 x1 x2 xt0 hc).1 = k0_pay1 (F := Ideal) A.2 B.2
      ∧ GoodR (keys (i 1).val a) s0 (fun k d => at2 x2 k (0 + d.val)) A ∧ GoodR (keys (i 1).val b) s1 (fun k d => at2 x2 k (128 + d.val)) B := by
  have hi : (i 1).val < 32 := (i 1).isLt
  have hs0' : ∀ (r : Fin 512) (k : ℕ), k < 16384 → ∑ d : Fin 128, ldQ (F := Ideal) arg3 (harg3.unread x0) ![0, 0] (qInb 0 (by omega)) (ix2 r d) * at2 x1 k (0 + d.val) = (s0 r k : EReal) := by
    intro r k hk; rw [← hs0 r k hk]
    exact Finset.sum_congr rfl fun d _ => congrArg (· * _) (ldQ_apply arg3 harg3 x0 0 (by omega) r d)
  have hs1' : ∀ (r : Fin 512) (k : ℕ), k < 16384 → ∑ d : Fin 128, ldQ (F := Ideal) arg3 (harg3.unread x0) ![0, 128] (qInb 128 (by omega)) (ix2 r d) * at2 x1 k (128 + d.val) = (s1 r k : EReal) := by
    intro r k hk; rw [← hs1 r k hk]
    exact Finset.sum_congr rfl fun d _ => congrArg (· * _) (ldQ_apply arg3 harg3 x0 128 (by omega) r d)
  obtain ⟨a1, v2, v17, v18, v20, v24, v30, v34, v38, v61, v66, v73, v61', v80, c1, e⟩ := run_eq (F := Ideal) c i arg3 harg3 arg4 harg4 arg5 harg5 arg6 harg6 x0 x1 x2 xt0 hc
  rw [e]
  exact runVal_good c i arg3 harg3 arg4 harg4 arg5 harg5 arg6 harg6 x1 x2 _ _ _ _ _ _ hc a1 v2 v17 v18 v20 v24 v30 v34 v38 v61 v66 v73 v61' v80 c1 e0 e1 ha hb hs0' hs1'
    (diag_good arg4 arg5 harg4 harg5 hi hs0' _ _ _ (k0_off2_eq i)) (diag_good arg4 arg5 harg4 harg5 hi hs1' _ _ _ (k0_off3_eq i))

end Cert.KernelIdeal.Att
end
-- ==== Proof.Soft.lean ====
module
public import proofs.«01_k».proof.Proof.Math

/-! The softmax average over a set of keys: what the running softmax leaves when it is divided by its own lane of ones, and what the
textbook's masked softmax sums to. -/

@[expose] public section

noncomputable section

namespace Cert.Att

open Idealize.ShloMosaic
open scoped BigOperators

/-- The average of the values `v` over the keys `K`, weighted by two to the power of the logits `s`. -/
def soft (K : Finset ℕ) (s : ℕ → ℝ) (v : ℕ → EReal) : EReal := ∑ k ∈ K, ((wt (s k) / ∑ j ∈ K, wt (s j) : ℝ) : EReal) * v k

/-- Weights scaled by a common positive factor average the same. -/
theorem soft_of_scaled {K : Finset ℕ} {s w : ℕ → ℝ} {v : ℕ → EReal} (hK : K.Nonempty) (c : ℝ) (hc : 0 < c) (hw : ∀ k, w k = wt (s k) * c) :
    0 < ∑ k ∈ K, w k ∧ ∀ k, ((w k * (1 / ∑ j ∈ K, w j) : ℝ) : EReal) = ((wt (s k) / ∑ j ∈ K, wt (s j) : ℝ) : EReal) := by
  have hS : 0 < ∑ j ∈ K, wt (s j) := Finset.sum_pos (fun j _ => wt_pos _) hK
  have e : ∑ k ∈ K, w k = (∑ j ∈ K, wt (s j)) * c := by
    rw [Finset.sum_mul]; exact Finset.sum_congr rfl fun k _ => hw k
  refine ⟨by rw [e]; exact mul_pos hS hc, fun k => ?_⟩
  rw [e, hw k]
  congr 1
  field_simp

theorem wt_sub (x y : ℝ) : wt (x - y) = wt x * wt (-y) := by rw [sub_eq_add_neg, wt_add]

theorem Good.div {K : Finset ℕ} {s : ℕ → ℝ} {v : ℕ → Fin 128 → EReal} {m : EReal} {acc : Fin 128 → EReal} (h : Good K s v m acc) (hK : K.Nonempty)
    (o d : Fin 128) (ho : ∀ k ∈ K, v k o = 1) : Ideal.div (acc d) (acc o) = soft K s (fun k => v k d) := by
  obtain ⟨M, rfl, hacc⟩ := h
  obtain ⟨hS, e⟩ := soft_of_scaled (s := s) (w := fun k => wt (s k - M)) (v := fun k => v k d) hK (wt (-M)) (wt_pos _) (fun k => wt_sub _ _)
  have eo : acc o = ((∑ k ∈ K, wt (s k - M) : ℝ) : EReal) := by
    rw [hacc o, ← sum_real]
    exact Finset.sum_congr rfl fun k hk => by rw [ho k hk, mul_one]
  rw [eo, Ideal.div_coe hS.ne', hacc d, mul_comm, real_mul_sum _ (by positivity)]
  refine Finset.sum_congr rfl fun k _ => ?_
  rw [← mul_assoc, ← EReal.coe_mul, mul_comm (1 / _ : ℝ), e k]

/-- The masked softmax over all keys, each product with its value summed. -/
theorem masked_soft {N : ℕ} (K : Finset ℕ) (hK : K.Nonempty) (hN : ∀ k ∈ K, k < N) (s : ℕ → ℝ) (v : ℕ → EReal) (z : Fin N → EReal)
    (hz : ∀ x : Fin N, z x = if x.val ∈ K then ((s x.val * Real.log 2 : ℝ) : EReal) else ⊥) (X : EReal)
    (hX : X = max ⊥ (Finset.univ.fold max ⊥ z)) :
    ∑ x : Fin N, v x.val * Ideal.div (Ideal.exp (z x - X)) (∑ y : Fin N, Ideal.exp (z y - X)) = soft K s v := by
  rw [max_eq_right bot_le] at hX
  have h1 : X ≠ ⊤ := by
    rw [hX]
    refine fold_max_ne_top _ _ fun j _ => ?_
    rw [hz]; split
    · exact EReal.coe_ne_top _
    · exact bot_ne_top
  have h2 : X ≠ ⊥ := by
    obtain ⟨k, hk⟩ := hK
    rw [hX]
    exact fold_max_ne_bot _ _ ⟨k, hN k hk⟩ (Finset.mem_univ _) (s k * Real.log 2) (by rw [hz, if_pos hk])
  obtain ⟨M, rfl⟩ := exists_real h1 h2
  have he : ∀ x : Fin N, Ideal.exp (z x - M) = if x.val ∈ K then ((wt (s x.val) * Real.exp (-M) : ℝ) : EReal) else 0 := by
    intro x
    rw [hz]
    by_cases hx : x.val ∈ K
    · rw [if_pos hx, if_pos hx, ← EReal.coe_sub, Ideal.exp_coe, sub_eq_add_neg, Real.exp_add]
      congr 2
      show _ = (2 : ℝ) ^ s x.val
      rw [Real.rpow_def_of_pos two_pos, mul_comm]
    · rw [if_neg hx, if_neg hx, EReal.bot_sub, Ideal.exp_bot]
  have hsum : ∀ f : ℕ → EReal, ∑ x : Fin N, (if x.val ∈ K then f x.val else 0) = ∑ k ∈ K, f k := by
    intro f
    rw [Fin.sum_univ_eq_sum_range (fun k => if k ∈ K then f k else 0) N, ← Finset.sum_filter]
    refine Finset.sum_congr ?_ fun _ _ => rfl
    ext k
    simp only [Finset.mem_filter, Finset.mem_range]
    exact ⟨fun h => h.2, fun h => ⟨hN k h, h⟩⟩
  obtain ⟨hS, e⟩ := soft_of_scaled (s := s) (w := fun k => wt (s k) * Real.exp (-M)) (v := v) hK (Real.exp (-M)) (Real.exp_pos _) (fun k => rfl)
  rw [Finset.sum_congr rfl fun y _ => he y, hsum (fun k => ((wt (s k) * Real.exp (-M) : ℝ) : EReal)), sum_real]
  rw [soft, ← hsum (fun k => ((wt (s k) / ∑ j ∈ K, wt (s j) : ℝ) : EReal) * v k)]
  refine Finset.sum_congr rfl fun x _ => ?_
  rw [he x, Ideal.div_coe hS.ne']
  by_cases hx : x.val ∈ K
  · rw [if_pos hx, if_pos hx, ← EReal.coe_mul, e x.val, mul_comm]
  · rw [if_neg hx, if_neg hx, zero_mul, mul_zero]

end Cert.Att
end
-- ==== Proof.OutI.lean ====
module
public import proofs.«01_k».proof.Proof.ValI
public import proofs.«01_k».proof.Proof.TblI
public import proofs.«01_k».proof.Proof.Soft
public import Idealize.ShloMosaic.Lib.Pipeline.Value
public import Idealize.ShloMosaic.Lib.Pipeline.ValueKit

/-! The result array after the run: at every index the softmax average over the keys the query sees. -/

@[expose] public section
set_option maxRecDepth 16384

noncomputable section

namespace Cert.KernelIdeal.Att

open Cert.KernelIdeal.Gen Cert.Att
open Idealize.ShloMosaic Idealize.ShloMosaic.TcCoe Idealize.SL.Sem
open Idealize.ShloMosaic.Pipeline (Dat)
open scoped BigOperators

section
variable {F : FTy → Type} [FloatOps F] [Named F]
variable (m : (ℓ : Loc nD τ sig) → Buf (Elt F) ℓ) (hO : Ok m)

theorem tf0 (i : grid0.Coords) : cc0_transform_0 i 0 = (i 1).val ∧ cc0_transform_0 i 1 = (i 0).val := by
  have h0 := coord0_lt i
  have h1 := coord1_lt i
  constructor
  · show (BitVec.ofNat 32 (i 1).val).toNat = _
    rw [BitVec.toNat_ofNat]; omega
  · show (BitVec.ofNat 32 (i 0).val).toNat = _
    rw [BitVec.toNat_ofNat]; omega

theorem tf1 (i : grid0.Coords) : cc0_transform_1 i 0 = 0 ∧ cc0_transform_1 i 1 = (i 0).val := by
  have h0 := coord0_lt i
  constructor
  · rfl
  · show (BitVec.ofNat 32 (i 0).val).toNat = _
    rw [BitVec.toNat_ofNat]; omega

theorem tf2 (i : grid0.Coords) : cc0_transform_2 i 0 = 0 ∧ cc0_transform_2 i 1 = (i 0).val := by
  have h0 := coord0_lt i
  constructor
  · rfl
  · show (BitVec.ofNat 32 (i 0).val).toNat = _
    rw [BitVec.toNat_ofNat]; omega

theorem tf3 (i : grid0.Coords) : cc0_transform_3 i 0 = (i 1).val ∧ cc0_transform_3 i 1 = (i 0).val := by
  have h0 := coord0_lt i
  have h1 := coord1_lt i
  constructor
  · show (BitVec.ofNat 32 (i 1).val).toNat = _
    rw [BitVec.toNat_ofNat]; omega
  · show (BitVec.ofNat 32 (i 0).val).toNat = _
    rw [BitVec.toNat_ofNat]; omega

theorem iblk0_apply (c : Dev nD) (t : Fin (cfgM m hO).N) (r : Fin 512) (d : Fin 256) :
    (iblk m hO c 0 t : Vec F S512x256 .bf16) (ix2 r d)
      = (m ((c : Thread nD τ).loc main_arg1) : Vec F S16384x2048 .bf16)
        (ix2 (⟨(grid0.coords t 1).val * 512 + r.val, by have := coord1_lt (grid0.coords t); omega⟩ : Fin 16384) (⟨(grid0.coords t 0).val * 256 + d.val, by have := coord0_lt (grid0.coords t); omega⟩ : Fin 2048)) := by
  refine congrArg (m ((c : Thread nD τ).loc main_arg1) : Vec F S16384x2048 .bf16) ?_
  funext a
  apply Fin.ext
  refine (Pipeline.Window.rect_emb_val ((cfgM m hO).win 0) t (ix2 r d) a).trans ?_
  fin_cases a
  · exact congrArg (· * 512 + r.val) (tf0 (grid0.coords t)).1
  · exact congrArg (· * 256 + d.val) (tf0 (grid0.coords t)).2

theorem iblk1_apply (c : Dev nD) (t : Fin (cfgM m hO).N) (r : Fin 16384) (d : Fin 256) :
    (iblk m hO c 1 t : Vec F S16384x256 .bf16) (ix2 r d)
      = (m ((c : Thread nD τ).loc main_arg2) : Vec F S16384x2048 .bf16)
        (ix2 r (⟨(grid0.coords t 0).val * 256 + d.val, by have := coord0_lt (grid0.coords t); omega⟩ : Fin 2048)) := by
  refine congrArg (m ((c : Thread nD τ).loc main_arg2) : Vec F S16384x2048 .bf16) ?_
  funext a
  apply Fin.ext
  refine (Pipeline.Window.rect_emb_val ((cfgM m hO).win 1) t (ix2 r d) a).trans ?_
  fin_cases a
  · exact (congrArg (· * 16384 + r.val) (tf1 (grid0.coords t)).1).trans (by show 0 * 16384 + r.val = r.val; omega)
  · exact congrArg (· * 256 + d.val) (tf1 (grid0.coords t)).2

theorem iblk2_apply (c : Dev nD) (t : Fin (cfgM m hO).N) (r : Fin 16384) (d : Fin 256) :
    (iblk m hO c 2 t : Vec F S16384x256 .bf16) (ix2 r d)
      = (m ((c : Thread nD τ).loc main_arg3) : Vec F S16384x2048 .bf16)
        (ix2 r (⟨(grid0.coords t 0).val * 256 + d.val, by have := coord0_lt (grid0.coords t); omega⟩ : Fin 2048)) := by
  refine congrArg (m ((c : Thread nD τ).loc main_arg3) : Vec F S16384x2048 .bf16) ?_
  funext a
  apply Fin.ext
  refine (Pipeline.Window.rect_emb_val ((cfgM m hO).win 2) t (ix2 r d) a).trans ?_
  fin_cases a
  · exact (congrArg (· * 16384 + r.val) (tf2 (grid0.coords t)).1).trans (by show 0 * 16384 + r.val = r.val; omega)
  · exact congrArg (· * 256 + d.val) (tf2 (grid0.coords t)).2

end

/-! ## The attention at an index -/

/-- How many blocks before the query block `i` the head `h` sees. -/
def tripsAt (t : IVec S512 32) (h i : ℕ) : ℕ := if hh : h < 16 ∧ i < 32 then (t (ix1 (⟨h * 32 + i, by omega⟩ : Fin 512))).toNat else 0

/-- The score of the query `q` and the key `k` in the head `h`. -/
def score (qa ka : FVec Ideal S16384x2048 .bf16) (h q k : ℕ) : ℝ :=
  if hh : h < 16 ∧ q < 16384 ∧ k < 16384 then
    (∑ d : Fin 128, qa (ix2 (⟨q, hh.2.1⟩ : Fin 16384) (⟨h * 128 + d.val, by omega⟩ : Fin 2048)) * ka (ix2 (⟨k, hh.2.2⟩ : Fin 16384) (⟨h * 128 + d.val, by omega⟩ : Fin 2048)) : EReal).toReal
  else 0

/-- Lane `l` of the value of the key `k` in the head `h`. -/
def valAt (va : FVec Ideal S16384x2048 .bf16) (h l k : ℕ) : EReal :=
  if hh : k < 16384 ∧ h * 128 + l < 2048 then va (ix2 (⟨k, hh.1⟩ : Fin 16384) (⟨h * 128 + l, hh.2⟩ : Fin 2048)) else 0

/-- The attention: each query's average of the values it sees. -/
def attn (t : IVec S512 32) (qa ka va : FVec Ideal S16384x2048 .bf16) : FVec Ideal S16384x1024 .f32 := fun j =>
  soft (Finset.Ico (((j 0).val / 512 - tripsAt t ((j 1).val / 64) ((j 0).val / 512)) * 512) ((j 0).val + 1))
    (score qa ka ((j 1).val / 64) (j 0).val) (valAt va ((j 1).val / 64) ((j 1).val % 64))

theorem toReal_dot {n : ℕ} (f g : Fin n → EReal) (hf : ∀ d, ∃ x : ℝ, f d = (x : EReal)) (hg : ∀ d, ∃ x : ℝ, g d = (x : EReal)) :
    ((∑ d, f d * g d : EReal).toReal : EReal) = ∑ d, f d * g d := by
  choose x hx using hf
  choose y hy using hg
  have e : ∑ d, f d * g d = ((∑ d, x d * y d : ℝ) : EReal) := by
    rw [← sum_real]
    exact Finset.sum_congr rfl fun d _ => by rw [hx, hy, EReal.coe_mul]
  rw [e, EReal.toReal_coe]

theorem score_coe (qa ka : FVec Ideal S16384x2048 .bf16) (hq : ∀ (r : Fin 16384) (d : Fin 2048), ∃ x : ℝ, (qa (ix2 r d) : EReal) = (x : EReal))
    (hk : ∀ (r : Fin 16384) (d : Fin 2048), ∃ x : ℝ, (ka (ix2 r d) : EReal) = (x : EReal)) (h : Fin 16) (q k : Fin 16384) :
    (∑ d : Fin 128, qa (ix2 q (⟨h.val * 128 + d.val, by omega⟩ : Fin 2048)) * ka (ix2 k (⟨h.val * 128 + d.val, by omega⟩ : Fin 2048)) : EReal)
      = (score qa ka h.val q.val k.val : EReal) := by
  unfold score
  rw [dif_pos ⟨h.isLt, q.isLt, k.isLt⟩]
  exact (toReal_dot _ _ (fun d => hq _ _) (fun d => hk _ _)).symm

theorem soft_congr {K : Finset ℕ} {s : ℕ → ℝ} {v v' : ℕ → EReal} (h : ∀ k ∈ K, v k = v' k) : soft K s v = soft K s v' :=
  Finset.sum_congr rfl fun k hk => by rw [h k hk]

section
variable (m : (ℓ : Loc nD τ sig) → Buf (Elt Ideal) ℓ) (hO : Ok m) (hT : TblOk m hO)

/-- The point's blocks of queries, keys and values. -/
abbrev b0 (c : Dev nD) (t : Fin (cfgM m hO).N) : FVec Ideal S512x256 .bf16 := iblk m hO c 0 t
abbrev b1 (c : Dev nD) (t : Fin (cfgM m hO).N) : FVec Ideal S16384x256 .bf16 := iblk m hO c 1 t
abbrev b2 (c : Dev nD) (t : Fin (cfgM m hO).N) : FVec Ideal S16384x256 .bf16 := iblk m hO c 2 t

theorem b0_apply (c : Dev nD) (t : Fin (cfgM m hO).N) (qa : FVec Ideal S16384x2048 .bf16) (h : m ((c : Thread nD τ).loc main_arg1) = qa) (r : Fin 512) (d : Fin 256) :
    b0 m hO c t (ix2 r d) = qa (ix2 (⟨(grid0.coords t 1).val * 512 + r.val, by have := coord1_lt (grid0.coords t); omega⟩ : Fin 16384) (⟨(grid0.coords t 0).val * 256 + d.val, by have := coord0_lt (grid0.coords t); omega⟩ : Fin 2048)) :=
  (iblk0_apply m hO c t r d).trans (congrFun h _)
theorem b1_apply (c : Dev nD) (t : Fin (cfgM m hO).N) (ka : FVec Ideal S16384x2048 .bf16) (h : m ((c : Thread nD τ).loc main_arg2) = ka) (r : Fin 16384) (d : Fin 256) :
    b1 m hO c t (ix2 r d) = ka (ix2 r (⟨(grid0.coords t 0).val * 256 + d.val, by have := coord0_lt (grid0.coords t); omega⟩ : Fin 2048)) :=
  (iblk1_apply m hO c t r d).trans (congrFun h _)
theorem b2_apply (c : Dev nD) (t : Fin (cfgM m hO).N) (va : FVec Ideal S16384x2048 .bf16) (h : m ((c : Thread nD τ).loc main_arg3) = va) (r : Fin 16384) (d : Fin 256) :
    b2 m hO c t (ix2 r d) = va (ix2 r (⟨(grid0.coords t 0).val * 256 + d.val, by have := coord0_lt (grid0.coords t); omega⟩ : Fin 2048)) :=
  (iblk2_apply m hO c t r d).trans (congrFun h _)

/-- A half of the point's query and key blocks scores as the head it holds. -/
theorem half_score (c : Dev nD) (t : Fin (cfgM m hO).N) (qa ka : FVec Ideal S16384x2048 .bf16)
    (h1 : m ((c : Thread nD τ).loc main_arg1) = qa) (h2 : m ((c : Thread nD τ).loc main_arg2) = ka)
    (hq : ∀ (r : Fin 16384) (d : Fin 2048), ∃ x : ℝ, (qa (ix2 r d) : EReal) = (x : EReal))
    (hk : ∀ (r : Fin 16384) (d : Fin 2048), ∃ x : ℝ, (ka (ix2 r d) : EReal) = (x : EReal)) (p o : ℕ) (hp : p < 2) (ho : o = p * 128) (r : Fin 512) (k : ℕ) (hk' : k < 16384) :
    ∑ d : Fin 128, b0 m hO c t (ix2 r (⟨o + d.val, by omega⟩ : Fin 256)) * at2 (b1 m hO c t) k (o + d.val)
      = (score qa ka (2 * (grid0.coords t 0).val + p) ((grid0.coords t 1).val * 512 + r.val) k : EReal) := by
  have c0 := coord0_lt (grid0.coords t)
  have c1 := coord1_lt (grid0.coords t)
  refine Eq.trans ?_ (score_coe qa ka hq hk ⟨2 * (grid0.coords t 0).val + p, by omega⟩ ⟨(grid0.coords t 1).val * 512 + r.val, by omega⟩ ⟨k, hk'⟩)
  refine Finset.sum_congr rfl fun d _ => ?_
  rw [at2_of (b1 m hO c t) ⟨k, hk'⟩ ⟨o + d.val, by omega⟩, b0_apply m hO c t qa h1, b1_apply m hO c t ka h2]
  have e : ∀ x : ℕ, (grid0.coords t 0).val * 256 + (o + x) = (2 * (grid0.coords t 0).val + p) * 128 + x := fun x => by omega
  simp only [e]

/-- A half of the point's value block holds the head's values. -/
theorem half_val (c : Dev nD) (t : Fin (cfgM m hO).N) (va : FVec Ideal S16384x2048 .bf16) (h3 : m ((c : Thread nD τ).loc main_arg3) = va)
    (p o : ℕ) (hp : p < 2) (ho : o = p * 128) (l : Fin 128) (k : ℕ) (hk' : k < 16384) :
    at2 (b2 m hO c t) k (o + l.val) = valAt va (2 * (grid0.coords t 0).val + p) l.val k := by
  have c0 := coord0_lt (grid0.coords t)
  unfold valAt
  rw [at2_of (b2 m hO c t) ⟨k, hk'⟩ ⟨o + l.val, by omega⟩, b2_apply m hO c t va h3, dif_pos ⟨hk', by omega⟩]
  have e : (grid0.coords t 0).val * 256 + (o + l.val) = (2 * (grid0.coords t 0).val + p) * 128 + l.val := by omega
  simp only [e]

/-- A head's accumulator divided by its weights' sum is the head's average. -/
theorem half_soft (c : Dev nD) (t : Fin (cfgM m hO).N) (va : FVec Ideal S16384x2048 .bf16) (h3 : m ((c : Thread nD τ).loc main_arg3) = va)
    (hv : ∀ (r : Fin 16384) (h : Fin 16), (va (ix2 r (⟨h.val * 128 + 64, by omega⟩ : Fin 2048)) : EReal) = 1)
    (p o : ℕ) (hp : p < 2) (ho : o = p * 128) (a : ℕ) (s : Fin 512 → ℕ → ℝ) (A : FVec Ideal S512x1 .f32 × FVec Ideal S512x128 .f32)
    (hA : GoodR (keys (grid0.coords t 1).val a) s (fun k d => at2 (b2 m hO c t) k (o + d.val)) A) (r : Fin 512) (l : Fin 128) :
    Ideal.div (A.2 (ix2 r l)) (A.2 (ix2 r (64 : Fin 128)))
      = soft (keys (grid0.coords t 1).val a r) (s r) (valAt va (2 * (grid0.coords t 0).val + p) l.val) := by
  have c0 := coord0_lt (grid0.coords t)
  have c1 := coord1_lt (grid0.coords t)
  have hlt : ∀ k ∈ keys (grid0.coords t 1).val a r, k < 16384 := fun k hk => by
    unfold keys at hk; rw [Finset.mem_Ico] at hk; omega
  have hne : (keys (grid0.coords t 1).val a r).Nonempty := ⟨(grid0.coords t 1).val * 512 + r.val, by
    unfold keys; rw [Finset.mem_Ico]
    have := Nat.mul_le_mul_right 512 (Nat.sub_le (grid0.coords t 1).val a)
    omega⟩
  refine ((hA r).div hne (64 : Fin 128) l fun k hk => ?_).trans (soft_congr fun k hk => half_val m hO c t va h3 p o hp ho l k (hlt k hk))
  refine (half_val m hO c t va h3 p o hp ho (64 : Fin 128) k (hlt k hk)).trans ?_
  unfold valAt
  rw [dif_pos ⟨hlt k hk, by show _ * 128 + 64 < 2048; omega⟩]
  exact hv ⟨k, hlt k hk⟩ ⟨2 * (grid0.coords t 0).val + p, by omega⟩

theorem trips_word (t : IVec S512 32) (hR : RangeOk t) (h : Fin 16) (i : Fin 32) :
    tripsAt t h.val i.val ≤ i.val ∧ t (ix1 (⟨h.val * 32 + i.val, by omega⟩ : Fin 512)) = BitVec.ofNat 32 (tripsAt t h.val i.val) := by
  obtain ⟨a, ha, e⟩ := exists_ofNat (hR h i)
  unfold tripsAt
  rw [dif_pos ⟨h.isLt, i.isLt⟩, e, BitVec.toNat_ofNat, Nat.mod_eq_of_lt (by omega)]
  exact ⟨ha, rfl⟩

theorem attn_apply (tb : IVec S512 32) (qa ka va : FVec Ideal S16384x2048 .bf16) (q : Fin 16384) (n : Fin 1024) :
    attn tb qa ka va (ix2 q n) = soft (Finset.Ico ((q.val / 512 - tripsAt tb (n.val / 64) (q.val / 512)) * 512) (q.val + 1)) (score qa ka (n.val / 64) q.val) (valAt va (n.val / 64) (n.val % 64)) := rfl

/-- What the body leaves at an index of the point's block. -/
theorem out_apply (c : Dev nD) (t : Fin (cfgM m hO).N) (tb : IVec S512 32) (qa ka va : FVec Ideal S16384x2048 .bf16)
    (h0 : (tbl m 0 : IVec S512 32) = tb) (h1 : m ((c : Thread nD τ).loc main_arg1) = qa) (h2 : m ((c : Thread nD τ).loc main_arg2) = ka) (h3 : m ((c : Thread nD τ).loc main_arg3) = va)
    (hR : RangeOk tb)
    (hq : ∀ (r : Fin 16384) (d : Fin 2048), ∃ x : ℝ, (qa (ix2 r d) : EReal) = (x : EReal))
    (hk : ∀ (r : Fin 16384) (d : Fin 2048), ∃ x : ℝ, (ka (ix2 r d) : EReal) = (x : EReal))
    (hv : ∀ (r : Fin 16384) (h : Fin 16), (va (ix2 r (⟨h.val * 128 + 64, by omega⟩ : Fin 2048)) : EReal) = 1)
    (r : Fin 512) (l : Fin 128) :
    (outAt m hO hT c t : FVec Ideal S512x128 .f32) (ix2 r l)
      = attn tb qa ka va (ix2 (⟨(grid0.coords t 1).val * 512 + r.val, by have := coord1_lt (grid0.coords t); omega⟩ : Fin 16384) (⟨(grid0.coords t 0).val * 128 + l.val, by have := coord0_lt (grid0.coords t); omega⟩ : Fin 1024)) := by
  have c0 := coord0_lt (grid0.coords t)
  have c1 := coord1_lt (grid0.coords t)
  obtain ⟨ha, e0⟩ := trips_word tb hR ⟨2 * (grid0.coords t 0).val + 0, by omega⟩ ⟨(grid0.coords t 1).val, c1⟩
  obtain ⟨hb, e1⟩ := trips_word tb hR ⟨2 * (grid0.coords t 0).val + 1, by omega⟩ ⟨(grid0.coords t 1).val, c1⟩
  obtain ⟨A, B, e, hA, hB⟩ := run_good c (grid0.coords t) (ms0_0 m hO t) (hs0_0 m hO t) (ms0_1 m hO t) (hs0_1 m hO t) (ms0_2 m hO t) (hs0_2 m hO t) (ms0_3 m hO t) (hs0_3 m hO t)
    (b0 m hO c t) (b1 m hO c t) (b2 m hO c t) (tbl m 0) (hT c t)
    ((word0_eq (F := Ideal) c (grid0.coords t) (tbl m 0) c0 c1).trans ((congrFun h0 _).trans e0))
    ((word1_eq (F := Ideal) c (grid0.coords t) (tbl m 0) c0 c1).trans ((congrFun h0 _).trans e1)) ha hb
    (fun r k hk' => half_score m hO c t qa ka h1 h2 hq hk 0 0 (by omega) (by omega) r k hk')
    (fun r k hk' => half_score m hO c t qa ka h1 h2 hq hk 1 128 (by omega) (by omega) r k hk')
  refine (congrFun e (ix2 r l)).trans ?_
  rw [pay1_apply, attn_apply]
  have eq : ((grid0.coords t 1).val * 512 + r.val) / 512 = (grid0.coords t 1).val := by omega
  split
  · rename_i hl
    rw [half_soft m hO c t va h3 hv 0 0 (by omega) (by omega) _ _ A hA r l]
    have eh : ((grid0.coords t 0).val * 128 + l.val) / 64 = 2 * (grid0.coords t 0).val + 0 := by omega
    have el : ((grid0.coords t 0).val * 128 + l.val) % 64 = l.val := by omega
    simp only [eq, eh, el, keys]
    rfl
  · rename_i hl
    rw [half_soft m hO c t va h3 hv 1 128 (by omega) (by omega) _ _ B hB r ⟨l.val - 64, by omega⟩]
    have eh : ((grid0.coords t 0).val * 128 + l.val) / 64 = 2 * (grid0.coords t 0).val + 1 := by omega
    have el : ((grid0.coords t 0).val * 128 + l.val) % 64 = l.val - 64 := by omega
    simp only [eq, eh, el, keys]
    rfl

/-- The points' blocks cover the result array. -/
theorem cover (i : S16384x1024.Idx) : ∃ t : Fin (cfgM m hO).N, ((cfgM m hO).win 3).flush t = true ∧ i ∈ (((cfgM m hO).win 3).blk t).view.set := by
  have hq : (i 0 : ℕ) < 16384 := (i 0).isLt
  have hn : (i 1 : ℕ) < 1024 := (i 1).isLt
  have hN : ∀ (a : Fin 8) (b : Fin 32), ∃ t : Fin grid0.N, (grid0.coords t 0).val = a.val ∧ (grid0.coords t 1).val = b.val := by decide +kernel
  obtain ⟨t, e0, e1⟩ := hN ⟨(i 1 : ℕ) / 128, by omega⟩ ⟨(i 0 : ℕ) / 512, by omega⟩
  refine ⟨t, flush0_3 _ t, ?_⟩
  refine (congrArg (i ∈ ·) (View.set_slice_whole main_v0 (((cfgM m hO).win 3).rect t))).mpr ?_
  refine (Pipeline.Window.mem_rect_iff ((cfgM m hO).win 3) t i).mpr ?_
  obtain ⟨f0, f1⟩ := tf3 (grid0.coords t)
  intro a
  match a with
  | ⟨0, _⟩ =>
    show cc0_transform_3 (grid0.coords t) 0 * 512 ≤ (i 0 : ℕ) ∧ (i 0 : ℕ) < cc0_transform_3 (grid0.coords t) 0 * 512 + 512
    rw [f0, e1]; dsimp only; omega
  | ⟨1, _⟩ =>
    show cc0_transform_3 (grid0.coords t) 1 * 128 ≤ (i 1 : ℕ) ∧ (i 1 : ℕ) < cc0_transform_3 (grid0.coords t) 1 * 128 + 128
    rw [f1, e0]; dsimp only; omega

/-- The result array after the run is the attention. -/
theorem final (c : Dev nD) (tb : IVec S512 32) (qa ka va : FVec Ideal S16384x2048 .bf16)
    (h0 : (tbl m 0 : IVec S512 32) = tb) (h1 : m ((c : Thread nD τ).loc main_arg1) = qa) (h2 : m ((c : Thread nD τ).loc main_arg2) = ka) (h3 : m ((c : Thread nD τ).loc main_arg3) = va)
    (hR : RangeOk tb)
    (hq : ∀ (r : Fin 16384) (d : Fin 2048), ∃ x : ℝ, (qa (ix2 r d) : EReal) = (x : EReal))
    (hk : ∀ (r : Fin 16384) (d : Fin 2048), ∃ x : ℝ, (ka (ix2 r d) : EReal) = (x : EReal))
    (hv : ∀ (r : Fin 16384) (h : Fin 16), (va (ix2 r (⟨h.val * 128 + 64, by omega⟩ : Fin 2048)) : EReal) = 1) :
    (dats m hO hT 0 c).arrAt 3 (cfgM m hO).N = attn tb qa ka va := by
  refine (dats m hO hT 0 c).arrAt_eq_of_cover 3 (attn tb qa ka va) (fun t _ => ?_) (cover m hO)
  show ((cfgM m hO).win 3).cut (grid0.coords t) ((dats m hO hT 0 c).after 3 t) = _
  rw [after0_3]
  refine funext fun (y : S512x128.Idx) => ?_
  have hy : ∃ (r : Fin 512) (l : Fin 128), y = ix2 r l := ⟨y 0, y 1, by funext a; fin_cases a <;> rfl⟩
  obtain ⟨r, l, rfl⟩ := hy
  refine (out_apply m hO hT c t tb qa ka va h0 h1 h2 h3 hR hq hk hv r l).trans ?_
  refine congrArg (attn tb qa ka va) ?_
  funext a
  apply Fin.ext
  refine Eq.symm ((Pipeline.Window.rect_emb_val ((cfgM m hO).win 3) t (ix2 r l) a).trans ?_)
  fin_cases a
  · exact congrArg (· * 512 + r.val) (tf3 (grid0.coords t)).1
  · exact congrArg (· * 128 + l.val) (tf3 (grid0.coords t)).2

/-- The run: the result array at the attention of the arguments, the arguments unchanged. -/
theorem run (ρ : Dev nD → PrngReg) (at_ : (c : Dev nD) → FVec Ideal S16384x1024 .f32)
    (hat : ∀ c, (dats m hO hT 0 c).arrAt 3 (cfgM m hO).N = at_ c) :
    θ_run (defs (F := Ideal)) (onTc (τ := τ) (main (F := Ideal))) ⟨m, fun _ => 0, ρ⟩ fun r => ∀ c : Dev nD,
      r.2.mem ((c.tc : Thread nD τ).loc main_v0) = at_ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((dats m hO hT 0 c).toR_arrAt_iff 3 _ _).mp ((h.2 c).1 3)).trans (hat c), h.1 c⟩)
    (θ_run_and (unchanged m ρ hO hT) (run_main m ρ hO hT))

end

end Cert.KernelIdeal.Att
end
-- ==== Proof.RefI.lean ====
module
public import proofs.«01_k».proof.Proof.Gen.ReferenceIdeal.Run
public import proofs.«01_k».proof.Proof.Soft
public import proofs.«01_k».proof.Proof.Words
public import proofs.«01_k».proof.Proof.Range
public import Idealize.ShloMosaic.Lib.Pointwise
public import Idealize.ShloMosaic.Lib.Quiescent

/-! The reference at an index: the softmax average over the keys the query sees. -/

@[expose] public section
set_option maxRecDepth 16384
noncomputable section
namespace Cert.ReferenceIdeal.Att
open Cert.ReferenceIdeal Cert.ReferenceIdeal.Gen Cert.ReferenceIdeal.Value
open Cert.Att
open Idealize.ShloMosaic Idealize.ShloMosaic.TcCoe Idealize.SL.Sem Idealize.ShloMosaic.StableHlo
open scoped BigOperators

theorem neg_inf_word : Ideal.ofBits FTy.f32 4286578688#32 = (⊥ : EReal) := by
  simp [Ideal.ofBits, Ideal.ieee]

theorem two_word : Ideal.ofBits FTy.f32 1073741824#32 = ((2 : ℝ) : EReal) := by
  simp [Ideal.ofBits, Ideal.ieee]
  rw [← EReal.coe_mul]
  norm_num

theorem log_two : Ideal.log (Ideal.ofBits FTy.f32 1073741824#32) = (Real.log 2 : EReal) := by
  rw [two_word, Ideal.log_coe, if_neg (by norm_num)]

/-- The mask of the reference: the query's row sees the keys from its first visible row up to itself. -/
theorem seen_iff {a i : ℕ} (hi : i < 32) (ha : a ≤ i) (x q : Fin 16384) :
    IntOp.andi (IntOp.cmpi .sle (BitVec.ofNat 32 x.val) (BitVec.ofNat 32 q.val))
      (IntOp.cmpi .sge (BitVec.ofNat 32 x.val) (IntOp.muli (IntOp.subi (BitVec.ofNat 32 i) (BitVec.ofNat 32 a)) 512#32)) = 1#1
      ↔ x.val ∈ Finset.Ico ((i - a) * 512) (q.val + 1) := by
  have e : IntOp.muli (IntOp.subi (BitVec.ofNat 32 i) (BitVec.ofNat 32 a)) 512#32 = BitVec.ofNat 32 ((i - a) * 512) := by
    have h := subi_ofNat hi ha
    simp only [Scalar.subi] at h
    rw [h]
    apply BitVec.eq_of_toNat_eq
    simp only [IntOp.muli, BitVec.toNat_mul, BitVec.toNat_ofNat]; omega
  rw [IntOp.andi_eq_one, sle_iff, sge_iff, e, StableHlo.Predicate.toInt_ofNat_small _ (by omega), StableHlo.Predicate.toInt_ofNat_small _ (by omega),
    StableHlo.Predicate.toInt_ofNat_small _ (by omega), Finset.mem_Ico]
  omega

/-- Which keys the reference lets each query of each head see. -/
def maskR (t : IVec S512 32) : IVec S16x16384x16384 1 :=
  andi (broadcastInDim S16x16384x16384 ![0, 1, 2] bcast_S1x16384x16384_S16x16384x16384_0_1_2 (cmpi .sle (broadcastInDim S1x16384x16384 ![0, 1, 2] bcast_S1x1x16384_S1x16384x16384_0_1_2 (broadcastInDim S1x1x16384 ![2] bcast_S16384_S1x1x16384_2 (iotaInDim S16384 32 0))) (broadcastInDim S1x16384x16384 ![0, 1, 2] bcast_S1x16384x1_S1x16384x16384_0_1_2 (broadcastInDim S1x16384x1 ![1] bcast_S16384_S1x16384x1_1 (iotaInDim S16384 32 0))))) (cmpi .sge (broadcastInDim S16x16384x16384 ![0, 1, 2] bcast_S1x1x16384_S16x16384x16384_0_1_2 (broadcastInDim S1x1x16384 ![2] bcast_S16384_S1x1x16384_2 (iotaInDim S16384 32 0))) (broadcastInDim S16x16384x16384 ![0, 1, 2] bcast_S16x16384x1_S16x16384x16384_0_1_2 (broadcastInDim S16x16384x1 ![0, 1] bcast_S16x16384_S16x16384x1_0_1 (shapeCast _ (broadcastInDim S16x32x512 ![0, 1, 2] bcast_S16x32x1_S16x32x512_0_1_2 (broadcastInDim S16x32x1 ![0, 1] bcast_S16x32_S16x32x1_0_1 (muli (subi (broadcastInDim S16x32 ![0, 1] bcast_S1x32_S16x32_0_1 (broadcastInDim S1x32 ![1] bcast_S32_S1x32_1 (iotaInDim S32 32 0))) (shapeCast _ t shapeCasts_S512_S16x32)) (broadcastInDim S16x32 ![] bcast_S_S16x32 (constantI S_ 32 512#32))))) shapeCasts_S16x32x512_S16x16384))))

def dotR (qa ka : FVec Ideal S16384x2048 .bf16) : FVec Ideal S16x16384x16384 .f32 :=
  mulf (Host.dotGeneral dot_S16384x16x128_S16384x16x128_S16x16384x16384_2_2_0_0_1_1 none (shapeCast _ (extf .f32 qa bitsLt_bf16_f32) shapeCasts_S16384x2048_S16384x16x128) (shapeCast _ (extf .f32 ka bitsLt_bf16_f32) shapeCasts_S16384x2048_S16384x16x128)) (broadcastInDim S16x16384x16384 ![] bcast_S_S16x16384x16384 (Host.log (constant S_ .f32 0x40000000#32)))

def logitR (t : IVec S512 32) (qa ka : FVec Ideal S16384x2048 .bf16) : FVec Ideal S16x16384x16384 .f32 :=
  select (maskR t) (dotR qa ka) (broadcastInDim S16x16384x16384 ![] bcast_S_S16x16384x16384 (id (constant S_ .f32 0xFF800000#32)))

def redR (z : FVec Ideal S16x16384x16384 .f32) : FVec Ideal S16x16384 .f32 :=
  Host.reduce FloatOps.maximumf z (constant S_ .f32 0xFF800000#32) reducesTo_S16x16384x16384_S16x16384_d2 h_S_

def botR : FVec Ideal S16x16384 .f32 := broadcastInDim S16x16384 ![] bcast_S_S16x16384 (constant S_ .f32 0xFF800000#32)

def maxR (z : FVec Ideal S16x16384x16384 .f32) : FVec Ideal S16x16384 .f32 := maximumf botR (redR z)

def spread (x : FVec Ideal S16x16384 .f32) : FVec Ideal S16x16384x16384 .f32 :=
  broadcastInDim S16x16384x16384 ![0, 1, 2] bcast_S16x16384x1_S16x16384x16384_0_1_2 (broadcastInDim S16x16384x1 ![0, 1] bcast_S16x16384_S16x16384x1_0_1 x)

def expR (z : FVec Ideal S16x16384x16384 .f32) : FVec Ideal S16x16384x16384 .f32 := Host.exp (subf z (spread (maxR z)))

def sumR (w : FVec Ideal S16x16384x16384 .f32) : FVec Ideal S16x16384 .f32 :=
  Host.reduceAdd w (constant S_ .f32 0x00000000#32) reducesTo_S16x16384x16384_S16x16384_d2 h_S_

def probR (w : FVec Ideal S16x16384x16384 .f32) : FVec Ideal S16x16384x16384 .f32 := Host.divf w (spread (sumR w))

def mixR (va : FVec Ideal S16384x2048 .bf16) (w : FVec Ideal S16x16384x16384 .f32) : FVec Ideal S16384x1024 .f32 :=
  shapeCast _ (transpose S16384x16x64 [2, 0, 1] (Host.dotGeneral dot_S16384x16x64_S16x16384x16384_S16x64x16384_0_2_2_1_1_0 none (extractStridedSlice S16384x16x64 ![0, 0, 0] (shapeCast _ (extf .f32 va bitsLt_bf16_f32) shapeCasts_S16384x2048_S16384x16x128) slices_S16384x16x128_S16384x16x64_0_0_0) w) transposes_S16x64x16384_S16384x16x64_2_0_1) shapeCasts_S16384x16x64_S16384x1024

theorem maskR_apply (t : IVec S512 32) (h : Fin 16) (q x : Fin 16384) : maskR t (ix3 h q x)
    = IntOp.andi (IntOp.cmpi .sle (BitVec.ofNat 32 x.val) (BitVec.ofNat 32 q.val))
      (IntOp.cmpi .sge (BitVec.ofNat 32 x.val) (IntOp.muli (IntOp.subi (BitVec.ofNat 32 (q.val / 512))
        (t (ix1 (⟨h.val * 32 + q.val / 512, by omega⟩ : Fin 512)))) 512#32)) := by
  pointwise [maskR]

theorem dotR_apply (qa ka : FVec Ideal S16384x2048 .bf16) (h : Fin 16) (q x : Fin 16384) : dotR qa ka (ix3 h q x)
    = (∑ d : Fin 128, qa (ix2 q (⟨h.val * 128 + d.val, by omega⟩ : Fin 2048)) * ka (ix2 x (⟨h.val * 128 + d.val, by omega⟩ : Fin 2048)))
      * Ideal.log (Ideal.ofBits FTy.f32 1073741824#32) := by
  pointwise [dotR]

theorem redR_apply (z : FVec Ideal S16x16384x16384 .f32) (h : Fin 16) (q : Fin 16384) : (redR z (ix2 h q) : EReal)
    = Finset.univ.fold (max : EReal → EReal → EReal) (Ideal.ofBits FTy.f32 4286578688#32 : EReal) (fun x : Fin 16384 => (z (ix3 h q x) : EReal)) := by
  pointwise [redR]

theorem botR_apply (h : Fin 16) (q : Fin 16384) : botR (ix2 h q) = Ideal.ofBits FTy.f32 4286578688#32 := by
  pointwise [botR]

theorem maximumf_ix (x y : FVec Ideal S16x16384 .f32) (i : S16x16384.Idx) : (maximumf x y i : EReal) = max (x i : EReal) (y i : EReal) := rfl

theorem maxR_apply (z : FVec Ideal S16x16384x16384 .f32) (h : Fin 16) (q : Fin 16384) : (maxR z (ix2 h q) : EReal)
    = max (botR (ix2 h q) : EReal) (redR z (ix2 h q) : EReal) := maximumf_ix botR (redR z) (ix2 h q)

theorem sumR_apply (w : FVec Ideal S16x16384x16384 .f32) (h : Fin 16) (q : Fin 16384) : sumR w (ix2 h q) = ∑ x : Fin 16384, w (ix3 h q x) := by
  pointwise [sumR]

theorem spread_apply (w : FVec Ideal S16x16384 .f32) (h : Fin 16) (q x : Fin 16384) : spread w (ix3 h q x) = w (ix2 h q) := by
  pointwise [spread]

theorem mixR_apply (va : FVec Ideal S16384x2048 .bf16) (w : FVec Ideal S16x16384x16384 .f32) (q : Fin 16384) (n : Fin 1024) : mixR va w (ix2 q n)
    = ∑ x : Fin 16384, va (ix2 x (⟨n.val / 64 * 128 + n.val % 64, by omega⟩ : Fin 2048)) * w (ix3 (⟨n.val / 64, by omega⟩ : Fin 16) q x) := by
  pointwise [mixR]

def rowMax (z : Fin 16384 → EReal) : EReal :=
  max (Ideal.ofBits FTy.f32 4286578688#32) (Finset.univ.fold max (Ideal.ofBits FTy.f32 4286578688#32) z)

theorem constant_word : constant (F := Ideal) S_ FTy.f32 4286578688#32 ix0 = Ideal.ofBits FTy.f32 4286578688#32 := by
  pointwise

theorem logitR_apply (t : IVec S512 32) (qa ka : FVec Ideal S16384x2048 .bf16) (h : Fin 16) (q x : Fin 16384) : logitR t qa ka (ix3 h q x)
    = Scalar.select (maskR t (ix3 h q x)) (dotR qa ka (ix3 h q x)) (Ideal.ofBits FTy.f32 4286578688#32) := by
  pointwise [logitR]
  simp only [id]
  rw [constant_word]

theorem expR_apply (z : FVec Ideal S16x16384x16384 .f32) (h : Fin 16) (q x : Fin 16384) :
    expR z (ix3 h q x) = Ideal.exp (z (ix3 h q x) - maxR z (ix2 h q)) := by
  rw [← spread_apply (maxR z) h q x]
  pointwise [expR]

theorem probR_apply (w : FVec Ideal S16x16384x16384 .f32) (h : Fin 16) (q x : Fin 16384) :
    probR w (ix3 h q x) = Ideal.div (w (ix3 h q x)) (sumR w (ix2 h q)) := by
  rw [← spread_apply (sumR w) h q x]
  pointwise [probR]

/-- The reference's result is these steps one after the other. -/
theorem res_steps (m : (ℓ : Loc nD τ sig) → Buf (Elt Ideal) ℓ) (c : Dev nD) :
    res_main_v48 (F := Ideal) m c = mixR (m ((c.tc : Thread nD τ).loc main_arg3))
      (probR (expR (logitR (m ((c.tc : Thread nD τ).loc main_arg0)) (m ((c.tc : Thread nD τ).loc main_arg1)) (m ((c.tc : Thread nD τ).loc main_arg2))))) := rfl

theorem mix_eq (q : Fin 16384) (n : Fin 1024)
    (t : IVec S512 32) (qa ka va : FVec Ideal S16384x2048 .bf16) (a : ℕ) (ha : a ≤ q.val / 512) (s : ℕ → ℝ) (v : ℕ → EReal)
    (ht : t (ix1 (⟨n.val / 64 * 32 + q.val / 512, by omega⟩ : Fin 512)) = BitVec.ofNat 32 a)
    (hs : ∀ x : Fin 16384, ∑ d : Fin 128, qa (ix2 q (⟨n.val / 64 * 128 + d.val, by omega⟩ : Fin 2048))
      * ka (ix2 x (⟨n.val / 64 * 128 + d.val, by omega⟩ : Fin 2048)) = (s x.val : EReal))
    (hv : ∀ x : Fin 16384, va (ix2 x (⟨n.val / 64 * 128 + n.val % 64, by omega⟩ : Fin 2048)) = v x.val) :
    mixR va (probR (expR (logitR t qa ka))) (ix2 q n) = soft (Finset.Ico ((q.val / 512 - a) * 512) (q.val + 1)) s v := by
  have hi : q.val / 512 < 32 := by omega
  have hz : ∀ x : Fin 16384, logitR t qa ka (ix3 (⟨n.val / 64, by omega⟩ : Fin 16) q x)
      = if x.val ∈ Finset.Ico ((q.val / 512 - a) * 512) (q.val + 1) then ((s x.val * Real.log 2 : ℝ) : EReal) else ⊥ := by
    intro x
    rw [logitR_apply, maskR_apply, dotR_apply, hs x, ht, log_two, neg_inf_word]
    unfold Scalar.select
    have h := seen_iff hi ha x q
    by_cases hx : x.val ∈ Finset.Ico ((q.val / 512 - a) * 512) (q.val + 1)
    · rw [if_pos hx, EReal.coe_mul]; exact if_pos (h.2 hx)
    · rw [if_neg hx]; exact if_neg (fun e => hx (h.1 e))
  have hK : (Finset.Ico ((q.val / 512 - a) * 512) (q.val + 1)).Nonempty := ⟨q.val, by rw [Finset.mem_Ico]; omega⟩
  have hN : ∀ k ∈ Finset.Ico ((q.val / 512 - a) * 512) (q.val + 1), k < 16384 := fun k hk => by rw [Finset.mem_Ico] at hk; omega
  rw [mixR_apply]
  simp only [hv, probR_apply, sumR_apply, expR_apply]
  exact masked_soft _ hK hN s v _ hz _ (by rw [maxR_apply, botR_apply, redR_apply, neg_inf_word])

/-- The reference leaves its arguments as they were; it has no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2, sem_eq_zero_of_no_sems (by decide) r.2⟩) (Value.run m ρ)

end Cert.ReferenceIdeal.Att
end
-- ==== Proof.lean ====
module

public import proofs.«01_k».proof.Proof.Gen.Kernel2.Frame
public import proofs.«01_k».proof.Proof.Out2
public import proofs.«01_k».proof.Proof.Ref2
public import proofs.«01_k».proof.Proof.MixFrameK
public import proofs.«01_k».proof.Proof.Out3
public import proofs.«01_k».proof.Proof.Ref3
public import proofs.«01_k».proof.Defs
public import proofs.«01_k».proof.Proof.TblK
public import proofs.«01_k».proof.Proof.OutI
public import proofs.«01_k».proof.Proof.RefI
public import proofs.«01_k».proof.Proof.Gen.Pre_trips_in_range
public import proofs.«01_k».proof.Proof.Gen.Pre_finite_inputs
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Att (RangeOk)

attribute [local instance] Cert.Kernel.Gen.facts Cert.KernelIdeal.Gen.facts Cert.ReferenceIdeal.Gen.facts Cert.Kernel2.Gen.facts Cert.Kernel2Ideal.Gen.facts Cert.Reference2Ideal.Gen.facts
  Cert.Kernel3.Gen.facts Cert.Kernel3Ideal.Gen.facts Cert.Reference3Ideal.Gen.facts
  Cert.Pre_trips_in_range.Gen.facts Cert.Pre_finite_inputs.Gen.facts

theorem frame_k : Cert.quiescent_Kernel := fun m g hP =>
  Cert.Kernel.Att.frame m g trivial (Cert.Kernel.Att.tblOk m trivial (Cert.Att.range_of_pre _ _ _ _ (hP 0)))

theorem frame_i : Cert.quiescent_KernelIdeal := fun m g hP =>
  Cert.KernelIdeal.Att.frame m g trivial (Cert.KernelIdeal.Att.tblOk m trivial (Cert.Att.range_of_pre _ _ _ _ (hP 0)))

theorem frame_i_finite : Cert.quiescent_KernelIdeal_pre_finite_inputs := fun m g hP =>
  Cert.KernelIdeal.Att.frame m g trivial (Cert.KernelIdeal.Att.tblOk m trivial (Cert.Att.range_of_fin (hP 0)))

theorem frame_r : Cert.quiescent_ReferenceIdeal := fun m g _ => Cert.ReferenceIdeal.Att.frame m g

theorem frame_r_finite : Cert.quiescent_ReferenceIdeal_pre_finite_inputs := fun m g _ => Cert.ReferenceIdeal.Att.frame m g

theorem preserves : Cert.preserves_Kernel_KernelIdeal :=
  IdealRules.named_const.statement Cert.KernelIdeal.κ "mask" .f32 0xF149F2CA#32 ⊥ rfl

open Cert.KernelIdeal.Att in
/-- The reference's result is the attention of its arguments. -/
theorem ref_eq (m' : (ℓ : Loc Cert.ReferenceIdeal.nD Cert.ReferenceIdeal.τ Cert.ReferenceIdeal.sig) → Buf (Elt Ideal) ℓ) (c : Dev Cert.ReferenceIdeal.nD)
    (tb : IVec Cert.KernelIdeal.S512 32) (qa ka va : FVec Ideal Cert.KernelIdeal.S16384x2048 .bf16)
    (h0 : m' ((c.tc : Thread Cert.ReferenceIdeal.nD Cert.ReferenceIdeal.τ).loc Cert.ReferenceIdeal.main_arg0) = tb)
    (h1 : m' ((c.tc : Thread Cert.ReferenceIdeal.nD Cert.ReferenceIdeal.τ).loc Cert.ReferenceIdeal.main_arg1) = qa)
    (h2 : m' ((c.tc : Thread Cert.ReferenceIdeal.nD Cert.ReferenceIdeal.τ).loc Cert.ReferenceIdeal.main_arg2) = ka)
    (h3 : m' ((c.tc : Thread Cert.ReferenceIdeal.nD Cert.ReferenceIdeal.τ).loc Cert.ReferenceIdeal.main_arg3) = va)
    (hR : RangeOk tb)
    (hq : ∀ (r : Fin 16384) (d : Fin 2048), ∃ x : ℝ, (qa (ix2 r d) : EReal) = (x : EReal))
    (hk : ∀ (r : Fin 16384) (d : Fin 2048), ∃ x : ℝ, (ka (ix2 r d) : EReal) = (x : EReal)) :
    Cert.ReferenceIdeal.Value.res_main_v48 (F := Ideal) m' c = attn tb qa ka va := by
  refine (Cert.ReferenceIdeal.Att.res_steps m' c).trans ?_
  rw [h0, h1, h2, h3]
  refine funext fun (y : Cert.KernelIdeal.S16384x1024.Idx) => ?_
  have hy : ∃ (q : Fin 16384) (n : Fin 1024), y = ix2 q n := ⟨y 0, y 1, by funext a; fin_cases a <;> rfl⟩
  obtain ⟨q, n, rfl⟩ := hy
  rw [attn_apply]
  obtain ⟨ha, et⟩ := trips_word tb hR ⟨n.val / 64, by omega⟩ ⟨q.val / 512, by omega⟩
  exact Cert.ReferenceIdeal.Att.mix_eq q n tb qa ka va _ ha _ _ et
    (fun x => score_coe qa ka hq hk ⟨n.val / 64, by omega⟩ q x)
    (fun x => by unfold valAt; rw [dif_pos ⟨x.isLt, by omega⟩])

open Cert.KernelIdeal.Att in
theorem algebraic : Cert.algebraic_KernelIdeal_ReferenceIdeal_pre_finite_inputs := by
  intro m g m' g' hP hagree
  have hR : RangeOk (tbl m 0) := Cert.Att.range_of_fin (hP 0)
  have hT := tblOk m trivial hR
  have hRc : ∀ c : Dev Cert.KernelIdeal.nD, RangeOk (m ((c.tc : Thread Cert.KernelIdeal.nD Cert.KernelIdeal.τ).loc Cert.KernelIdeal.main_arg0)) :=
    fun c => Cert.Att.range_of_fin (hP c)
  refine ⟨fun c => attn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact run m trivial hT g _ fun c => final m trivial hT c _ _ _ _ (V_pre m c 0).symm rfl rfl rfl (hRc c)
      (Cert.Att.q_real (hP c)) (Cert.Att.k_real (hP c)) (Cert.Att.v_one (hP c))
  · refine (θ_run Cert.ReferenceIdeal.defs _ _).mono (fun r h c => ⟨(h c).1.trans ?_, (h c).2⟩) (Cert.ReferenceIdeal.Value.run m' g')
    obtain ⟨e0, e1, e2, e3⟩ := hagree c
    exact ref_eq m' c _ _ _ _ e0 e1 e2 e3 (hRc c) (Cert.Att.q_real (hP c)) (Cert.Att.k_real (hP c))

/-! ## The output projection -/

theorem frame_k2 : Cert.quiescent_Kernel2 := fun m g _ => Cert.Kernel2.Gen.frame m g

theorem frame_i2 : Cert.quiescent_Kernel2Ideal := fun m g _ => Cert.Kernel2Ideal.Gen.frame m g

theorem frame_r2 : Cert.quiescent_Reference2Ideal := fun m g _ => Cert.Reference2Ideal.Out.frame m g

open Cert.Kernel2Ideal.Out in
/-- The reference's result is the layer of its arguments. -/
theorem ref2_eq (m' : (ℓ : Loc Cert.Reference2Ideal.nD Cert.Reference2Ideal.τ Cert.Reference2Ideal.sig) → Buf (Elt Ideal) ℓ) (c : Dev Cert.Reference2Ideal.nD)
    (x o : FVec Ideal Cert.Kernel2Ideal.S16384x1024 .f32) (w : FVec Ideal Cert.Kernel2Ideal.S1024x1024 .f32) (g : FVec Ideal Cert.Kernel2Ideal.S1024 .f32)
    (w1 : FVec Ideal Cert.Kernel2Ideal.S1024x4096 .f32) (w2 : FVec Ideal Cert.Kernel2Ideal.S4096x1024 .f32) (gf : FVec Ideal Cert.Kernel2Ideal.S1024 .f32)
    (h0 : m' ((c.tc : Thread Cert.Reference2Ideal.nD Cert.Reference2Ideal.τ).loc Cert.Reference2Ideal.main_arg0) = x)
    (h1 : m' ((c.tc : Thread Cert.Reference2Ideal.nD Cert.Reference2Ideal.τ).loc Cert.Reference2Ideal.main_arg1) = o)
    (h2 : m' ((c.tc : Thread Cert.Reference2Ideal.nD Cert.Reference2Ideal.τ).loc Cert.Reference2Ideal.main_arg2) = w)
    (h3 : m' ((c.tc : Thread Cert.Reference2Ideal.nD Cert.Reference2Ideal.τ).loc Cert.Reference2Ideal.main_arg3) = g)
    (h4 : m' ((c.tc : Thread Cert.Reference2Ideal.nD Cert.Reference2Ideal.τ).loc Cert.Reference2Ideal.main_arg4) = w1)
    (h5 : m' ((c.tc : Thread Cert.Reference2Ideal.nD Cert.Reference2Ideal.τ).loc Cert.Reference2Ideal.main_arg5) = w2)
    (h6 : m' ((c.tc : Thread Cert.Reference2Ideal.nD Cert.Reference2Ideal.τ).loc Cert.Reference2Ideal.main_arg6) = gf) :
    Cert.Reference2Ideal.Value.res_main_v32 (F := Ideal) m' c = layer x o w g w1 w2 gf := by
  refine (Cert.Reference2Ideal.Out.res_steps m' c).trans ?_
  rw [h0, h1, h2, h3, h4, h5, h6]
  refine funext fun (y : Cert.Kernel2Ideal.S16384x1024.Idx) => ?_
  have hy : ∃ (r : Fin 16384) (j : Fin 1024), y = ix2 r j := ⟨y 0, y 1, by funext a; fin_cases a <;> rfl⟩
  obtain ⟨r, j, rfl⟩ := hy
  exact Cert.Reference2Ideal.Out.out_apply x o w g w1 w2 gf r j

open Cert.Kernel2Ideal.Out in
theorem algebraic2 : Cert.algebraic_Kernel2Ideal_Reference2Ideal := by
  intro m g m' g' _ hagree
  refine ⟨fun c => layer (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)), ?_, ?_⟩
  · exact (θ_run Cert.Kernel2Ideal.defs _ _).mono (fun r h c => ⟨(h c).1.trans (final m _ _ _ _ _ _ _ c rfl rfl rfl rfl rfl rfl rfl), (h c).2⟩)
      (Cert.Kernel2Ideal.Value.run_blocks m g)
  · refine (θ_run Cert.Reference2Ideal.defs _ _).mono (fun r h c => ⟨(h c).1.trans ?_, (h c).2⟩) (Cert.Reference2Ideal.Value.run m' g')
    obtain ⟨e0, e1, e2, e3, e4, e5, e6⟩ := hagree c
    exact ref2_eq m' c _ _ _ _ _ _ _ e0 e1 e2 e3 e4 e5 e6

/-! ## The convolution mixer -/

theorem frame_k3 : Cert.quiescent_Kernel3 := fun m g _ => Cert.Kernel3.Mix.frame m g

theorem frame_i3 : Cert.quiescent_Kernel3Ideal := fun m g _ => Cert.Kernel3Ideal.Mix.frame m g

theorem frame_r3 : Cert.quiescent_Reference3Ideal := fun m g _ => Cert.Reference3Ideal.Mix.frame m g

open Cert.Kernel3Ideal.Mix in
/-- The reference's first result is the layer of its arguments. -/
theorem ref3_eq (m' : (ℓ : Loc Cert.Reference3Ideal.nD Cert.Reference3Ideal.τ Cert.Reference3Ideal.sig) → Buf (Elt Ideal) ℓ) (c : Dev Cert.Reference3Ideal.nD)
    (x : FVec Ideal Cert.Kernel3Ideal.S16384x1024 .f32) (past : FVec Ideal Cert.Kernel3Ideal.S1x2x1024 .f32) (g : FVec Ideal Cert.Kernel3Ideal.S1024 .f32) (wi : FVec Ideal Cert.Kernel3Ideal.S1024x3072 .f32) (cw : FVec Ideal Cert.Kernel3Ideal.S3x1024 .f32) (wo : FVec Ideal Cert.Kernel3Ideal.S1024x1024 .f32) (gm : FVec Ideal Cert.Kernel3Ideal.S1024 .f32) (w1 : FVec Ideal Cert.Kernel3Ideal.S1024x4096 .f32) (w2 : FVec Ideal Cert.Kernel3Ideal.S4096x1024 .f32)
    (h0 : m' ((c.tc : Thread Cert.Reference3Ideal.nD Cert.Reference3Ideal.τ).loc Cert.Reference3Ideal.main_arg0) = x)
    (h1 : m' ((c.tc : Thread Cert.Reference3Ideal.nD Cert.Reference3Ideal.τ).loc Cert.Reference3Ideal.main_arg1) = past)
    (h2 : m' ((c.tc : Thread Cert.Reference3Ideal.nD Cert.Reference3Ideal.τ).loc Cert.Reference3Ideal.main_arg2) = g)
    (h3 : m' ((c.tc : Thread Cert.Reference3Ideal.nD Cert.Reference3Ideal.τ).loc Cert.Reference3Ideal.main_arg3) = wi)
    (h4 : m' ((c.tc : Thread Cert.Reference3Ideal.nD Cert.Reference3Ideal.τ).loc Cert.Reference3Ideal.main_arg4) = cw)
    (h5 : m' ((c.tc : Thread Cert.Reference3Ideal.nD Cert.Reference3Ideal.τ).loc Cert.Reference3Ideal.main_arg5) = wo)
    (h6 : m' ((c.tc : Thread Cert.Reference3Ideal.nD Cert.Reference3Ideal.τ).loc Cert.Reference3Ideal.main_arg6) = gm)
    (h7 : m' ((c.tc : Thread Cert.Reference3Ideal.nD Cert.Reference3Ideal.τ).loc Cert.Reference3Ideal.main_arg7) = w1)
    (h8 : m' ((c.tc : Thread Cert.Reference3Ideal.nD Cert.Reference3Ideal.τ).loc Cert.Reference3Ideal.main_arg8) = w2) :
    Cert.Reference3Ideal.Value.res_main_v62 (F := Ideal) m' c = layerA x past g wi cw wo gm w1 w2 := by
  refine (Cert.Reference3Ideal.Mix.res_steps m' c).trans ?_
  rw [h0, h1, h2, h3, h4, h5, h6, h7, h8]
  refine funext fun (y : Cert.Kernel3Ideal.S16384x1024.Idx) => ?_
  have hy : ∃ (r : Fin 16384) (j : Fin 1024), y = ix2 r j := ⟨y 0, y 1, by funext a; fin_cases a <;> rfl⟩
  obtain ⟨r, j, rfl⟩ := hy
  exact Cert.Reference3Ideal.Mix.layer_row x past g wi cw wo gm w1 w2 r j

open Cert.Kernel3Ideal.Mix in
/-- The reference's second result is the rows left. -/
theorem left3_eq (x : FVec Ideal Cert.Kernel3Ideal.S16384x1024 .f32) (past : FVec Ideal Cert.Kernel3Ideal.S1x2x1024 .f32) (g : FVec Ideal Cert.Kernel3Ideal.S1024 .f32) (wi : FVec Ideal Cert.Kernel3Ideal.S1024x3072 .f32) :
    Cert.Reference3Ideal.Mix.leftR (Cert.Reference3Ideal.Mix.padR past (Cert.Reference3Ideal.Mix.uR (Cert.Reference3Ideal.Mix.inR (Cert.Reference3Ideal.Mix.rmsR x g) wi))) = leftA x past g wi := by
  refine funext fun (y : Cert.Kernel3Ideal.S1x2x1024.Idx) => ?_
  have hy : ∃ (q : Fin 2) (l : Fin 1024), y = ix3 (0 : Fin 1) q l := ⟨y 1, y 2, by
    funext a
    fin_cases a
    · exact Fin.ext (by have : (y 0 : ℕ) < 1 := (y 0).isLt; show (y 0 : ℕ) = 0; omega)
    · rfl
    · rfl⟩
  obtain ⟨q, l, rfl⟩ := hy
  exact Cert.Reference3Ideal.Mix.left_row x past g wi q l

open Cert.Kernel3Ideal.Mix in
theorem algebraic3 : Cert.algebraic_Kernel3Ideal_Reference3Ideal := by
  intro m g m' g' _ hagree
  refine ⟨fun c => layerA (aX m c) (aP m c) (aG m c) (aI m c) (aC m c) (aO m c) (aM m c) (aU m c) (aD m c), fun c => leftA (aX m c) (aP m c) (aG m c) (aI m c), ?_, ?_⟩
  · exact (θ_run Cert.Kernel3Ideal.defs _ _).mono (fun r h c => ⟨((h.1 c).1 10).trans (final10 m c), ((h.1 c).1 11).trans (final11 m c), h.2 c⟩)
      (θ_run_and (run_main m g) (unchanged m g))
  · refine (θ_run Cert.Reference3Ideal.defs _ _).mono (fun r h c => ⟨(h c).1.trans ?_, (h c).2.1.trans ?_, (h c).2.2⟩) (Cert.Reference3Ideal.Mix.run_steps m' g')
    · obtain ⟨e0, e1, e2, e3, e4, e5, e6, e7, e8⟩ := hagree c
      exact ref3_eq m' c _ _ _ _ _ _ _ _ _ e0 e1 e2 e3 e4 e5 e6 e7 e8
    · obtain ⟨e0, e1, e2, e3, e4, e5, e6, e7, e8⟩ := hagree c
      rw [e0, e1, e2, e3]
      exact left3_eq _ _ _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_trips_in_range.Gen.facts, Cert.Pre_finite_inputs.Gen.facts,
    frame_k, frame_i, frame_i_finite, frame_r, frame_r_finite, frame_k2, frame_i2, frame_r2, frame_k3, frame_i3, frame_r3,
    preserves, algebraic, trivial, algebraic2, trivial, algebraic3⟩

end Cert.Proof

end
